-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_untied [hPre_scores_finite_untied : Cert.Pre_scores_finite_untied.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_untied [hPre_scores_finite_untied : Cert.Pre_scores_finite_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scores_finite_untied [hKernelIdeal : Cert.KernelIdeal.Facts] [hPre_scores_finite_untied : Cert.Pre_scores_finite_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scores_finite_untied [hReferenceIdeal : Cert.ReferenceIdeal.Facts] [hPre_scores_finite_untied : Cert.Pre_scores_finite_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "two_pi_over_64" .f32 0x3DC90FDB#32 ((Real.pi * 32⁻¹ : ℝ) : EReal)
  ∧ IdealRules.named_const.Statement Cert.KernelIdeal.κ "two_pi_over_n" .f32 0x3AC90FDB#32 ((Real.pi * 2048⁻¹ : ℝ) : EReal)
  ∧ IdealRules.named_const.Statement Cert.KernelIdeal.κ "inv_sqrt_d" .f32 0x3D13CD3A#32 (((Real.sqrt 768)⁻¹ : ℝ) : EReal)

def algebraic_KernelIdeal_ReferenceIdeal_pre_scores_finite_untied [hKernelIdeal : Cert.KernelIdeal.Facts] [hReferenceIdeal : Cert.ReferenceIdeal.Facts] [hPre_scores_finite_untied : Cert.Pre_scores_finite_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scores_finite_untied : Cert.Pre_scores_finite_untied.Facts),
    quiescent_Kernel (hKernel := hKernel)
    ∧ quiescent_KernelIdeal (hKernelIdeal := hKernelIdeal)
    ∧ quiescent_KernelIdeal_pre_scores_finite_untied (hKernelIdeal := hKernelIdeal) (hPre_scores_finite_untied := hPre_scores_finite_untied)
    ∧ quiescent_ReferenceIdeal (hReferenceIdeal := hReferenceIdeal)
    ∧ quiescent_ReferenceIdeal_pre_scores_finite_untied (hReferenceIdeal := hReferenceIdeal) (hPre_scores_finite_untied := hPre_scores_finite_untied)
    ∧ preserves_Kernel_KernelIdeal
    ∧ algebraic_KernelIdeal_ReferenceIdeal_pre_scores_finite_untied (hKernelIdeal := hKernelIdeal) (hReferenceIdeal := hReferenceIdeal) (hPre_scores_finite_untied := hPre_scores_finite_untied)
-- ==== Pre_scores_finite_untied.lean ====
abbrev S1024x1x4096 : Shape := ⟨3, ![1024, 1, 4096]⟩
abbrev S1024 : Shape := ⟨1, ![1024]⟩
abbrev S256x4096 : Shape := ⟨2, ![256, 4096]⟩
abbrev S4096 : Shape := ⟨1, ![4096]⟩
abbrev S768x256 : Shape := ⟨2, ![768, 256]⟩
abbrev S768x2049 : Shape := ⟨2, ![768, 2049]⟩
abbrev S768x4096 : Shape := ⟨2, ![768, 4096]⟩
abbrev S64x3x768 : Shape := ⟨3, ![64, 3, 768]⟩
abbrev S64x1x4096 : Shape := ⟨3, ![64, 1, 4096]⟩
abbrev S1024x3x64 : Shape := ⟨3, ![1024, 3, 64]⟩
abbrev S_ : Shape := ⟨0, ![]⟩
abbrev S1024x4096 : Shape := ⟨2, ![1024, 4096]⟩
abbrev S1x4096 : Shape := ⟨2, ![1, 4096]⟩
abbrev S4096x256 : Shape := ⟨2, ![4096, 256]⟩
abbrev S1024x256 : Shape := ⟨2, ![1024, 256]⟩
abbrev S4096x2049 : Shape := ⟨2, ![4096, 2049]⟩
abbrev S1024x2049 : Shape := ⟨2, ![1024, 2049]⟩
abbrev S1024x2048 : Shape := ⟨2, ![1024, 2048]⟩
abbrev S1024x1024 : Shape := ⟨2, ![1024, 1024]⟩
abbrev S1024x512 : Shape := ⟨2, ![1024, 512]⟩
abbrev S1024x128 : Shape := ⟨2, ![1024, 128]⟩
abbrev S256x768 : Shape := ⟨2, ![256, 768]⟩
abbrev S1024x768 : Shape := ⟨2, ![1024, 768]⟩
abbrev S2049x768 : Shape := ⟨2, ![2049, 768]⟩
abbrev S4096x768 : Shape := ⟨2, ![4096, 768]⟩
abbrev S1024x1x768 : Shape := ⟨3, ![1024, 1, 768]⟩
abbrev S1024x3x768 : Shape := ⟨3, ![1024, 3, 768]⟩
abbrev S3x64x1024 : Shape := ⟨3, ![3, 64, 1024]⟩
abbrev S1024x3 : Shape := ⟨2, ![1024, 3]⟩
abbrev S1024x3x1 : Shape := ⟨3, ![1024, 3, 1]⟩
abbrev S64x64 : Shape := ⟨2, ![64, 64]⟩
abbrev S1024x3x64x1 : Shape := ⟨4, ![1024, 3, 64, 1]⟩
abbrev S1024x3x1x64 : Shape := ⟨4, ![1024, 3, 1, 64]⟩
abbrev S1024x3x64x64 : Shape := ⟨4, ![1024, 3, 64, 64]⟩
abbrev S1x1x64x64 : Shape := ⟨4, ![1, 1, 64, 64]⟩

class Facts : Prop where
  bcast_S_S1024x1x4096 : S_.BroadcastsInDim S1024x1x4096 (![] : Fin 0 → Fin S1024x1x4096.rank)
  reducesTo_S1024x1x4096_S_d0_1_2 : S1024x1x4096.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_
  bcast_S_S768x256 : S_.BroadcastsInDim S768x256 (![] : Fin 0 → Fin S768x256.rank)
  reducesTo_S768x256_S_d0_1 : S768x256.ReducesTo [0, 1] S_
  bcast_S_S768x2049 : S_.BroadcastsInDim S768x2049 (![] : Fin 0 → Fin S768x2049.rank)
  reducesTo_S768x2049_S_d0_1 : S768x2049.ReducesTo [0, 1] S_
  bcast_S_S768x4096 : S_.BroadcastsInDim S768x4096 (![] : Fin 0 → Fin S768x4096.rank)
  reducesTo_S768x4096_S_d0_1 : S768x4096.ReducesTo [0, 1] S_
  bcast_S_S64x3x768 : S_.BroadcastsInDim S64x3x768 (![] : Fin 0 → Fin S64x3x768.rank)
  reducesTo_S64x3x768_S_d0_1_2 : S64x3x768.ReducesTo [0, 1, 2] S_
  bcast_S_S1024x3x64 : S_.BroadcastsInDim S1024x3x64 (![] : Fin 0 → Fin S1024x3x64.rank)
  reducesTo_S1024x3x64_S_d0_1_2 : S1024x3x64.ReducesTo [0, 1, 2] S_
  shapeCasts_S1024x1x4096_S1024x4096 : S1024x1x4096.ShapeCasts S1024x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  transposes_S256x4096_S4096x256_1_0 : S256x4096.Transposes [1, 0] S4096x256
  bcast_S_S4096x2049 : S_.BroadcastsInDim S4096x2049 (![] : Fin 0 → Fin S4096x2049.rank)
  slicesBy_S1024x4096_S1024x2048_0s1_0s2 : S1024x4096.SlicesBy (![0, 0] : Fin 2 → Nat) ![1, 2] S1024x2048
  slicesBy_S1024x4096_S1024x2048_0s1_1s2 : S1024x4096.SlicesBy (![0, 1] : Fin 2 → Nat) ![1, 2] S1024x2048
  bcast_S_S1024x2048 : S_.BroadcastsInDim S1024x2048 (![] : Fin 0 → Fin S1024x2048.rank)
  slicesBy_S1024x2048_S1024x1024_0s1_0s2 : S1024x2048.SlicesBy (![0, 0] : Fin 2 → Nat) ![1, 2] S1024x1024
  slicesBy_S1024x2048_S1024x1024_0s1_1s2 : S1024x2048.SlicesBy (![0, 1] : Fin 2 → Nat) ![1, 2] S1024x1024
  bcast_S_S1024x1024 : S_.BroadcastsInDim S1024x1024 (![] : Fin 0 → Fin S1024x1024.rank)
  slicesBy_S1024x1024_S1024x512_0s1_0s2 : S1024x1024.SlicesBy (![0, 0] : Fin 2 → Nat) ![1, 2] S1024x512
  slicesBy_S1024x1024_S1024x512_0s1_1s2 : S1024x1024.SlicesBy (![0, 1] : Fin 2 → Nat) ![1, 2] S1024x512
  bcast_S_S1024x512 : S_.BroadcastsInDim S1024x512 (![] : Fin 0 → Fin S1024x512.rank)
  slicesBy_S1024x512_S1024x256_0s1_0s2 : S1024x512.SlicesBy (![0, 0] : Fin 2 → Nat) ![1, 2] S1024x256
  slicesBy_S1024x512_S1024x256_0s1_1s2 : S1024x512.SlicesBy (![0, 1] : Fin 2 → Nat) ![1, 2] S1024x256
  bcast_S_S1024x256 : S_.BroadcastsInDim S1024x256 (![] : Fin 0 → Fin S1024x256.rank)
  slicesBy_S1024x256_S1024x128_0s1_0s2 : S1024x256.SlicesBy (![0, 0] : Fin 2 → Nat) ![1, 2] S1024x128
  slicesBy_S1024x256_S1024x128_0s1_1s2 : S1024x256.SlicesBy (![0, 1] : Fin 2 → Nat) ![1, 2] S1024x128
  bcast_S_S1024x128 : S_.BroadcastsInDim S1024x128 (![] : Fin 0 → Fin S1024x128.rank)
  concatenates_S1024x128_S1024x128_S1024x256_S1024x512_S1024x1024_S1024x2048_S1024x4096_d1 : Shape.Concatenates [S1024x128, S1024x128, S1024x256, S1024x512, S1024x1024, S1024x2048] S1024x4096 1
  transposes_S768x256_S256x768_1_0 : S768x256.Transposes [1, 0] S256x768
  transposes_S768x2049_S2049x768_1_0 : S768x2049.Transposes [1, 0] S2049x768
  transposes_S768x4096_S4096x768_1_0 : S768x4096.Transposes [1, 0] S4096x768
  bcast_S1024x768_S1024x1x768_0_2 : S1024x768.BroadcastsInDim S1024x1x768 (![0, 2] : Fin 2 → Fin S1024x1x768.rank)
  concatenates_S1024x1x768_S1024x1x768_S1024x1x768_S1024x3x768_d1 : Shape.Concatenates [S1024x1x768, S1024x1x768, S1024x1x768] S1024x3x768 1
  transposes_S3x64x1024_S1024x3x64_2_0_1 : S3x64x1024.Transposes [2, 0, 1] S1024x3x64
  reducesTo_S1024x3x64_S1024x3_d2 : S1024x3x64.ReducesTo [2] S1024x3
  bcast_S1024x3_S1024x3x1_0_1 : S1024x3.BroadcastsInDim S1024x3x1 (![0, 1] : Fin 2 → Fin S1024x3x1.rank)
  bcast_S1024x3x1_S1024x3x64_0_1_2 : S1024x3x1.BroadcastsInDim S1024x3x64 (![0, 1, 2] : Fin 3 → Fin S1024x3x64.rank)
  bcast_S1024x3x64_S1024x3x64x1_0_1_2 : S1024x3x64.BroadcastsInDim S1024x3x64x1 (![0, 1, 2] : Fin 3 → Fin S1024x3x64x1.rank)
  bcast_S1024x3x64_S1024x3x1x64_0_1_3 : S1024x3x64.BroadcastsInDim S1024x3x1x64 (![0, 1, 3] : Fin 3 → Fin S1024x3x1x64.rank)
  bcast_S1024x3x64x1_S1024x3x64x64_0_1_2_3 : S1024x3x64x1.BroadcastsInDim S1024x3x64x64 (![0, 1, 2, 3] : Fin 4 → Fin S1024x3x64x64.rank)
  bcast_S1024x3x1x64_S1024x3x64x64_0_1_2_3 : S1024x3x1x64.BroadcastsInDim S1024x3x64x64 (![0, 1, 2, 3] : Fin 4 → Fin S1024x3x64x64.rank)
  bcast_S64x64_S1x1x64x64_2_3 : S64x64.BroadcastsInDim S1x1x64x64 (![2, 3] : Fin 2 → Fin S1x1x64x64.rank)
  bcast_S1x1x64x64_S1024x3x64x64_0_1_2_3 : S1x1x64x64.BroadcastsInDim S1024x3x64x64 (![0, 1, 2, 3] : Fin 4 → Fin S1024x3x64x64.rank)
  reducesTo_S1024x3x64x64_S_d0_1_2_3 : S1024x3x64x64.ReducesTo [0, 1, 2, 3] S_
  dot_S1024x4096_S4096x256_S1024x256_1_0_0_1_n_n_wf : DotDims.WF S1024x4096 S4096x256 S1024x256 [1] [0] [0] [1] [] []
  dot_S1024x4096_S4096x2049_S1024x2049_1_0_0_1_n_n_wf : DotDims.WF S1024x4096 S4096x2049 S1024x2049 [1] [0] [0] [1] [] []
  dot_S1024x256_S256x768_S1024x768_1_0_0_1_n_n_wf : DotDims.WF S1024x256 S256x768 S1024x768 [1] [0] [0] [1] [] []
  dot_S1024x2049_S2049x768_S1024x768_1_0_0_1_n_n_wf : DotDims.WF S1024x2049 S2049x768 S1024x768 [1] [0] [0] [1] [] []
  dot_S1024x4096_S4096x768_S1024x768_1_0_0_1_n_n_wf : DotDims.WF S1024x4096 S4096x768 S1024x768 [1] [0] [0] [1] [] []
  dot_S64x3x768_S1024x3x768_S3x64x1024_2_2_0_0_1_1_wf : DotDims.WF S64x3x768 S1024x3x768 S3x64x1024 [2] [2] [0] [0] [1] [1]

variable [Facts]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x4096_S4096x2049_S1024x2049_1_0_0_1_n_n : DotDims S1024x4096 S4096x2049 S1024x2049 where
  lhsContracting := [1]
  rhsContracting := [0]
  lhsNonContracting := [0]
  rhsNonContracting := [1]
  lhsBatch := []
  rhsBatch := []
  wf := dot_S1024x4096_S4096x2049_S1024x2049_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x2049_S2049x768_S1024x768_1_0_0_1_n_n : DotDims S1024x2049 S2049x768 S1024x768 where
  lhsContracting := [1]
  rhsContracting := [0]
  lhsNonContracting := [0]
  rhsNonContracting := [1]
  lhsBatch := []
  rhsBatch := []
  wf := dot_S1024x2049_S2049x768_S1024x768_1_0_0_1_n_n_wf
def dot_S1024x4096_S4096x768_S1024x768_1_0_0_1_n_n : DotDims S1024x4096 S4096x768 S1024x768 where
  lhsContracting := [1]
  rhsContracting := [0]
  lhsNonContracting := [0]
  rhsNonContracting := [1]
  lhsBatch := []
  rhsBatch := []
  wf := dot_S1024x4096_S4096x768_S1024x768_1_0_0_1_n_n_wf
def dot_S64x3x768_S1024x3x768_S3x64x1024_2_2_0_0_1_1 : DotDims S64x3x768 S1024x3x768 S3x64x1024 where
  lhsContracting := [2]
  rhsContracting := [2]
  lhsNonContracting := [0]
  rhsNonContracting := [0]
  lhsBatch := [1]
  rhsBatch := [1]
  wf := dot_S64x3x768_S1024x3x768_S3x64x1024_2_2_0_0_1_1_wf
def fn_part6 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v109 : IVec S1024x3x64 1) (main_v110 : IVec S64x64 32) (main_v111 : IVec S64x64 32) (main_v112 : IVec S1024x3x64x1 1) : IVec S_ 1 :=
  let main_v113 : IVec S1024x3x1x64 1 := broadcastInDim S1024x3x1x64 ![0, 1, 3] bcast_S1024x3x64_S1024x3x1x64_0_1_3 main_v109
  let main_v114 : IVec S1024x3x64x64 1 := broadcastInDim S1024x3x64x64 ![0, 1, 2, 3] bcast_S1024x3x64x1_S1024x3x64x64_0_1_2_3 main_v112
  let main_v115 : IVec S1024x3x64x64 1 := broadcastInDim S1024x3x64x64 ![0, 1, 2, 3] bcast_S1024x3x1x64_S1024x3x64x64_0_1_2_3 main_v113
  let main_v116 : IVec S1024x3x64x64 1 := ori main_v114 main_v115
  let main_v117 : IVec S64x64 1 := cmpi .eq main_v110 main_v111
  let main_v118 : IVec S1x1x64x64 1 := broadcastInDim S1x1x64x64 ![2, 3] bcast_S64x64_S1x1x64x64_2_3 main_v117
  let main_v119 : IVec S1024x3x64x64 1 := broadcastInDim S1024x3x64x64 ![0, 1, 2, 3] bcast_S1x1x64x64_S1024x3x64x64_0_1_2_3 main_v118
  let main_v120 : IVec S1024x3x64x64 1 := ori main_v116 main_v119
  let main_v121 : IVec S_ 1 := andi main_v3 main_v7
  let main_v122 : IVec S_ 1 := andi main_v121 main_v11
  let main_v123 : IVec S_ 1 := andi main_v122 main_v15
  let main_v124 : IVec S_ 1 := andi main_v123 main_v19
  let main_v125 : IVec S_ 1 := andi main_v124 main_v23
  let main_v126 : IVec S_ 1 := andi main_v125 main_v27
  let main_v127 : IVec S_ 1 := andi main_v126 main_v31
  let main_c_29 : IVec S_ 1 := constantI S_ 1 1#1
  let main_v128 : IVec S_ 1 := (fun x v => Host.reduce IntOp.andi x v reducesTo_S1024x3x64x64_S_d0_1_2_3 h_S_) main_v120 main_c_29
  let main_v129 : IVec S_ 1 := andi main_v127 main_v128
  main_v129

def fn_part5 {F : FTy → Type} [FloatOps F] (main_arg5 : FVec F S768x2049 .f32) (main_arg6 : FVec F S768x4096 .f32) (main_arg7 : FVec F S64x3x768 .f32) (main_arg9 : FVec F S1024x3x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v37 : FVec F S1024x256 .f32) (main_v48 : FVec F S1024x2049 .f32) (main_v89 : FVec F S1024x4096 .f32) (main_v90 : FVec F S256x768 .f32) : IVec S_ 1 :=
  let main_v91 : FVec F S1024x768 .f32 := (fun l r => Host.dotGeneral dot_S1024x256_S256x768_S1024x768_1_0_0_1_n_n none l r) main_v37 main_v90
  let main_v92 : FVec F S2049x768 .f32 := (transpose S2049x768 [1, 0] · transposes_S768x2049_S2049x768_1_0) main_arg5
  let main_v93 : FVec F S1024x768 .f32 := (fun l r => Host.dotGeneral dot_S1024x2049_S2049x768_S1024x768_1_0_0_1_n_n none l r) main_v48 main_v92
  let main_v94 : FVec F S4096x768 .f32 := (transpose S4096x768 [1, 0] · transposes_S768x4096_S4096x768_1_0) main_arg6
  let main_v95 : FVec F S1024x768 .f32 := (fun l r => Host.dotGeneral dot_S1024x4096_S4096x768_S1024x768_1_0_0_1_n_n none l r) main_v89 main_v94
  let main_v96 : FVec F S1024x1x768 .f32 := broadcastInDim S1024x1x768 ![0, 2] bcast_S1024x768_S1024x1x768_0_2 main_v91
  let main_v97 : FVec F S1024x1x768 .f32 := broadcastInDim S1024x1x768 ![0, 2] bcast_S1024x768_S1024x1x768_0_2 main_v93
  let main_v98 : FVec F S1024x1x768 .f32 := broadcastInDim S1024x1x768 ![0, 2] bcast_S1024x768_S1024x1x768_0_2 main_v95
  let main_v99 : FVec F S1024x3x768 .f32 := concatenate S1024x3x768 1 [⟨S1024x1x768, main_v96⟩, ⟨S1024x1x768, main_v97⟩, ⟨S1024x1x768, main_v98⟩] concatenates_S1024x1x768_S1024x1x768_S1024x1x768_S1024x3x768_d1
  let main_v100 : FVec F S3x64x1024 .f32 := (fun l r => Host.dotGeneral dot_S64x3x768_S1024x3x768_S3x64x1024_2_2_0_0_1_1 none l r) main_arg7 main_v99
  let main_v101 : FVec F S1024x3x64 .f32 := (transpose S1024x3x64 [2, 0, 1] · transposes_S3x64x1024_S1024x3x64_2_0_1) main_v100
  let main_cst_27 : FVec F S_ .f32 := constant S_ .f32 0x44400000#32
  let main_v102 : FVec F S_ .f32 := Host.sqrt main_cst_27
  let main_v103 : FVec F S1024x3x64 .f32 := broadcastInDim S1024x3x64 ![] bcast_S_S1024x3x64 main_v102
  let main_v104 : FVec F S1024x3x64 .f32 := Host.divf main_v101 main_v103
  let main_v105 : FVec F S1024x3x64 .f32 := addf main_v104 main_arg9
  let main_cst_28 : FVec F S_ .f32 := constant S_ .f32 0xFF800000#32
  let main_v106 : FVec F S1024x3 .f32 := (fun x v => Host.reduce FloatOps.maximumf x v reducesTo_S1024x3x64_S1024x3_d2 h_S_) main_v105 main_cst_28
  let main_v107 : FVec F S1024x3x1 .f32 := broadcastInDim S1024x3x1 ![0, 1] bcast_S1024x3_S1024x3x1_0_1 main_v106
  let main_v108 : FVec F S1024x3x64 .f32 := broadcastInDim S1024x3x64 ![0, 1, 2] bcast_S1024x3x1_S1024x3x64_0_1_2 main_v107
  let main_v109 : IVec S1024x3x64 1 := cmpf .olt main_v105 main_v108
  let main_v110 : IVec S64x64 32 := iotaInDim S64x64 32 0
  let main_v111 : IVec S64x64 32 := iotaInDim S64x64 32 1
  let main_v112 : IVec S1024x3x64x1 1 := broadcastInDim S1024x3x64x1 ![0, 1, 2] bcast_S1024x3x64_S1024x3x64x1_0_1_2 main_v109
  fn_part6 (F := F) main_v3 main_v7 main_v11 main_v15 main_v19 main_v23 main_v27 main_v31 main_v109 main_v110 main_v111 main_v112

def fn_part4 {F : FTy → Type} [FloatOps F] (main_arg4 : FVec F S768x256 .f32) (main_arg5 : FVec F S768x2049 .f32) (main_arg6 : FVec F S768x4096 .f32) (main_arg7 : FVec F S64x3x768 .f32) (main_arg9 : FVec F S1024x3x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v37 : FVec F S1024x256 .f32) (main_v48 : FVec F S1024x2049 .f32) (main_v53 : FVec F S1024x2048 .f32) (main_v61 : FVec F S1024x1024 .f32) (main_v69 : FVec F S1024x512 .f32) (main_v70 : FVec F S1024x512 .f32) (main_cst_22 : FVec F S_ .f32) : IVec S_ 1 :=
  let main_v71 : FVec F S1024x512 .f32 := broadcastInDim S1024x512 ![] bcast_S_S1024x512 main_cst_22
  let main_v72 : FVec F S1024x512 .f32 := mulf main_v70 main_v71
  let main_v73 : FVec F S1024x256 .f32 := (Host.slice S1024x256 ![0, 0] ![1, 2] · slicesBy_S1024x512_S1024x256_0s1_0s2) main_v72
  let main_v74 : FVec F S1024x256 .f32 := (Host.slice S1024x256 ![0, 1] ![1, 2] · slicesBy_S1024x512_S1024x256_0s1_1s2) main_v72
  let main_v75 : FVec F S1024x256 .f32 := subf main_v74 main_v73
  let main_cst_23 : FVec F S_ .f32 := constant S_ .f32 0x3F3504F3#32
  let main_v76 : FVec F S1024x256 .f32 := broadcastInDim S1024x256 ![] bcast_S_S1024x256 main_cst_23
  let main_v77 : FVec F S1024x256 .f32 := mulf main_v75 main_v76
  let main_v78 : FVec F S1024x256 .f32 := addf main_v73 main_v74
  let main_cst_24 : FVec F S_ .f32 := constant S_ .f32 0x3F3504F3#32
  let main_v79 : FVec F S1024x256 .f32 := broadcastInDim S1024x256 ![] bcast_S_S1024x256 main_cst_24
  let main_v80 : FVec F S1024x256 .f32 := mulf main_v78 main_v79
  let main_v81 : FVec F S1024x128 .f32 := (Host.slice S1024x128 ![0, 0] ![1, 2] · slicesBy_S1024x256_S1024x128_0s1_0s2) main_v80
  let main_v82 : FVec F S1024x128 .f32 := (Host.slice S1024x128 ![0, 1] ![1, 2] · slicesBy_S1024x256_S1024x128_0s1_1s2) main_v80
  let main_v83 : FVec F S1024x128 .f32 := subf main_v82 main_v81
  let main_cst_25 : FVec F S_ .f32 := constant S_ .f32 0x3F3504F3#32
  let main_v84 : FVec F S1024x128 .f32 := broadcastInDim S1024x128 ![] bcast_S_S1024x128 main_cst_25
  let main_v85 : FVec F S1024x128 .f32 := mulf main_v83 main_v84
  let main_v86 : FVec F S1024x128 .f32 := addf main_v81 main_v82
  let main_cst_26 : FVec F S_ .f32 := constant S_ .f32 0x3F3504F3#32
  let main_v87 : FVec F S1024x128 .f32 := broadcastInDim S1024x128 ![] bcast_S_S1024x128 main_cst_26
  let main_v88 : FVec F S1024x128 .f32 := mulf main_v86 main_v87
  let main_v89 : FVec F S1024x4096 .f32 := concatenate S1024x4096 1 [⟨S1024x128, main_v88⟩, ⟨S1024x128, main_v85⟩, ⟨S1024x256, main_v77⟩, ⟨S1024x512, main_v69⟩, ⟨S1024x1024, main_v61⟩, ⟨S1024x2048, main_v53⟩] concatenates_S1024x128_S1024x128_S1024x256_S1024x512_S1024x1024_S1024x2048_S1024x4096_d1
  let main_v90 : FVec F S256x768 .f32 := (transpose S256x768 [1, 0] · transposes_S768x256_S256x768_1_0) main_arg4
  fn_part5 (F := F) main_arg5 main_arg6 main_arg7 main_arg9 main_v3 main_v7 main_v11 main_v15 main_v19 main_v23 main_v27 main_v31 main_v37 main_v48 main_v89 main_v90

def fn_part3 {F : FTy → Type} [FloatOps F] (main_arg4 : FVec F S768x256 .f32) (main_arg5 : FVec F S768x2049 .f32) (main_arg6 : FVec F S768x4096 .f32) (main_arg7 : FVec F S64x3x768 .f32) (main_arg9 : FVec F S1024x3x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v37 : FVec F S1024x256 .f32) (main_v48 : FVec F S1024x2049 .f32) (main_v49 : FVec F S1024x2048 .f32) (main_v50 : FVec F S1024x2048 .f32) (main_v51 : FVec F S1024x2048 .f32) (main_cst_17 : FVec F S_ .f32) : IVec S_ 1 :=
  let main_v52 : FVec F S1024x2048 .f32 := broadcastInDim S1024x2048 ![] bcast_S_S1024x2048 main_cst_17
  let main_v53 : FVec F S1024x2048 .f32 := mulf main_v51 main_v52
  let main_v54 : FVec F S1024x2048 .f32 := addf main_v49 main_v50
  let main_cst_18 : FVec F S_ .f32 := constant S_ .f32 0x3F3504F3#32
  let main_v55 : FVec F S1024x2048 .f32 := broadcastInDim S1024x2048 ![] bcast_S_S1024x2048 main_cst_18
  let main_v56 : FVec F S1024x2048 .f32 := mulf main_v54 main_v55
  let main_v57 : FVec F S1024x1024 .f32 := (Host.slice S1024x1024 ![0, 0] ![1, 2] · slicesBy_S1024x2048_S1024x1024_0s1_0s2) main_v56
  let main_v58 : FVec F S1024x1024 .f32 := (Host.slice S1024x1024 ![0, 1] ![1, 2] · slicesBy_S1024x2048_S1024x1024_0s1_1s2) main_v56
  let main_v59 : FVec F S1024x1024 .f32 := subf main_v58 main_v57
  let main_cst_19 : FVec F S_ .f32 := constant S_ .f32 0x3F3504F3#32
  let main_v60 : FVec F S1024x1024 .f32 := broadcastInDim S1024x1024 ![] bcast_S_S1024x1024 main_cst_19
  let main_v61 : FVec F S1024x1024 .f32 := mulf main_v59 main_v60
  let main_v62 : FVec F S1024x1024 .f32 := addf main_v57 main_v58
  let main_cst_20 : FVec F S_ .f32 := constant S_ .f32 0x3F3504F3#32
  let main_v63 : FVec F S1024x1024 .f32 := broadcastInDim S1024x1024 ![] bcast_S_S1024x1024 main_cst_20
  let main_v64 : FVec F S1024x1024 .f32 := mulf main_v62 main_v63
  let main_v65 : FVec F S1024x512 .f32 := (Host.slice S1024x512 ![0, 0] ![1, 2] · slicesBy_S1024x1024_S1024x512_0s1_0s2) main_v64
  let main_v66 : FVec F S1024x512 .f32 := (Host.slice S1024x512 ![0, 1] ![1, 2] · slicesBy_S1024x1024_S1024x512_0s1_1s2) main_v64
  let main_v67 : FVec F S1024x512 .f32 := subf main_v66 main_v65
  let main_cst_21 : FVec F S_ .f32 := constant S_ .f32 0x3F3504F3#32
  let main_v68 : FVec F S1024x512 .f32 := broadcastInDim S1024x512 ![] bcast_S_S1024x512 main_cst_21
  let main_v69 : FVec F S1024x512 .f32 := mulf main_v67 main_v68
  let main_v70 : FVec F S1024x512 .f32 := addf main_v65 main_v66
  let main_cst_22 : FVec F S_ .f32 := constant S_ .f32 0x3F3504F3#32
  fn_part4 (F := F) main_arg4 main_arg5 main_arg6 main_arg7 main_arg9 main_v3 main_v7 main_v11 main_v15 main_v19 main_v23 main_v27 main_v31 main_v37 main_v48 main_v53 main_v61 main_v69 main_v70 main_cst_22

def fn_part2 {F : FTy → Type} [FloatOps F] (main_arg0 : FVec F S1024x1x4096 .f32) (main_arg2 : FVec F S256x4096 .f32) (main_arg3 : FVec F S4096 .f32) (main_arg4 : FVec F S768x256 .f32) (main_arg5 : FVec F S768x2049 .f32) (main_arg6 : FVec F S768x4096 .f32) (main_arg7 : FVec F S64x3x768 .f32) (main_arg9 : FVec F S1024x3x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x4096 .f32 := shapeCast S1024x4096 main_arg0 shapeCasts_S1024x1x4096_S1024x4096
  let main_v33 : FVec F S1x4096 .f32 := broadcastInDim S1x4096 ![1] bcast_S4096_S1x4096_1 main_arg3
  let main_v34 : FVec F S1024x4096 .f32 := broadcastInDim S1024x4096 ![0, 1] bcast_S1x4096_S1024x4096_0_1 main_v33
  let main_v35 : FVec F S1024x4096 .f32 := subf main_v32 main_v34
  let main_v36 : FVec F S4096x256 .f32 := (transpose S4096x256 [1, 0] · transposes_S256x4096_S4096x256_1_0) main_arg2
  let main_v37 : FVec F S1024x256 .f32 := (fun l r => Host.dotGeneral dot_S1024x4096_S4096x256_S1024x256_1_0_0_1_n_n none l r) main_v35 main_v36
  let main_v38 : IVec S4096x2049 32 := iotaInDim S4096x2049 32 0
  let main_v39 : IVec S4096x2049 32 := iotaInDim S4096x2049 32 1
  let main_cst_14 : FVec F S_ .f32 := constant S_ .f32 0x3F800000#32
  let main_v40 : FVec F S_ .f32 := Host.atan main_cst_14
  let main_cst_15 : FVec F S_ .f32 := constant S_ .f32 0x41000000#32
  let main_v41 : FVec F S_ .f32 := mulf main_cst_15 main_v40
  let main_v42 : IVec S4096x2049 32 := muli main_v38 main_v39
  let main_v43 : FVec F S4096x2049 .f32 := sitofp .f32 main_v42
  let main_cst_16 : FVec F S_ .f32 := constant S_ .f32 0x45800000#32
  let main_v44 : FVec F S_ .f32 := Host.divf main_v41 main_cst_16
  let main_v45 : FVec F S4096x2049 .f32 := broadcastInDim S4096x2049 ![] bcast_S_S4096x2049 main_v44
  let main_v46 : FVec F S4096x2049 .f32 := mulf main_v43 main_v45
  let main_v47 : FVec F S4096x2049 .f32 := Host.cos main_v46
  let main_v48 : FVec F S1024x2049 .f32 := (fun l r => Host.dotGeneral dot_S1024x4096_S4096x2049_S1024x2049_1_0_0_1_n_n none l r) main_v32 main_v47
  let main_v49 : FVec F S1024x2048 .f32 := (Host.slice S1024x2048 ![0, 0] ![1, 2] · slicesBy_S1024x4096_S1024x2048_0s1_0s2) main_v32
  let main_v50 : FVec F S1024x2048 .f32 := (Host.slice S1024x2048 ![0, 1] ![1, 2] · slicesBy_S1024x4096_S1024x2048_0s1_1s2) main_v32
  let main_v51 : FVec F S1024x2048 .f32 := subf main_v50 main_v49
  let main_cst_17 : FVec F S_ .f32 := constant S_ .f32 0x3F3504F3#32
  fn_part3 (F := F) main_arg4 main_arg5 main_arg6 main_arg7 main_arg9 main_v3 main_v7 main_v11 main_v15 main_v19 main_v23 main_v27 main_v31 main_v37 main_v48 main_v49 main_v50 main_v51 main_cst_17

def fn_part1 {F : FTy → Type} [FloatOps F] (main_arg0 : FVec F S1024x1x4096 .f32) (main_arg2 : FVec F S256x4096 .f32) (main_arg3 : FVec F S4096 .f32) (main_arg4 : FVec F S768x256 .f32) (main_arg5 : FVec F S768x2049 .f32) (main_arg6 : FVec F S768x4096 .f32) (main_arg7 : FVec F S64x3x768 .f32) (main_arg9 : FVec F S1024x3x64 .f32) (main_v3 : IVec S_ 1) (main_v7 : IVec S_ 1) (main_v11 : IVec S_ 1) (main_v15 : IVec S_ 1) : IVec S_ 1 :=
  let main_v16 : FVec F S768x2049 .f32 := Host.absf main_arg5
  let main_cst_6 : FVec F S_ .f32 := constant S_ .f32 0x7F800000#32
  let main_v17 : FVec F S768x2049 .f32 := broadcastInDim S768x2049 ![] bcast_S_S768x2049 main_cst_6
  let main_v18 : IVec S768x2049 1 := cmpf .olt main_v16 main_v17
  let main_c_7 : IVec S_ 1 := constantI S_ 1 1#1
  let main_v19 : IVec S_ 1 := (fun x v => Host.reduce IntOp.andi x v reducesTo_S768x2049_S_d0_1 h_S_) main_v18 main_c_7
  let main_v20 : FVec F S768x4096 .f32 := Host.absf main_arg6
  let main_cst_8 : FVec F S_ .f32 := constant S_ .f32 0x7F800000#32
  let main_v21 : FVec F S768x4096 .f32 := broadcastInDim S768x4096 ![] bcast_S_S768x4096 main_cst_8
  let main_v22 : IVec S768x4096 1 := cmpf .olt main_v20 main_v21
  let main_c_9 : IVec S_ 1 := constantI S_ 1 1#1
  let main_v23 : IVec S_ 1 := (fun x v => Host.reduce IntOp.andi x v reducesTo_S768x4096_S_d0_1 h_S_) main_v22 main_c_9
  let main_v24 : FVec F S64x3x768 .f32 := Host.absf main_arg7
  let main_cst_10 : FVec F S_ .f32 := constant S_ .f32 0x7F800000#32
  let main_v25 : FVec F S64x3x768 .f32 := broadcastInDim S64x3x768 ![] bcast_S_S64x3x768 main_cst_10
  let main_v26 : IVec S64x3x768 1 := cmpf .olt main_v24 main_v25
  let main_c_11 : IVec S_ 1 := constantI S_ 1 1#1
  let main_v27 : IVec S_ 1 := (fun x v => Host.reduce IntOp.andi x v reducesTo_S64x3x768_S_d0_1_2 h_S_) main_v26 main_c_11
  let main_v28 : FVec F S1024x3x64 .f32 := Host.absf main_arg9
  let main_cst_12 : FVec F S_ .f32 := constant S_ .f32 0x7F800000#32
  let main_v29 : FVec F S1024x3x64 .f32 := broadcastInDim S1024x3x64 ![] bcast_S_S1024x3x64 main_cst_12
  let main_v30 : IVec S1024x3x64 1 := cmpf .olt main_v28 main_v29
  let main_c_13 : IVec S_ 1 := constantI S_ 1 1#1
  let main_v31 : IVec S_ 1 := (fun x v => Host.reduce IntOp.andi x v reducesTo_S1024x3x64_S_d0_1_2 h_S_) main_v30 main_c_13
  fn_part2 (F := F) main_arg0 main_arg2 main_arg3 main_arg4 main_arg5 main_arg6 main_arg7 main_arg9 main_v3 main_v7 main_v11 main_v15 main_v19 main_v23 main_v27 main_v31

def fn {F : FTy → Type} [FloatOps F] (main_arg0 : FVec F S1024x1x4096 .f32) (main_arg1 : IVec S1024 32) (main_arg2 : FVec F S256x4096 .f32) (main_arg3 : FVec F S4096 .f32) (main_arg4 : FVec F S768x256 .f32) (main_arg5 : FVec F S768x2049 .f32) (main_arg6 : FVec F S768x4096 .f32) (main_arg7 : FVec F S64x3x768 .f32) (main_arg8 : FVec F S64x1x4096 .f32) (main_arg9 : FVec F S1024x3x64 .f32) : IVec S_ 1 :=
  let main_v0 : FVec F S1024x1x4096 .f32 := Host.absf main_arg0
  let main_cst : FVec F S_ .f32 := constant S_ .f32 0x7F800000#32
  let main_v1 : FVec F S1024x1x4096 .f32 := broadcastInDim S1024x1x4096 ![] bcast_S_S1024x1x4096 main_cst
  let main_v2 : IVec S1024x1x4096 1 := cmpf .olt main_v0 main_v1
  let main_c : IVec S_ 1 := constantI S_ 1 1#1
  let main_v3 : IVec S_ 1 := (fun x v => Host.reduce IntOp.andi x v reducesTo_S1024x1x4096_S_d0_1_2 h_S_) main_v2 main_c
  let main_v4 : FVec F S256x4096 .f32 := Host.absf main_arg2
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : FVec F S4096 .f32 := Host.absf main_arg3
  let main_cst_2 : FVec F S_ .f32 := constant S_ .f32 0x7F800000#32
  let main_v9 : FVec F S4096 .f32 := broadcastInDim S4096 ![] bcast_S_S4096 main_cst_2
  let main_v10 : IVec S4096 1 := cmpf .olt main_v8 main_v9
  let main_c_3 : IVec S_ 1 := constantI S_ 1 1#1
  let main_v11 : IVec S_ 1 := (fun x v => Host.reduce IntOp.andi x v reducesTo_S4096_S_d0 h_S_) main_v10 main_c_3
  let main_v12 : FVec F S768x256 .f32 := Host.absf main_arg4
  let main_cst_4 : FVec F S_ .f32 := constant S_ .f32 0x7F800000#32
  let main_v13 : FVec F S768x256 .f32 := broadcastInDim S768x256 ![] bcast_S_S768x256 main_cst_4
  let main_v14 : IVec S768x256 1 := cmpf .olt main_v12 main_v13
  let main_c_5 : IVec S_ 1 := constantI S_ 1 1#1
  let main_v15 : IVec S_ 1 := (fun x v => Host.reduce IntOp.andi x v reducesTo_S768x256_S_d0_1 h_S_) main_v14 main_c_5
  fn_part1 (F := F) main_arg0 main_arg2 main_arg3 main_arg4 main_arg5 main_arg6 main_arg7 main_arg9 main_v3 main_v7 main_v11 main_v15
-- ==== Kernel.lean ====
abbrev S1024x1x4096 : Shape := ⟨3, ![1024, 1, 4096]⟩
abbrev S1024 : Shape := ⟨1, ![1024]⟩
abbrev S256x4096 : Shape := ⟨2, ![256, 4096]⟩
abbrev S4096 : Shape := ⟨1, ![4096]⟩
abbrev S768x256 : Shape := ⟨2, ![768, 256]⟩
abbrev S768x2049 : Shape := ⟨2, ![768, 2049]⟩
abbrev S768x4096 : Shape := ⟨2, ![768, 4096]⟩
abbrev S64x3x768 : Shape := ⟨3, ![64, 3, 768]⟩
abbrev S64x1x4096 : Shape := ⟨3, ![64, 1, 4096]⟩
abbrev S1024x3x64 : Shape := ⟨3, ![1024, 3, 64]⟩
abbrev S1x4096 : Shape := ⟨2, ![1, 4096]⟩
abbrev S4096x64 : Shape := ⟨2, ![4096, 64]⟩
abbrev S1x64 : Shape := ⟨2, ![1, 64]⟩
abbrev S1x1 : Shape := ⟨2, ![1, 1]⟩
abbrev S64x1x768 : Shape := ⟨3, ![64, 1, 768]⟩
abbrev S64x768 : Shape := ⟨2, ![64, 768]⟩
abbrev S64x256 : Shape := ⟨2, ![64, 256]⟩
abbrev S128x64 : Shape := ⟨2, ![128, 64]⟩
abbrev S128x1x64 : Shape := ⟨3, ![128, 1, 64]⟩
abbrev S128x2x64 : Shape := ⟨3, ![128, 2, 64]⟩
abbrev S256x64 : Shape := ⟨2, ![256, 64]⟩
abbrev S256x1x64 : Shape := ⟨3, ![256, 1, 64]⟩
abbrev S256x2x64 : Shape := ⟨3, ![256, 2, 64]⟩
abbrev S512x64 : Shape := ⟨2, ![512, 64]⟩
abbrev S512x1x64 : Shape := ⟨3, ![512, 1, 64]⟩
abbrev S512x2x64 : Shape := ⟨3, ![512, 2, 64]⟩
abbrev S1024x64 : Shape := ⟨2, ![1024, 64]⟩
abbrev S1024x1x64 : Shape := ⟨3, ![1024, 1, 64]⟩
abbrev S1024x2x64 : Shape := ⟨3, ![1024, 2, 64]⟩
abbrev S2048x64 : Shape := ⟨2, ![2048, 64]⟩
abbrev S2048x1x64 : Shape := ⟨3, ![2048, 1, 64]⟩
abbrev S2048x2x64 : Shape := ⟨3, ![2048, 2, 64]⟩
abbrev S64x4096 : Shape := ⟨2, ![64, 4096]⟩
abbrev S64x2049 : Shape := ⟨2, ![64, 2049]⟩
abbrev S32x512 : Shape := ⟨2, ![32, 512]⟩
abbrev S64x512 : Shape := ⟨2, ![64, 512]⟩
abbrev S32x1x512 : Shape := ⟨3, ![32, 1, 512]⟩
abbrev S1x64x512 : Shape := ⟨3, ![1, 64, 512]⟩
abbrev S32x64x512 : Shape := ⟨3, ![32, 64, 512]⟩
abbrev S2048x512 : Shape := ⟨2, ![2048, 512]⟩
abbrev S64x2048 : Shape := ⟨2, ![64, 2048]⟩
abbrev S64x1 : Shape := ⟨2, ![64, 1]⟩
abbrev S512x1 : Shape := ⟨2, ![512, 1]⟩
abbrev S64x3x64 : Shape := ⟨3, ![64, 3, 64]⟩
abbrev S2 : Shape := ⟨1, ![2]⟩
abbrev S64x64 : Shape := ⟨2, ![64, 64]⟩
abbrev S64x1x64 : Shape := ⟨3, ![64, 1, 64]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩
abbrev S_ : Shape := ⟨0, ![]⟩

abbrev nBuf : Space → Nat
  | .hbm => 21
  | .vmem => 26
  | .smem => 3
  | _ => 0

abbrev bufTy : (tb : Table) → Fin (tcTables nBuf tb) → BufTy
  | .hbm, ⟨0, _⟩ => ⟨S1024x1x4096, .f32⟩
  | .hbm, ⟨1, _⟩ => ⟨S1024, .i32⟩
  | .hbm, ⟨2, _⟩ => ⟨S256x4096, .f32⟩
  | .hbm, ⟨3, _⟩ => ⟨S4096, .f32⟩
  | .hbm, ⟨4, _⟩ => ⟨S768x256, .f32⟩
  | .hbm, ⟨5, _⟩ => ⟨S768x2049, .f32⟩
  | .hbm, ⟨6, _⟩ => ⟨S768x4096, .f32⟩
  | .hbm, ⟨7, _⟩ => ⟨S64x3x768, .f32⟩
  | .hbm, ⟨8, _⟩ => ⟨S64x1x4096, .f32⟩
  | .hbm, ⟨9, _⟩ => ⟨S1024x3x64, .f32⟩
  | .hbm, ⟨10, _⟩ => ⟨S1x4096, .f32⟩
  | .hbm, ⟨11, _⟩ => ⟨S4096x64, .f32⟩
  | .hbm, ⟨12, _⟩ => ⟨S4096x64, .f32⟩
  | .hbm, ⟨13, _⟩ => ⟨S1x64, .f32⟩
  | .hbm, ⟨14, _⟩ => ⟨S1x4096, .f32⟩
  | .hbm, ⟨15, _⟩ => ⟨S4096x64, .f32⟩
  | .hbm, ⟨16, _⟩ => ⟨S1024x1x4096, .f32⟩
  | .hbm, ⟨17, _⟩ => ⟨S1x1, .f32⟩
  | .hbm, ⟨18, _⟩ => ⟨S1x1, .f32⟩
  | .hbm, ⟨19, _⟩ => ⟨S_, .f32⟩
  | .hbm, ⟨20, _⟩ => ⟨S_, .f32⟩
  | .local _ .vmem, ⟨0, _⟩ => ⟨S64x3x768, .f32⟩
  | .local _ .vmem, ⟨1, _⟩ => ⟨S768x256, .f32⟩
  | .local _ .vmem, ⟨2, _⟩ => ⟨S256x4096, .f32⟩
  | .local _ .vmem, ⟨3, _⟩ => ⟨S1x4096, .f32⟩
  | .local _ .vmem, ⟨4, _⟩ => ⟨S768x4096, .f32⟩
  | .local _ .vmem, ⟨5, _⟩ => ⟨S64x1x4096, .f32⟩
  | .local _ .vmem, ⟨6, _⟩ => ⟨S4096x64, .f32⟩
  | .local _ .vmem, ⟨7, _⟩ => ⟨S4096x64, .f32⟩
  | .local _ .vmem, ⟨8, _⟩ => ⟨S1x64, .f32⟩
  | .local _ .vmem, ⟨9, _⟩ => ⟨S1x4096, .f32⟩
  | .local _ .vmem, ⟨10, _⟩ => ⟨S64x3x768, .f32⟩
  | .local _ .vmem, ⟨11, _⟩ => ⟨S768x2049, .f32⟩
  | .local _ .vmem, ⟨12, _⟩ => ⟨S512x64, .f32⟩
  | .local _ .vmem, ⟨13, _⟩ => ⟨S512x64, .f32⟩
  | .local _ .vmem, ⟨14, _⟩ => ⟨S64x2049, .f32⟩
  | .local _ .vmem, ⟨15, _⟩ => ⟨S64x1x4096, .f32⟩
  | .local _ .vmem, ⟨16, _⟩ => ⟨S64x1x4096, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | .local _ .vmem, ⟨20, _⟩ => ⟨S1x64, .f32⟩
  | .local _ .vmem, ⟨21, _⟩ => ⟨S1x4096, .f32⟩
  | .local _ .vmem, ⟨22, _⟩ => ⟨S64x3x64, .f32⟩
  | .local _ .vmem, ⟨23, _⟩ => ⟨S64x3x64, .f32⟩
  | .local _ .vmem, ⟨24, _⟩ => ⟨S64x1x4096, .f32⟩
  | .local _ .vmem, ⟨25, _⟩ => ⟨S64x1x4096, .f32⟩
  | .local _ .smem, ⟨0, _⟩ => ⟨S1x1, .f32⟩
  | .local _ .smem, ⟨1, _⟩ => ⟨S1x1, .f32⟩
  | .local _ .smem, ⟨2, _⟩ => ⟨S2, .f32⟩
  | _, _ => ⟨S1024x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0_0 : Ref sig .tc := ⟨.hbm, 11, rfl⟩
abbrev main_call0_v0_1 : Ref sig .tc := ⟨.hbm, 12, rfl⟩
abbrev main_call0_v0_2 : Ref sig .tc := ⟨.hbm, 13, rfl⟩
abbrev main_call0_v0_3 : Ref sig .tc := ⟨.hbm, 14, rfl⟩
abbrev main_call0_v1 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v2 : Ref sig .tc := ⟨.hbm, 19, rfl⟩
abbrev main_v3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.smem, 0, rfl⟩
abbrev cc2_stg9_0 : Ref sig .tc := ⟨.smem, 1, rfl⟩
abbrev cc2_scratch0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem9_0 : DmaSem sig := 26

abbrev nD : Nat := 1
abbrev τ : Topo := Topo.v7x

variable {F : FTy → Type} [FloatOps F]

abbrev grid0 : Pipeline.Grid := .none

abbrev stage0_0 : Fin 1 → Memref sig .tc .vmem S64x3x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x3x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S768x2049 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v109 : BitVec 1 := Scalar.cmpi .eq arg0 c15_i32
  let v110 : BitVec 32 := Scalar.extui v109
  let c0_i32_47 : BitVec 32 := 0#32
  let v111 : BitVec 1 := Scalar.cmpi .ne v110 c0_i32_47
  v111

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x1x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S64x3x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S64x1x4096 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .smem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .smem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]
-- ==== KernelIdeal.lean ====
variable {F : FTy → Type} [FloatOps F] [Named F]
def κ : String → Option EReal := fun
  | "inv_sqrt_d" => some (((Real.sqrt 768)⁻¹ : ℝ) : EReal)
  | "two_pi_over_64" => some ((Real.pi * 32⁻¹ : ℝ) : EReal)
  | "two_pi_over_n" => some ((Real.pi * 2048⁻¹ : ℝ) : EReal)
  | _ => none
-- ==== ReferenceIdeal.lean ====
abbrev S1024x1x4096 : Shape := ⟨3, ![1024, 1, 4096]⟩
abbrev S1024 : Shape := ⟨1, ![1024]⟩
abbrev S256x4096 : Shape := ⟨2, ![256, 4096]⟩
abbrev S4096 : Shape := ⟨1, ![4096]⟩
abbrev S768x256 : Shape := ⟨2, ![768, 256]⟩
abbrev S768x2049 : Shape := ⟨2, ![768, 2049]⟩
abbrev S768x4096 : Shape := ⟨2, ![768, 4096]⟩
abbrev S64x3x768 : Shape := ⟨3, ![64, 3, 768]⟩
abbrev S64x1x4096 : Shape := ⟨3, ![64, 1, 4096]⟩
abbrev S1024x3x64 : Shape := ⟨3, ![1024, 3, 64]⟩
abbrev S1024x4096 : Shape := ⟨2, ![1024, 4096]⟩
abbrev S1x4096 : Shape := ⟨2, ![1, 4096]⟩
abbrev S4096x256 : Shape := ⟨2, ![4096, 256]⟩
abbrev S1024x256 : Shape := ⟨2, ![1024, 256]⟩
abbrev S4096x2049 : Shape := ⟨2, ![4096, 2049]⟩
abbrev S_ : Shape := ⟨0, ![]⟩
abbrev S1024x2049 : Shape := ⟨2, ![1024, 2049]⟩
abbrev S1024x2048 : Shape := ⟨2, ![1024, 2048]⟩
abbrev S1024x1024 : Shape := ⟨2, ![1024, 1024]⟩
abbrev S1024x512 : Shape := ⟨2, ![1024, 512]⟩
abbrev S1024x128 : Shape := ⟨2, ![1024, 128]⟩
abbrev S256x768 : Shape := ⟨2, ![256, 768]⟩
abbrev S1024x768 : Shape := ⟨2, ![1024, 768]⟩
abbrev S2049x768 : Shape := ⟨2, ![2049, 768]⟩
abbrev S4096x768 : Shape := ⟨2, ![4096, 768]⟩
abbrev S1024x1x768 : Shape := ⟨3, ![1024, 1, 768]⟩
abbrev S1024x3x768 : Shape := ⟨3, ![1024, 3, 768]⟩
abbrev S3x64x1024 : Shape := ⟨3, ![3, 64, 1024]⟩
abbrev S1024x3 : Shape := ⟨2, ![1024, 3]⟩
abbrev S1024x3x1 : Shape := ⟨3, ![1024, 3, 1]⟩
abbrev S1x1x64 : Shape := ⟨3, ![1, 1, 64]⟩
abbrev S64x4096 : Shape := ⟨2, ![64, 4096]⟩
abbrev S1x1x4096 : Shape := ⟨3, ![1, 1, 4096]⟩
abbrev S1024x3x4096 : Shape := ⟨3, ![1024, 3, 4096]⟩
abbrev S1024x3x1x1 : Shape := ⟨4, ![1024, 3, 1, 1]⟩
abbrev S1 : Shape := ⟨1, ![1]⟩
abbrev S1x1x1x1 : Shape := ⟨4, ![1, 1, 1, 1]⟩
abbrev S1024x1 : Shape := ⟨2, ![1024, 1]⟩

abbrev nBuf : Space → Nat
  | .hbm => 207
  | .vmem => 0
  | .smem => 0
  | _ => 0

abbrev hbmTy0_0 (i : Nat) : BufTy := match i % 128 with
  | 0 => ⟨S1024x1x4096, .f32⟩
  | 1 => ⟨S1024, .i32⟩
  | 2 => ⟨S256x4096, .f32⟩
  | 3 => ⟨S4096, .f32⟩
  | 4 => ⟨S768x256, .f32⟩
  | 5 => ⟨S768x2049, .f32⟩
  | 6 => ⟨S768x4096, .f32⟩
  | 7 => ⟨S64x3x768, .f32⟩
  | 8 => ⟨S64x1x4096, .f32⟩
  | 9 => ⟨S1024x3x64, .f32⟩
  | 10 => ⟨S1024x4096, .f32⟩
  | 11 => ⟨S1x4096, .f32⟩
  | 12 => ⟨S1024x4096, .f32⟩
  | 13 => ⟨S1024x4096, .f32⟩
  | 14 => ⟨S4096x256, .f32⟩
  | 15 => ⟨S1024x256, .f32⟩
  | 16 => ⟨S4096x2049, .i32⟩
  | 17 => ⟨S4096x2049, .i32⟩
  | 18 => ⟨S_, .f32⟩
  | 19 => ⟨S_, .f32⟩
  | 20 => ⟨S_, .f32⟩
  | 21 => ⟨S_, .f32⟩
  | 22 => ⟨S4096x2049, .i32⟩
  | 23 => ⟨S4096x2049, .f32⟩
  | 24 => ⟨S_, .f32⟩
  | 25 => ⟨S_, .f32⟩
  | 26 => ⟨S4096x2049, .f32⟩
  | 27 => ⟨S4096x2049, .f32⟩
  | 28 => ⟨S4096x2049, .f32⟩
  | 29 => ⟨S1024x2049, .f32⟩
  | 30 => ⟨S1024x2048, .f32⟩
  | 31 => ⟨S1024x2048, .f32⟩
  | 32 => ⟨S1024x2048, .f32⟩
  | 33 => ⟨S_, .f32⟩
  | 34 => ⟨S1024x2048, .f32⟩
  | 35 => ⟨S1024x2048, .f32⟩
  | 36 => ⟨S1024x2048, .f32⟩
  | 37 => ⟨S_, .f32⟩
  | 38 => ⟨S1024x2048, .f32⟩
  | 39 => ⟨S1024x2048, .f32⟩
  | 40 => ⟨S1024x1024, .f32⟩
  | 41 => ⟨S1024x1024, .f32⟩
  | 42 => ⟨S1024x1024, .f32⟩
  | 43 => ⟨S_, .f32⟩
  | 44 => ⟨S1024x1024, .f32⟩
  | 45 => ⟨S1024x1024, .f32⟩
  | 46 => ⟨S1024x1024, .f32⟩
  | 47 => ⟨S_, .f32⟩
  | 48 => ⟨S1024x1024, .f32⟩
  | 49 => ⟨S1024x1024, .f32⟩
  | 50 => ⟨S1024x512, .f32⟩
  | 51 => ⟨S1024x512, .f32⟩
  | 52 => ⟨S1024x512, .f32⟩
  | 53 => ⟨S_, .f32⟩
  | 54 => ⟨S1024x512, .f32⟩
  | 55 => ⟨S1024x512, .f32⟩
  | 56 => ⟨S1024x512, .f32⟩
  | 57 => ⟨S_, .f32⟩
  | 58 => ⟨S1024x512, .f32⟩
  | 59 => ⟨S1024x512, .f32⟩
  | 60 => ⟨S1024x256, .f32⟩
  | 61 => ⟨S1024x256, .f32⟩
  | 62 => ⟨S1024x256, .f32⟩
  | 63 => ⟨S_, .f32⟩
  | 64 => ⟨S1024x256, .f32⟩
  | 65 => ⟨S1024x256, .f32⟩
  | 66 => ⟨S1024x256, .f32⟩
  | 67 => ⟨S_, .f32⟩
  | 68 => ⟨S1024x256, .f32⟩
  | 69 => ⟨S1024x256, .f32⟩
  | 70 => ⟨S1024x128, .f32⟩
  | 71 => ⟨S1024x128, .f32⟩
  | 72 => ⟨S1024x128, .f32⟩
  | 73 => ⟨S_, .f32⟩
  | 74 => ⟨S1024x128, .f32⟩
  | 75 => ⟨S1024x128, .f32⟩
  | 76 => ⟨S1024x128, .f32⟩
  | 77 => ⟨S_, .f32⟩
  | 78 => ⟨S1024x128, .f32⟩
  | 79 => ⟨S1024x128, .f32⟩
  | 80 => ⟨S1024x4096, .f32⟩
  | 81 => ⟨S256x768, .f32⟩
  | 82 => ⟨S1024x768, .f32⟩
  | 83 => ⟨S2049x768, .f32⟩
  | 84 => ⟨S1024x768, .f32⟩
  | 85 => ⟨S4096x768, .f32⟩
  | 86 => ⟨S1024x768, .f32⟩
  | 87 => ⟨S1024x1x768, .f32⟩
  | 88 => ⟨S1024x1x768, .f32⟩
  | 89 => ⟨S1024x1x768, .f32⟩
  | 90 => ⟨S1024x3x768, .f32⟩
  | 91 => ⟨S3x64x1024, .f32⟩
  | 92 => ⟨S1024x3x64, .f32⟩
  | 93 => ⟨S_, .f32⟩
  | 94 => ⟨S_, .f32⟩
  | 95 => ⟨S1024x3x64, .f32⟩
  | 96 => ⟨S1024x3x64, .f32⟩
  | 97 => ⟨S1024x3x64, .f32⟩
  | 98 => ⟨S_, .f32⟩
  | 99 => ⟨S1024x3x64, .f32⟩
  | 100 => ⟨S1024x3x64, .f32⟩
  | 101 => ⟨S_, .f32⟩
  | 102 => ⟨S1024x3, .f32⟩
  | 103 => ⟨S_, .f32⟩
  | 104 => ⟨S1024x3, .f32⟩
  | 105 => ⟨S1024x3, .f32⟩
  | 106 => ⟨S1024x3x1, .f32⟩
  | 107 => ⟨S1024x3x64, .f32⟩
  | 108 => ⟨S1024x3x64, .f32⟩
  | 109 => ⟨S1024x3x64, .f32⟩
  | 110 => ⟨S_, .f32⟩
  | 111 => ⟨S1024x3, .f32⟩
  | 112 => ⟨S1024x3x1, .f32⟩
  | 113 => ⟨S1024x3x64, .f32⟩
  | 114 => ⟨S1024x3x64, .f32⟩
  | 115 => ⟨S1024x3x64, .i32⟩
  | 116 => ⟨S_, .f32⟩
  | 117 => ⟨S_, .i32⟩
  | 118 => ⟨S1024x3, .f32⟩
  | 119 => ⟨S1024x3, .i32⟩
  | 120 => ⟨S1024x3x1, .i32⟩
  | 121 => ⟨S1x1x64, .i32⟩
  | 122 => ⟨S1024x3x64, .i32⟩
  | 123 => ⟨S1024x3x64, .i32⟩
  | 124 => ⟨S1024x3x64, .i1⟩
  | 125 => ⟨S1024x3x64, .f32⟩
  | 126 => ⟨S1024x3x64, .f32⟩
  | 127 => ⟨S1024x3x64, .f32⟩
  | _ => ⟨S1024x1x4096, .f32⟩

abbrev hbmTy0_1 (i : Nat) : BufTy := match i % 128 with
  | 0 => ⟨S_, .f32⟩
  | 1 => ⟨S1024x3, .f32⟩
  | 2 => ⟨S1024x3x1, .f32⟩
  | 3 => ⟨S64x4096, .f32⟩
  | 4 => ⟨S_, .f32⟩
  | 5 => ⟨S4096, .f32⟩
  | 6 => ⟨S1x1x4096, .f32⟩
  | 7 => ⟨S1024x3x4096, .f32⟩
  | 8 => ⟨S1024x3x4096, .f32⟩
  | 9 => ⟨S1024x3x4096, .f32⟩
  | 10 => ⟨S1024x3x1, .i32⟩
  | 11 => ⟨S_, .i32⟩
  | 12 => ⟨S1024x3x1, .i32⟩
  | 13 => ⟨S1024x3x1, .i1⟩
  | 14 => ⟨S_, .i32⟩
  | 15 => ⟨S1024x3x1, .i32⟩
  | 16 => ⟨S1024x3x1, .i32⟩
  | 17 => ⟨S1024x3x1, .i32⟩
  | 18 => ⟨S1024x3x1x1, .i32⟩
  | 19 => ⟨S1, .i32⟩
  | 20 => ⟨S_, .i32⟩
  | 21 => ⟨S1024x3x1x1, .i32⟩
  | 22 => ⟨S1024x3x1x1, .i1⟩
  | 23 => ⟨S1x1x1x1, .i32⟩
  | 24 => ⟨S1024x3x1x1, .i32⟩
  | 25 => ⟨S1024x3x1x1, .i1⟩
  | 26 => ⟨S1024x3x1x1, .i1⟩
  | 27 => ⟨S_, .i1⟩
  | 28 => ⟨S1024x3x1, .i1⟩
  | 29 => ⟨S1024x3x1, .f32⟩
  | 30 => ⟨S_, .f32⟩
  | 31 => ⟨S1024x3x1, .f32⟩
  | 32 => ⟨S1024x3x1, .f32⟩
  | 33 => ⟨S1024x3, .f32⟩
  | 34 => ⟨S_, .f32⟩
  | 35 => ⟨S1024, .f32⟩
  | 36 => ⟨S_, .f32⟩
  | 37 => ⟨S1024, .f32⟩
  | 38 => ⟨S1024, .f32⟩
  | 39 => ⟨S1024x1, .f32⟩
  | 40 => ⟨S1024x3, .f32⟩
  | 41 => ⟨S1024x3, .f32⟩
  | 42 => ⟨S1024x3, .f32⟩
  | 43 => ⟨S_, .f32⟩
  | 44 => ⟨S1024, .f32⟩
  | 45 => ⟨S1024x1, .f32⟩
  | 46 => ⟨S1024x3, .f32⟩
  | 47 => ⟨S1024x3, .f32⟩
  | 48 => ⟨S1024x3x1, .f32⟩
  | 49 => ⟨S1024x3x4096, .f32⟩
  | 50 => ⟨S1024x3x4096, .f32⟩
  | 51 => ⟨S_, .f32⟩
  | 52 => ⟨S1024x4096, .f32⟩
  | 53 => ⟨S1024x1x4096, .f32⟩
  | 54 => ⟨S_, .f32⟩
  | 55 => ⟨S1024x1x4096, .f32⟩
  | 56 => ⟨S1024x1x4096, .f32⟩
  | 57 => ⟨S1024x1x4096, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S1024x3, .f32⟩
  | 68 => ⟨S1024x3, .f32⟩
  | 69 => ⟨S1024x3, .f32⟩
  | 70 => ⟨S1024x3, .f32⟩
  | 71 => ⟨S_, .f32⟩
  | 72 => ⟨S1024, .f32⟩
  | 73 => ⟨S1024, .f32⟩
  | 74 => ⟨S_, .f32⟩
  | 75 => ⟨S_, .f32⟩
  | 76 => ⟨S_, .f32⟩
  | 77 => ⟨S_, .f32⟩
  | 78 => ⟨S_, .f32⟩
  | _ => ⟨S1024x1x4096, .f32⟩

abbrev hbmTy (i : Nat) : BufTy := match i / 128 with
  | 0 => hbmTy0_0 i
  | 1 => hbmTy0_1 i
  | _ => ⟨S1024x1x4096, .f32⟩

abbrev bufTy : (tb : Table) → Fin (tcTables nBuf tb) → BufTy
  | .hbm, ⟨i, _⟩ => hbmTy i
  | _, _ => ⟨S1024x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call0_v0 : Ref sig .tc := ⟨.hbm, 115, rfl⟩
abbrev main_call0_cst : Ref sig .tc := ⟨.hbm, 116, rfl⟩
abbrev main_call0_c : Ref sig .tc := ⟨.hbm, 117, rfl⟩
abbrev main_call0_v1_0 : Ref sig .tc := ⟨.hbm, 118, rfl⟩
abbrev main_v87 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_17 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_18 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_call2_c : Ref sig .tc := ⟨.hbm, 139, rfl⟩
abbrev main_call2_v0 : Ref sig .tc := ⟨.hbm, 140, rfl⟩
abbrev main_call2_v1 : Ref sig .tc := ⟨.hbm, 141, rfl⟩
abbrev main_call2_c_0 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_v5 : Ref sig .tc := ⟨.hbm, 146, rfl⟩
abbrev main_call2_c_1 : Ref sig .tc := ⟨.hbm, 147, rfl⟩
abbrev main_call2_c_2 : Ref sig .tc := ⟨.hbm, 148, rfl⟩
abbrev main_call2_v6 : Ref sig .tc := ⟨.hbm, 149, rfl⟩
abbrev main_call2_v7 : Ref sig .tc := ⟨.hbm, 150, rfl⟩
abbrev main_call2_v8 : Ref sig .tc := ⟨.hbm, 151, rfl⟩
abbrev main_call2_v9 : Ref sig .tc := ⟨.hbm, 152, rfl⟩
abbrev main_call2_v10 : Ref sig .tc := ⟨.hbm, 153, rfl⟩
abbrev main_call2_v11 : Ref sig .tc := ⟨.hbm, 154, rfl⟩
abbrev main_call2_c_3 : Ref sig .tc := ⟨.hbm, 155, rfl⟩
abbrev main_call2_v12 : Ref sig .tc := ⟨.hbm, 156, rfl⟩
abbrev main_call2_v13 : Ref sig .tc := ⟨.hbm, 157, rfl⟩
abbrev main_call2_cst : Ref sig .tc := ⟨.hbm, 158, rfl⟩
abbrev main_call2_v14 : Ref sig .tc := ⟨.hbm, 159, rfl⟩
abbrev main_v100 : Ref sig .tc := ⟨.hbm, 160, rfl⟩
abbrev main_v101 : Ref sig .tc := ⟨.hbm, 161, rfl⟩
abbrev main_cst_19 : Ref sig .tc := ⟨.hbm, 162, rfl⟩
abbrev main_v102 : Ref sig .tc := ⟨.hbm, 163, rfl⟩
abbrev main_cst_20 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_21 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_22 : Ref sig .tc := ⟨.hbm, 179, rfl⟩
abbrev main_v116 : Ref sig .tc := ⟨.hbm, 180, rfl⟩
abbrev main_v117 : Ref sig .tc := ⟨.hbm, 181, rfl⟩
abbrev main_cst_23 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_cst_24 : Ref sig .tc := ⟨.hbm, 186, rfl⟩
abbrev main_v121 : Ref sig .tc := ⟨.hbm, 187, rfl⟩
abbrev main_cst_25 : Ref sig .tc := ⟨.hbm, 188, rfl⟩
abbrev main_v122 : Ref sig .tc := ⟨.hbm, 189, rfl⟩
abbrev main_cst_26 : Ref sig .tc := ⟨.hbm, 190, rfl⟩
abbrev main_v123 : Ref sig .tc := ⟨.hbm, 191, rfl⟩
abbrev main_cst_27 : Ref sig .tc := ⟨.hbm, 192, rfl⟩
abbrev main_v124 : Ref sig .tc := ⟨.hbm, 193, rfl⟩
abbrev main_cst_28 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_cst_29 : Ref sig .tc := ⟨.hbm, 199, rfl⟩
abbrev main_v129 : Ref sig .tc := ⟨.hbm, 200, rfl⟩
abbrev main_v130 : Ref sig .tc := ⟨.hbm, 201, rfl⟩
abbrev main_cst_30 : Ref sig .tc := ⟨.hbm, 202, rfl⟩
abbrev main_v131 : Ref sig .tc := ⟨.hbm, 203, rfl⟩
abbrev main_cst_31 : Ref sig .tc := ⟨.hbm, 204, rfl⟩
abbrev main_v132 : Ref sig .tc := ⟨.hbm, 205, rfl⟩
abbrev main_v133 : Ref sig .tc := ⟨.hbm, 206, rfl⟩

abbrev nD : Nat := 1
abbrev τ : Topo := Topo.v7x

variable {F : FTy → Type} [FloatOps F]
-- ==== Proof.KernelIdeal.Region0.lean ====
/-
  The first kernel call: its one grid point, with the value of each output window.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ghost algebra of the run: the pipelines' rounds beside a counter nobody uses. -/
abbrev UU : Type := UR sig nD τ × Counters

local notation "𝕄" => MT nD τ sig Unit (Elt F) ℕ UU ℕ

variable (V : (c : Dev nD) → (b : Ref sig .tc) → Buf (Elt F) ((c : Thread nD τ).loc b))

/-- The block of window `w` at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose block is left in place holds that block at every point. -/
theorem before0_0_of {c : Dev nD} (dat : Dat τ (Elt F) Unit ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_1_of {c : Dev nD} (dat : Dat τ (Elt F) Unit ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_2_of {c : Dev nD} (dat : Dat τ (Elt F) Unit ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_3_of {c : Dev nD} (dat : Dat τ (Elt F) Unit ℕ UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_4_of {c : Dev nD} (dat : Dat τ (Elt F) Unit ℕ UU ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_5_of {c : Dev nD} (dat : Dat τ (Elt F) Unit ℕ UU ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- A rectangle the body reads or writes. -/
abbrev r0_0 : Rect S64x3x768 := Rect.unit (s := S64x3x768) ![0, 0, 0] S64x1x768.size inb_S64x3x768_S64x1x768_0_0_0
/-- A rectangle the body reads or writes. -/
abbrev r0_1 : Rect S64x3x768 := Rect.unit (s := S64x3x768) ![0, 2, 0] S64x1x768.size inb_S64x3x768_S64x1x768_0_2_0
/-- A rectangle the body reads or writes. -/
abbrev r0_2 : Rect S768x256 := Rect.unit (s := S768x256) ![0, 0] S768x256.size inb_S768x256_S768x256_0_0
/-- A rectangle the body reads or writes. -/
abbrev r0_3 : Rect S256x4096 := Rect.unit (s := S256x4096) ![0, 0] S256x4096.size inb_S256x4096_S256x4096_0_0
/-- A rectangle the body reads or writes. -/
abbrev r0_4 : Rect S4096x64 := Rect.unit (s := S4096x64) ![0, 0] S4096x64.size inb_S4096x64_S4096x64_0_0
/-- A rectangle the body reads or writes. -/
abbrev r0_5 : Rect S1x4096 := Rect.unit (s := S1x4096) ![0, 0] S1x4096.size inb_S1x4096_S1x4096_0_0
/-- A rectangle the body reads or writes. -/
abbrev r0_6 : Rect S1x64 := Rect.unit (s := S1x64) ![0, 0] S1x64.size inb_S1x64_S1x64_0_0
/-- A rectangle the body reads or writes. -/
abbrev r0_7 : Rect S768x4096 := Rect.unit (s := S768x4096) ![0, 0] S768x4096.size inb_S768x4096_S768x4096_0_0
/-- A rectangle the body reads or writes. -/
abbrev r0_8 : Rect S64x1x4096 := Rect.unit (s := S64x1x4096) ![0, 0, 0] S64x1x4096.size inb_S64x1x4096_S64x1x4096_0_0_0

/-- What this case leaves in the output window's staging buffer. -/
def out0_6 (x0 : Vec F S64x3x768 .f32) (x1 : Vec F S768x256 .f32) (x2 : Vec F S256x4096 .f32) (x3 : Vec F S1x4096 .f32) (x4 : Vec F S768x4096 .f32) (x5 : Vec F S64x1x4096 .f32) : Vec F S4096x64 .f32 :=
  View.canon [⟨r0_4, k0_pay1 (View.ld x0 r0_0) (View.ld x1 r0_2) (View.ld x2 r0_3)⟩]

/-- The pieces cover the output block. -/
theorem cover0_6 (p0 : Vec F S4096x64 .f32) (y : S4096x64.Idx) :
    ∃ pc ∈ ([⟨r0_4, p0⟩] : List (View.Piece (Elt F) S4096x64 .f32)), y ∈ pc.1.set :=
  View.cover_of_tiled [⟨r0_4, p0⟩] S4096x64.size (by rfl) y

/-- What this case leaves in the output window's staging buffer. -/
def out0_7 (x0 : Vec F S64x3x768 .f32) (x1 : Vec F S768x256 .f32) (x2 : Vec F S256x4096 .f32) (x3 : Vec F S1x4096 .f32) (x4 : Vec F S768x4096 .f32) (x5 : Vec F S64x1x4096 .f32) : Vec F S4096x64 .f32 :=
  View.canon [⟨r0_4, k0_pay8 (k0_pay3 (View.ld x0 r0_1) (View.ld x4 r0_7)) (k0_pay4 (View.ld x0 r0_1) (View.ld x4 r0_7)) (k0_pay5 (View.ld x0 r0_1) (View.ld x4 r0_7)) (k0_pay6 (View.ld x0 r0_1) (View.ld x4 r0_7)) (k0_pay7 (F := F))⟩]

/-- The pieces cover the output block. -/
theorem cover0_7 (p0 : Vec F S4096x64 .f32) (y : S4096x64.Idx) :
    ∃ pc ∈ ([⟨r0_4, p0⟩] : List (View.Piece (Elt F) S4096x64 .f32)), y ∈ pc.1.set :=
  View.cover_of_tiled [⟨r0_4, p0⟩] S4096x64.size (by rfl) y

/-- What this case leaves in the output window's staging buffer. -/
def out0_8 (x0 : Vec F S64x3x768 .f32) (x1 : Vec F S768x256 .f32) (x2 : Vec F S256x4096 .f32) (x3 : Vec F S1x4096 .f32) (x4 : Vec F S768x4096 .f32) (x5 : Vec F S64x1x4096 .f32) : Vec F S1x64 .f32 :=
  View.canon [⟨r0_6, k0_pay2 (View.ld x0 r0_0) (View.ld x1 r0_2) (View.ld x2 r0_3) (View.ld x3 r0_5)⟩]

/-- The pieces cover the output block. -/
theorem cover0_8 (p0 : Vec F S1x64 .f32) (y : S1x64.Idx) :
    ∃ pc ∈ ([⟨r0_6, p0⟩] : List (View.Piece (Elt F) S1x64 .f32)), y ∈ pc.1.set :=
  View.cover_of_tiled [⟨r0_6, p0⟩] S1x64.size (by rfl) y

/-- What this case leaves in the output window's staging buffer. -/
def out0_9 (x0 : Vec F S64x3x768 .f32) (x1 : Vec F S768x256 .f32) (x2 : Vec F S256x4096 .f32) (x3 : Vec F S1x4096 .f32) (x4 : Vec F S768x4096 .f32) (x5 : Vec F S64x1x4096 .f32) : Vec F S1x4096 .f32 :=
  View.canon [⟨r0_5, k0_pay9 (View.ld x5 r0_8)⟩]

/-- The pieces cover the output block. -/
theorem cover0_9 (p0 : Vec F S1x4096 .f32) (y : S1x4096.Idx) :
    ∃ pc ∈ ([⟨r0_5, p0⟩] : List (View.Piece (Elt F) S1x4096 .f32)), y ∈ pc.1.set :=
  View.cover_of_tiled [⟨r0_5, p0⟩] S1x4096.size (by rfl) y

set_option maxHeartbeats 1000000 in
/-- The body on whole staging memrefs: inputs as they were, each output at its value. -/
theorem sound_kernel (c : Dev nD) (E : Set ℕ) (arg0 : Memref sig .tc .vmem S64x3x768 .f32) (harg0 : arg0.IsWhole) (arg1 : Memref sig .tc .vmem S768x256 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S768x4096 .f32) (harg4 : arg4.IsWhole) (arg5 : Memref sig .tc .vmem S64x1x4096 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S1x64 .f32) (harg8 : arg8.IsWhole) (arg9 : Memref sig .tc .vmem S1x4096 .f32) (harg9 : arg9.IsWhole)
    (x0 : Vec F S64x3x768 .f32) (x1 : Vec F S768x256 .f32) (x2 : Vec F S256x4096 .f32) (x3 : Vec F S1x4096 .f32) (x4 : Vec F S768x4096 .f32) (x5 : Vec F S64x1x4096 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5) ∗ owns (c : Thread nD τ) arg7 fullShare (out0_7 x0 x1 x2 x3 x4 x5) ∗ owns (c : Thread nD τ) arg8 fullShare (out0_8 x0 x1 x2 x3 x4 x5) ∗ owns (c : Thread nD τ) arg9 fullShare (out0_9 x0 x1 x2 x3 x4 x5)) -∗ K ⟨⟩))
      ⊢ wp frame (wpE (defs₀ (F := F)) Variants.none c none) E (cc0__pre_small_body arg0 harg0 arg1 harg1 arg2 harg2 arg3 harg3 arg4 harg4 arg5 harg5 arg6 harg6 arg7 harg7 arg8 harg8 arg9 harg9) K := by
  simp only [cc0__pre_small_body_eq_skeleton]; unfold cc0__pre_small_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-- The proof data of the region: the arrays as found, and what each window holds after each point. -/
def dat (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out0_6 (iblk V c 0 t) (iblk V c 1 t) (iblk V c 2 t) (iblk V c 3 t) (iblk V c 4 t) (iblk V c 5 t)
    | ⟨7, _⟩ => out0_7 (iblk V c 0 t) (iblk V c 1 t) (iblk V c 2 t) (iblk V c 3 t) (iblk V c 4 t) (iblk V c 5 t)
    | ⟨8, _⟩ => out0_8 (iblk V c 0 t) (iblk V c 1 t) (iblk V c 2 t) (iblk V c 3 t) (iblk V c 4 t) (iblk V c 5 t)
    | ⟨9, _⟩ => out0_9 (iblk V c 0 t) (iblk V c 1 t) (iblk V c 2 t) (iblk V c 3 t) (iblk V c 4 t) (iblk V c 5 t)
  Φ _ := Pipeline.ΦA spec0 c
  q _ := fullShare
  owed _ := 0

/-- The arrays are as the region finds them. -/
theorem A_eq (c : Dev nD) (w : Fin cfg0.W) : (dat V c).A w = V c (Pipeline.arrRef spec0 w) := by
  dsimp only [dat]

/-- What the body leaves in this window. -/
theorem after0_0 (c : Dev nD) (t : Fin cfg0.N) : (dat V c).after 0 t = iblk V c 0 t := by dsimp only [dat]
/-- What the body leaves in this window. -/
theorem after0_1 (c : Dev nD) (t : Fin cfg0.N) : (dat V c).after 1 t = iblk V c 1 t := by dsimp only [dat]
/-- What the body leaves in this window. -/
theorem after0_2 (c : Dev nD) (t : Fin cfg0.N) : (dat V c).after 2 t = iblk V c 2 t := by dsimp only [dat]
/-- What the body leaves in this window. -/
theorem after0_3 (c : Dev nD) (t : Fin cfg0.N) : (dat V c).after 3 t = iblk V c 3 t := by dsimp only [dat]
/-- What the body leaves in this window. -/
theorem after0_4 (c : Dev nD) (t : Fin cfg0.N) : (dat V c).after 4 t = iblk V c 4 t := by dsimp only [dat]
/-- What the body leaves in this window. -/
theorem after0_5 (c : Dev nD) (t : Fin cfg0.N) : (dat V c).after 5 t = iblk V c 5 t := by dsimp only [dat]
/-- What the body leaves in this window. -/
theorem after0_6 (c : Dev nD) (t : Fin cfg0.N) : (dat V c).after 6 t = out0_6 (iblk V c 0 t) (iblk V c 1 t) (iblk V c 2 t) (iblk V c 3 t) (iblk V c 4 t) (iblk V c 5 t) := by dsimp only [dat]
/-- What the body leaves in this window. -/
theorem after0_7 (c : Dev nD) (t : Fin cfg0.N) : (dat V c).after 7 t = out0_7 (iblk V c 0 t) (iblk V c 1 t) (iblk V c 2 t) (iblk V c 3 t) (iblk V c 4 t) (iblk V c 5 t) := by dsimp only [dat]
/-- What the body leaves in this window. -/
theorem after0_8 (c : Dev nD) (t : Fin cfg0.N) : (dat V c).after 8 t = out0_8 (iblk V c 0 t) (iblk V c 1 t) (iblk V c 2 t) (iblk V c 3 t) (iblk V c 4 t) (iblk V c 5 t) := by dsimp only [dat]
/-- What the body leaves in this window. -/
theorem after0_9 (c : Dev nD) (t : Fin cfg0.N) : (dat V c).after 9 t = out0_9 (iblk V c 0 t) (iblk V c 1 t) (iblk V c 2 t) (iblk V c 3 t) (iblk V c 4 t) (iblk V c 5 t) := by dsimp only [dat]

/-- What this input window holds when the body runs. -/
theorem before0_0 (c : Dev nD) (t : Fin cfg0.N) (d) : (dat V c).before 0 t d = iblk V c 0 t :=
  before0_0_of V (dat V c) (A_eq V c 0) (after0_0 V c) t d
/-- What this input window holds when the body runs. -/
theorem before0_1 (c : Dev nD) (t : Fin cfg0.N) (d) : (dat V c).before 1 t d = iblk V c 1 t :=
  before0_1_of V (dat V c) (A_eq V c 1) (after0_1 V c) t d
/-- What this input window holds when the body runs. -/
theorem before0_2 (c : Dev nD) (t : Fin cfg0.N) (d) : (dat V c).before 2 t d = iblk V c 2 t :=
  before0_2_of V (dat V c) (A_eq V c 2) (after0_2 V c) t d
/-- What this input window holds when the body runs. -/
theorem before0_3 (c : Dev nD) (t : Fin cfg0.N) (d) : (dat V c).before 3 t d = iblk V c 3 t :=
  before0_3_of V (dat V c) (A_eq V c 3) (after0_3 V c) t d
/-- What this input window holds when the body runs. -/
theorem before0_4 (c : Dev nD) (t : Fin cfg0.N) (d) : (dat V c).before 4 t d = iblk V c 4 t :=
  before0_4_of V (dat V c) (A_eq V c 4) (after0_4 V c) t d
/-- What this input window holds when the body runs. -/
theorem before0_5 (c : Dev nD) (t : Fin cfg0.N) (d) : (dat V c).before 5 t d = iblk V c 5 t :=
  before0_5_of V (dat V c) (A_eq V c 5) (after0_5 V c) t d

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- What the body returns at point `t`. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

/-- The body at any point, from the precondition to the postcondition. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).Φ t.succ = (dat V c).Φ t.castSucc from rfl,
    show (dat V c).owesAt () t.succ = (dat V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.R0

end
-- ==== Proof.KernelIdeal.Region1Runs.lean ====
/-
  Kernel call 2: what its runs share — blocks, branch conditions, staging memrefs.
-/
module

public import proofs.«01_k».proof.Proof.KernelIdeal.Region0
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal Cert.KernelIdeal.Gen
open Cert.KernelIdeal.R0 (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

/-- The block of window `w` at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose block is left in place holds that block at every point. -/
theorem before0_0_of {c : Dev nD} (dat : Dat τ (Elt F) Unit ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_1_of {c : Dev nD} (dat : Dat τ (Elt F) Unit ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The condition of the first branch, read off the grid coordinate. -/
abbrev cond0_0 (i : grid1.Coords) : Prop := (Scalar.cmpi .ne (Scalar.extui (Scalar.cmpi .eq (BitVec.ofNat 32 (i 0).val) 0#32)) 0#32) = 1#1
/-- The branch condition in terms of the point number. -/
theorem hcond0_0 : ∀ t : Fin cfg1.N, cond0_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond0_0, e0]
    word_cmp
   : ∀ t : Fin grid1.N, cond0_0 (grid1.coords t) ↔ t.val % 8 = 0)

/-- A staging buffer of an output window, through which its contents are stated. -/
abbrev VO0_2 : View sig .tc .vmem S512x64 .f32 := (Memref.whole cc1_stg2_0 : Memref sig .tc .vmem S512x64 .f32).view
/-- The window's current staging memref at point `t`. -/
abbrev ms0_0 (t : Fin cfg1.N) : Memref sig .tc .vmem S64x3x768 .f32 := win1_0.stage (cfg1.slots t 0)
/-- That staging memref is whole. -/
abbrev hs0_0 (t : Fin cfg1.N) : (ms0_0 t).IsWhole := hstage1_0 ((cfg1.slots t 0).cast nbuf1_0)
/-- The window's current staging memref at point `t`. -/
abbrev ms0_1 (t : Fin cfg1.N) : Memref sig .tc .vmem S768x2049 .f32 := win1_1.stage (cfg1.slots t 1)
/-- That staging memref is whole. -/
abbrev hs0_1 (t : Fin cfg1.N) : (ms0_1 t).IsWhole := hstage1_1 ((cfg1.slots t 1).cast nbuf1_1)
/-- The window's current staging memref at point `t`. -/
abbrev ms0_2 (t : Fin cfg1.N) : Memref sig .tc .vmem S512x64 .f32 := win1_2.stage (cfg1.slots t 2)
/-- That staging memref is whole. -/
abbrev hs0_2 (t : Fin cfg1.N) : (ms0_2 t).IsWhole := hstage1_2 ((cfg1.slots t 2).cast nbuf1_2)
/-- The scratch buffer as a memref. -/
abbrev scM0_0 : Memref sig .tc .vmem S64x2049 .f32 := Memref.whole cc1_scratch0
/-- The scratch buffer as a view. -/
abbrev VS0_0 : View sig .tc .vmem S64x2049 .f32 := scM0_0.view

/-- What rides along beside the scratch: the other buffers of the kernel's scope and the generator register. -/
abbrev tail (c : Dev nD) : sProp 𝕄 := iprop(Pipeline.scopedRestBut (Ix := Unit) (Name := ℕ) (U := UU) (Lvl := ℕ) (Val := Elt F) spec1 c [cc1_scratch0] ∗ ∃ r, prngReg c r)

/-- What the region is handed beside the windows: the scratch buffer at some contents and the rest. -/
theorem PhiA0_eq (c : Dev nD) :
    (Pipeline.ΦA spec1 c : sProp 𝕄)
      = iprop(iprop((∃ d, owns (c : Thread nD τ) scM0_0 fullShare d)) ∗ tail (F := F) c) := by
  unfold Pipeline.ΦA; rw [scopedRest1_split]; simp only [scM0_0, owns_whole]
  exact BI.equiv_iff.mp ⟨BI.sep_assoc, BI.sep_assoc'⟩

end Cert.KernelIdeal.R1

end
-- ==== Proof.KernelIdeal.Region1RunA.lean ====
/-
  Kernel call 2: the body run in case A of its branch conditions.
-/
module

public import proofs.«01_k».proof.Proof.KernelIdeal.Region1Runs

@[expose] public section

set_option maxRecDepth 16384

noncomputable section

namespace Cert.KernelIdeal.R1

open Cert.KernelIdeal Cert.KernelIdeal.Gen
open Cert.KernelIdeal.R0 (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

set_option maxHeartbeats 1000000 in
/-- The body run in this case on whole staging memrefs: the pieces it leaves in each output and in the scratch, with the triple. -/
noncomputable def kernelRun0_A (c : Dev nD) (i : grid1.Coords) (arg1 : Memref sig .tc .vmem S64x3x768 .f32) (harg1 : arg1.IsWhole) (arg2 : Memref sig .tc .vmem S768x2049 .f32) (harg2 : arg2.IsWhole) (arg3 : Memref sig .tc .vmem S512x64 .f32) (harg3 : arg3.IsWhole) (arg4 : Memref sig .tc .vmem S64x2049 .f32) (harg4 : arg4.IsWhole) (hc0 : cond0_0 i)
    (x0 : Vec F S64x3x768 .f32) (x1 : Vec F S768x2049 .f32) :
    Σ' (L2 : List (View.Piece (Elt F) S512x64 .f32)), { LS0 : List (View.Piece (Elt F) S64x2049 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__pre_fft_body i arg1 harg1 arg2 harg2 arg3 harg3 arg4 harg4) K } := by
  refine ⟨?_, ?_, fun E K => ?run⟩
  case run =>
    simp only [cc1__pre_fft_body_eq_skeleton]; unfold cc1__pre_fft_body_skel
    simp only [k1_part1_eq_skeleton]
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.R1

end
-- ==== Proof.KernelIdeal.Region1RunB.lean ====
/-
  Kernel call 2: the body run in case B of its branch conditions.
-/
module

public import proofs.«01_k».proof.Proof.KernelIdeal.Region1RunA

@[expose] public section

set_option maxRecDepth 16384

noncomputable section

namespace Cert.KernelIdeal.R1

open Cert.KernelIdeal Cert.KernelIdeal.Gen
open Cert.KernelIdeal.R0 (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

set_option maxHeartbeats 1000000 in
/-- The body run in this case on whole staging memrefs: the pieces it leaves in each output and in the scratch, with the triple. -/
noncomputable def kernelRun0_B (c : Dev nD) (i : grid1.Coords) (arg1 : Memref sig .tc .vmem S64x3x768 .f32) (harg1 : arg1.IsWhole) (arg2 : Memref sig .tc .vmem S768x2049 .f32) (harg2 : arg2.IsWhole) (arg3 : Memref sig .tc .vmem S512x64 .f32) (harg3 : arg3.IsWhole) (arg4 : Memref sig .tc .vmem S64x2049 .f32) (harg4 : arg4.IsWhole) (hc0 : ¬cond0_0 i)
    (x0 : Vec F S64x3x768 .f32) (x1 : Vec F S768x2049 .f32) (xs0 : Vec F S64x2049 .f32) :
    Σ' (L2 : List (View.Piece (Elt F) S512x64 .f32)), { LS0 : List (View.Piece (Elt F) S64x2049 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xs0) -∗ K ⟨⟩))
          ⊢ wp frame (wpE (defs₀ (F := F)) Variants.none c none) E (cc1__pre_fft_body i arg1 harg1 arg2 harg2 arg3 harg3 arg4 harg4) K } := by
  refine ⟨?_, [], fun E K => ?run⟩
  case run =>
    simp only [cc1__pre_fft_body_eq_skeleton]; unfold cc1__pre_fft_body_skel
    simp only [k1_part1_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; isplitr; · ipureintro; exact harg4.read_unread _
    iexact HS0

end Cert.KernelIdeal.R1

end
-- ==== Proof.KernelIdeal.Region1.lean ====
/-
  Kernel call 2: what each point leaves, and the body obligation.
-/
module

public import proofs.«01_k».proof.Proof.KernelIdeal.Region1RunB

@[expose] public section

set_option maxRecDepth 16384

noncomputable section

namespace Cert.KernelIdeal.R1

open Cert.KernelIdeal Cert.KernelIdeal.Gen
open Cert.KernelIdeal.R0 (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

/-- The pieces cover the output block. -/
theorem cover0_A_2 (c : Dev nD) (i : grid1.Coords) (arg1 : Memref sig .tc .vmem S64x3x768 .f32) (harg1 : arg1.IsWhole) (arg2 : Memref sig .tc .vmem S768x2049 .f32) (harg2 : arg2.IsWhole) (arg3 : Memref sig .tc .vmem S512x64 .f32) (harg3 : arg3.IsWhole) (arg4 : Memref sig .tc .vmem S64x2049 .f32) (harg4 : arg4.IsWhole) (hc0 : cond0_0 i)
    (x0 : Vec F S64x3x768 .f32) (x1 : Vec F S768x2049 .f32) (y : S512x64.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S512x64.size (by sl_kernel_rfl) y

/-- What this case leaves in the output window's staging buffer. -/
def out0_A_2 (c : Dev nD) (i : grid1.Coords) (arg1 : Memref sig .tc .vmem S64x3x768 .f32) (harg1 : arg1.IsWhole) (arg2 : Memref sig .tc .vmem S768x2049 .f32) (harg2 : arg2.IsWhole) (arg3 : Memref sig .tc .vmem S512x64 .f32) (harg3 : arg3.IsWhole) (arg4 : Memref sig .tc .vmem S64x2049 .f32) (harg4 : arg4.IsWhole) (hc0 : cond0_0 i)
    (x0 : Vec F S64x3x768 .f32) (x1 : Vec F S768x2049 .f32) : Vec F S512x64 .f32 :=
  VO0_2.read (Elt F) (VO0_2.writes (Elt F) VO0_2.junk (kernelRun0_A c i arg1 harg1 arg2 harg2 arg3 harg3 arg4 harg4 hc0 x0 x1).1)

/-- The pieces cover the scratch. -/
theorem scover0_A_0 (c : Dev nD) (i : grid1.Coords) (arg1 : Memref sig .tc .vmem S64x3x768 .f32) (harg1 : arg1.IsWhole) (arg2 : Memref sig .tc .vmem S768x2049 .f32) (harg2 : arg2.IsWhole) (arg3 : Memref sig .tc .vmem S512x64 .f32) (harg3 : arg3.IsWhole) (arg4 : Memref sig .tc .vmem S64x2049 .f32) (harg4 : arg4.IsWhole) (hc0 : cond0_0 i)
    (x0 : Vec F S64x3x768 .f32) (x1 : Vec F S768x2049 .f32) (y : S64x2049.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S64x2049.size (by sl_kernel_rfl) y

/-- What this case leaves in the scratch. -/
def sout0_A_0 (c : Dev nD) (i : grid1.Coords) (arg1 : Memref sig .tc .vmem S64x3x768 .f32) (harg1 : arg1.IsWhole) (arg2 : Memref sig .tc .vmem S768x2049 .f32) (harg2 : arg2.IsWhole) (arg3 : Memref sig .tc .vmem S512x64 .f32) (harg3 : arg3.IsWhole) (arg4 : Memref sig .tc .vmem S64x2049 .f32) (harg4 : arg4.IsWhole) (hc0 : cond0_0 i)
    (x0 : Vec F S64x3x768 .f32) (x1 : Vec F S768x2049 .f32) : Vec F S64x2049 .f32 :=
  VS0_0.read (Elt F) (VS0_0.writes (Elt F) VS0_0.junk (kernelRun0_A c i arg1 harg1 arg2 harg2 arg3 harg3 arg4 harg4 hc0 x0 x1).2.1)

/-- The pieces cover the output block. -/
theorem cover0_B_2 (c : Dev nD) (i : grid1.Coords) (arg1 : Memref sig .tc .vmem S64x3x768 .f32) (harg1 : arg1.IsWhole) (arg2 : Memref sig .tc .vmem S768x2049 .f32) (harg2 : arg2.IsWhole) (arg3 : Memref sig .tc .vmem S512x64 .f32) (harg3 : arg3.IsWhole) (arg4 : Memref sig .tc .vmem S64x2049 .f32) (harg4 : arg4.IsWhole) (hc0 : ¬cond0_0 i)
    (x0 : Vec F S64x3x768 .f32) (x1 : Vec F S768x2049 .f32) (xs0 : Vec F S64x2049 .f32) (y : S512x64.Idx) :
    ∃ pc ∈ (kernelRun0_B c i arg1 harg1 arg2 harg2 arg3 harg3 arg4 harg4 hc0 x0 x1 xs0).1, y ∈ pc.1.set :=
  View.cover_of_tiledL (kernelRun0_B c i arg1 harg1 arg2 harg2 arg3 harg3 arg4 harg4 hc0 x0 x1 xs0).1 S512x64.size (by sl_kernel_rfl) y

/-- What this case leaves in the output window's staging buffer. -/
def out0_B_2 (c : Dev nD) (i : grid1.Coords) (arg1 : Memref sig .tc .vmem S64x3x768 .f32) (harg1 : arg1.IsWhole) (arg2 : Memref sig .tc .vmem S768x2049 .f32) (harg2 : arg2.IsWhole) (arg3 : Memref sig .tc .vmem S512x64 .f32) (harg3 : arg3.IsWhole) (arg4 : Memref sig .tc .vmem S64x2049 .f32) (harg4 : arg4.IsWhole) (hc0 : ¬cond0_0 i)
    (x0 : Vec F S64x3x768 .f32) (x1 : Vec F S768x2049 .f32) (xs0 : Vec F S64x2049 .f32) : Vec F S512x64 .f32 :=
  VO0_2.read (Elt F) (VO0_2.writes (Elt F) VO0_2.junk (kernelRun0_B c i arg1 harg1 arg2 harg2 arg3 harg3 arg4 harg4 hc0 x0 x1 xs0).1)

/-- What this case leaves in the scratch. -/
def sout0_B_0 (c : Dev nD) (i : grid1.Coords) (arg1 : Memref sig .tc .vmem S64x3x768 .f32) (harg1 : arg1.IsWhole) (arg2 : Memref sig .tc .vmem S768x2049 .f32) (harg2 : arg2.IsWhole) (arg3 : Memref sig .tc .vmem S512x64 .f32) (harg3 : arg3.IsWhole) (arg4 : Memref sig .tc .vmem S64x2049 .f32) (harg4 : arg4.IsWhole) (hc0 : ¬cond0_0 i)
    (x0 : Vec F S64x3x768 .f32) (x1 : Vec F S768x2049 .f32) (xs0 : Vec F S64x2049 .f32) : Vec F S64x2049 .f32 := xs0

/-- What the outputs and the scratch hold after each point, by recursion on the point. -/
def outsAt0 (c : Dev nD) : (n : ℕ) → n < cfg1.N → Vec F S512x64 .f32 × Vec F S64x2049 .f32
  | 0, hn => (out0_A_2 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk V c 0 ⟨0, hn⟩) (iblk V c 1 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk V c 0 ⟨0, hn⟩) (iblk V c 1 ⟨0, hn⟩))
  | n + 1, hn =>
    if h0 : (n + 1) % 8 = 0 then
      (out0_A_2 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk V c 0 ⟨n + 1, hn⟩) (iblk V c 1 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk V c 0 ⟨n + 1, hn⟩) (iblk V c 1 ⟨n + 1, hn⟩))
    else
      (out0_B_2 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk V c 0 ⟨n + 1, hn⟩) (iblk V c 1 ⟨n + 1, hn⟩) (outsAt0 c n (Nat.lt_of_succ_lt hn)).2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk V c 0 ⟨n + 1, hn⟩) (iblk V c 1 ⟨n + 1, hn⟩) (outsAt0 c n (Nat.lt_of_succ_lt hn)).2)

/-- The recursion at a point of this case. -/
theorem outsAt0_A (c : Dev nD) (t : Fin cfg1.N) (h0 : t.val % 8 = 0) :
    outsAt0 V c t.val t.isLt = (out0_A_2 c (grid1.coords t) (ms0_0 t) (hs0_0 t) (ms0_1 t) (hs0_1 t) (ms0_2 t) (hs0_2 t) scM0_0 (Memref.isWhole_whole _) ((hcond0_0 t).mpr h0) (iblk V c 0 t) (iblk V c 1 t), sout0_A_0 c (grid1.coords t) (ms0_0 t) (hs0_0 t) (ms0_1 t) (hs0_1 t) (ms0_2 t) (hs0_2 t) scM0_0 (Memref.isWhole_whole _) ((hcond0_0 t).mpr h0) (iblk V c 0 t) (iblk V c 1 t)) := by
  obtain ⟨n, hn⟩ := t
  cases n with
  | zero => exact rfl
  | succ n => exact (dif_pos h0).trans rfl

/-- The recursion at a point of this case. -/
theorem outsAt0_B (c : Dev nD) (t : Fin cfg1.N) (h0 : ¬t.val % 8 = 0) :
    outsAt0 V c t.val t.isLt = (out0_B_2 c (grid1.coords t) (ms0_0 t) (hs0_0 t) (ms0_1 t) (hs0_1 t) (ms0_2 t) (hs0_2 t) scM0_0 (Memref.isWhole_whole _) (fun h => h0 ((hcond0_0 t).mp h)) (iblk V c 0 t) (iblk V c 1 t) (outsAt0 V c (t.val - 1) (Nat.lt_of_le_of_lt (Nat.sub_le _ _) t.isLt)).2, sout0_B_0 c (grid1.coords t) (ms0_0 t) (hs0_0 t) (ms0_1 t) (hs0_1 t) (ms0_2 t) (hs0_2 t) scM0_0 (Memref.isWhole_whole _) (fun h => h0 ((hcond0_0 t).mp h)) (iblk V c 0 t) (iblk V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What holds between points beside the windows: the scratch at what the point before left. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2)) ∗ tail (F := F) c)

/-- The invariant at such a position. -/
theorem PhiS_zero (c : Dev nD) (n : ℕ) (h : n ≤ cfg1.N) (hz : n = 0) : PhiS V c n h = Pipeline.ΦA spec1 c := by
  subst hz; rfl

/-- The invariant at such a position. -/
theorem PhiS_succ (c : Dev nD) (n : ℕ) (hn : n < cfg1.N) :
    PhiS V c (n + 1) hn = iprop(iprop(owns (c : Thread nD τ) scM0_0 fullShare ((outsAt0 V c n hn).2)) ∗ tail (F := F) c) := rfl

/-- The invariant at such a position. -/
theorem PhiS_pos (c : Dev nD) (n : ℕ) (h : n ≤ cfg1.N) (hz : n ≠ 0) :
    PhiS V c n h = iprop(iprop(owns (c : Thread nD τ) scM0_0 fullShare ((outsAt0 V c (n - 1) (by omega)).2)) ∗ tail (F := F) c) := by
  cases n with
  | zero => exact absurd rfl hz
  | succ n => rfl

/-- The proof data of the region: the arrays as found, and what each window holds after each point. -/
def dat (c : Dev nD) : Dat τ (Elt F) Unit ℕ UU ℕ cfg1 c where
  A w := V c (Pipeline.arrRef spec1 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q _ := fullShare
  owed _ := 0

/-- The arrays are as the region finds them. -/
theorem A_eq (c : Dev nD) (w : Fin cfg1.W) : (dat V c).A w = V c (Pipeline.arrRef spec1 w) := by
  dsimp only [dat]

/-- The invariant at such a position. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves in this window. -/
theorem after0_0 (c : Dev nD) (t : Fin cfg1.N) : (dat V c).after 0 t = iblk V c 0 t := by dsimp only [dat]
/-- What the body leaves in this window. -/
theorem after0_1 (c : Dev nD) (t : Fin cfg1.N) : (dat V c).after 1 t = iblk V c 1 t := by dsimp only [dat]
/-- What the body leaves in this window. -/
theorem after0_2 (c : Dev nD) (t : Fin cfg1.N) : (dat V c).after 2 t = (outsAt0 V c t.val t.isLt).1 := by dsimp only [dat]

/-- What this input window holds when the body runs. -/
theorem before0_0 (c : Dev nD) (t : Fin cfg1.N) (d) : (dat V c).before 0 t d = iblk V c 0 t :=
  before0_0_of V (dat V c) (A_eq V c 0) (after0_0 V c) t d
/-- What this input window holds when the body runs. -/
theorem before0_1 (c : Dev nD) (t : Fin cfg1.N) (d) : (dat V c).before 1 t d = iblk V c 1 t :=
  before0_1_of V (dat V c) (A_eq V c 1) (after0_1 V c) t d

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- What the body returns at point `t`. -/
def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t))

set_option maxHeartbeats 3200000 in
/-- The body at any point, from the precondition to the postcondition. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).owesAt () t.succ = (dat V c).owesAt () t.castSucc from rfl,
    after0_0, after0_1, after0_2]
  rw [show (dat V c).Φ t.succ = PhiS V c (t.val + 1) t.isLt from rfl, PhiS_succ]
  have hN : t.val < 8 := lt_of_lt_of_eq t.isLt (show cfg1.N = 8 from N_1)
  by_cases h0 : t.val % 8 = 0
  · by_cases hz : t.val = 0
    · rw [PhiS_castSucc V c t, PhiS_zero V c _ _ hz, PhiA0_eq]
      rw [outsAt0_A V c t h0]
      unfold out0_A_2 sout0_A_0; (try dsimp only)
      iintro ⟨⟨HS0, Hg⟩, Ho, ⟨%d0, H0⟩, ⟨%d1, H1⟩, ⟨%d2, H2⟩⟩
      iapply ((kernelRun0_A c (grid1.coords t) _ _ _ _ _ _ _ _ ((hcond0_0 t).mpr h0) (iblk V c 0 t) (iblk V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · exfalso; have hN : t.val < 8 := lt_of_lt_of_eq t.isLt (show cfg1.N = 8 from N_1); omega
  · by_cases hz : t.val = 0
    · exfalso; have hN : t.val < 8 := lt_of_lt_of_eq t.isLt (show cfg1.N = 8 from N_1); omega
    · rw [PhiS_castSucc V c t, PhiS_pos V c _ _ hz]
      rw [outsAt0_B V c t h0]
      unfold out0_B_2 sout0_B_0; (try dsimp only)
      iintro ⟨⟨HS0, Hg⟩, Ho, ⟨%d0, H0⟩, ⟨%d1, H1⟩, ⟨%d2, H2⟩⟩
      iapply ((kernelRun0_B c (grid1.coords t) _ _ _ _ _ _ _ _ (fun h => h0 ((hcond0_0 t).mp h)) (iblk V c 0 t) (iblk V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hg]
      · isplitl [HS0]
        · iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _)

/-- The body table's row is the body. -/
theorem defs₀_row (t : Fin cfg1.N) :
    defs₀ (F := F) .tc cfg1.body (cfg1.bodyArgs t (cfg1.slots t)) = bodyAt1 t := by
  unfold defs₀; rw [Defs.onTc_tc]

/-- The body obligation of the pipeline, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the region's resources back. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- After the last point the invariant gives the region's resources back. -/
theorem hout (c : Dev nD) : (dat V c).Φ (Fin.last cfg1.N) ⊢ Pipeline.ΦA spec1 c :=
  Phi_out V c _ (by rw [Fin.val_last]; have : cfg1.N = 8 := N_1; omega)

end Cert.KernelIdeal.R1

end
-- ==== Proof.KernelIdeal.Region2Runs.lean ====
/-
  Kernel call 3: what its runs share — blocks, branch conditions, staging memrefs.
-/
module

public import proofs.«01_k».proof.Proof.KernelIdeal.Region0
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R2

open Cert.KernelIdeal Cert.KernelIdeal.Gen
open Cert.KernelIdeal.R0 (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

/-- The block of window `w` at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window whose block is left in place holds that block at every point. -/
theorem before0_0_of {c : Dev nD} (dat : Dat τ (Elt F) Unit ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_1_of {c : Dev nD} (dat : Dat τ (Elt F) Unit ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_2_of {c : Dev nD} (dat : Dat τ (Elt F) Unit ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_3_of {c : Dev nD} (dat : Dat τ (Elt F) Unit ℕ UU ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_4_of {c : Dev nD} (dat : Dat τ (Elt F) Unit ℕ UU ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_5_of {c : Dev nD} (dat : Dat τ (Elt F) Unit ℕ UU ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window whose block is left in place holds that block at every point. -/
theorem before0_6_of {c : Dev nD} (dat : Dat τ (Elt F) Unit ℕ UU ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The condition of the first branch, read off the grid coordinate. -/
abbrev cond0_0 (i : grid2.Coords) : Prop := (Scalar.cmpi .ne (Scalar.extui (Scalar.cmpi .eq (BitVec.ofNat 32 (i 0).val) 0#32)) 0#32) = 1#1
/-- The branch condition in terms of the point number. -/
theorem hcond0_0 : ∀ t : Fin cfg2.N, cond0_0 (grid2.coords t) ↔ t.val % 16 = 0 :=
  (fun t => by
    have ht : t.val < 16 := Nat.lt_of_lt_of_eq t.isLt N_2
    have e0 : (grid2.coords t 0).val = t.val / 1 % 16 := Pipeline.Grid.coords_val t 0 (by decide) rfl
    simp only [cond0_0, e0]
    word_cmp
   : ∀ t : Fin grid2.N, cond0_0 (grid2.coords t) ↔ t.val % 16 = 0)

/-- The condition of the second branch, read off the grid coordinate. -/
abbrev cond0_1 (i : grid2.Coords) : Prop := k2_cond2 i = 1#1
/-- The branch condition in terms of the point number. -/
theorem hcond0_1 : ∀ t : Fin cfg2.N, cond0_1 (grid2.coords t) ↔ t.val % 16 = 15 :=
  (fun t => by
    have ht : t.val < 16 := Nat.lt_of_lt_of_eq t.isLt N_2
    have e0 : (grid2.coords t 0).val = t.val / 1 % 16 := Pipeline.Grid.coords_val t 0 (by decide) rfl
    simp only [cond0_1, k2_cond2, e0]
    word_cmp
   : ∀ t : Fin grid2.N, cond0_1 (grid2.coords t) ↔ t.val % 16 = 15)

/-- The window is used at these points. -/
theorem liveAt0_0 : ∀ t : Fin cfg2.N, cfg2.idle 0 (grid2.coords t) = false := fun _ => rfl
/-- The window is used at these points. -/
theorem liveAt0_1 : ∀ t : Fin cfg2.N, cfg2.idle 1 (grid2.coords t) = false := fun _ => rfl
/-- The window is used at these points. -/
theorem liveAt0_2 : ∀ t : Fin cfg2.N, cfg2.idle 2 (grid2.coords t) = false := fun _ => rfl
/-- The window is used at these points. -/
theorem liveAt0_3 : ∀ t : Fin cfg2.N, cfg2.idle 3 (grid2.coords t) = false := fun _ => rfl
/-- The window is used at these points. -/
theorem liveAt0_4 : ∀ t : Fin cfg2.N, cfg2.idle 4 (grid2.coords t) = false := fun _ => rfl
/-- The window is used at these points. -/
theorem liveAt0_5 : ∀ t : Fin cfg2.N, cfg2.idle 5 (grid2.coords t) = false := fun _ => rfl
/-- The window is used at these points. -/
theorem liveAt0_6 : ∀ t : Fin cfg2.N, cfg2.idle 6 (grid2.coords t) = false := fun _ => rfl
/-- The window is used at these points. -/
theorem liveAt0_7 : ∀ t : Fin cfg2.N, cfg2.idle 7 (grid2.coords t) = false := fun _ => rfl
/-- The window is left alone at these points. -/
theorem idleAt0_8_A : ∀ t : Fin cfg2.N, cond0_0 (grid2.coords t) → ¬cond0_1 (grid2.coords t) → cfg2.idle 8 (grid2.coords t) = true := by decide +kernel
/-- The window is not written back at these points. -/
theorem noFlush0_8_A : ∀ t : Fin cfg2.N, cond0_0 (grid2.coords t) → ¬cond0_1 (grid2.coords t) → (cfg2.win 8).flush t = false := by decide +kernel
/-- The window is left alone at these points. -/
theorem idleAt0_8_B : ∀ t : Fin cfg2.N, ¬cond0_0 (grid2.coords t) → ¬cond0_1 (grid2.coords t) → cfg2.idle 8 (grid2.coords t) = true := by decide +kernel
/-- The window is not written back at these points. -/
theorem noFlush0_8_B : ∀ t : Fin cfg2.N, ¬cond0_0 (grid2.coords t) → ¬cond0_1 (grid2.coords t) → (cfg2.win 8).flush t = false := by decide +kernel
/-- The window is used at these points. -/
theorem liveAt0_8_C : ∀ t : Fin cfg2.N, ¬cond0_0 (grid2.coords t) → cond0_1 (grid2.coords t) → cfg2.idle 8 (grid2.coords t) = false := by decide +kernel
/-- The window is left alone at these points. -/
theorem idleAt0_9_A : ∀ t : Fin cfg2.N, cond0_0 (grid2.coords t) → ¬cond0_1 (grid2.coords t) → cfg2.idle 9 (grid2.coords t) = true := by decide +kernel
/-- The window is not written back at these points. -/
theorem noFlush0_9_A : ∀ t : Fin cfg2.N, cond0_0 (grid2.coords t) → ¬cond0_1 (grid2.coords t) → (cfg2.win 9).flush t = false := by decide +kernel
/-- The window is left alone at these points. -/
theorem idleAt0_9_B : ∀ t : Fin cfg2.N, ¬cond0_0 (grid2.coords t) → ¬cond0_1 (grid2.coords t) → cfg2.idle 9 (grid2.coords t) = true := by decide +kernel
/-- The window is not written back at these points. -/
theorem noFlush0_9_B : ∀ t : Fin cfg2.N, ¬cond0_0 (grid2.coords t) → ¬cond0_1 (grid2.coords t) → (cfg2.win 9).flush t = false := by decide +kernel
/-- The window is used at these points. -/
theorem liveAt0_9_C : ∀ t : Fin cfg2.N, ¬cond0_0 (grid2.coords t) → cond0_1 (grid2.coords t) → cfg2.idle 9 (grid2.coords t) = false := by decide +kernel

/-- A staging buffer of an output window, through which its contents are stated. -/
abbrev VO0_7 : View sig .tc .vmem S64x1x4096 .f32 := (Memref.whole cc2_stg7_0 : Memref sig .tc .vmem S64x1x4096 .f32).view
/-- A staging buffer of an output window, through which its contents are stated. -/
abbrev VO0_8 : View sig .tc .smem S1x1 .f32 := (Memref.whole cc2_stg8_0 : Memref sig .tc .smem S1x1 .f32).view
/-- A staging buffer of an output window, through which its contents are stated. -/
abbrev VO0_9 : View sig .tc .smem S1x1 .f32 := (Memref.whole cc2_stg9_0 : Memref sig .tc .smem S1x1 .f32).view
/-- The window's current staging memref at point `t`. -/
abbrev ms0_0 (t : Fin cfg2.N) : Memref sig .tc .vmem S64x1x4096 .f32 := win2_0.stage (cfg2.slots t 0)
/-- That staging memref is whole. -/
abbrev hs0_0 (t : Fin cfg2.N) : (ms0_0 t).IsWhole := hstage2_0 ((cfg2.slots t 0).cast nbuf2_0)
/-- The window's current staging memref at point `t`. -/
abbrev ms0_1 (t : Fin cfg2.N) : Memref sig .tc .vmem S4096x64 .f32 := win2_1.stage (cfg2.slots t 1)
/-- That staging memref is whole. -/
abbrev hs0_1 (t : Fin cfg2.N) : (ms0_1 t).IsWhole := hstage2_1 ((cfg2.slots t 1).cast nbuf2_1)
/-- The window's current staging memref at point `t`. -/
abbrev ms0_2 (t : Fin cfg2.N) : Memref sig .tc .vmem S4096x64 .f32 := win2_2.stage (cfg2.slots t 2)
/-- That staging memref is whole. -/
abbrev hs0_2 (t : Fin cfg2.N) : (ms0_2 t).IsWhole := hstage2_2 ((cfg2.slots t 2).cast nbuf2_2)
/-- The window's current staging memref at point `t`. -/
abbrev ms0_3 (t : Fin cfg2.N) : Memref sig .tc .vmem S4096x64 .f32 := win2_3.stage (cfg2.slots t 3)
/-- That staging memref is whole. -/
abbrev hs0_3 (t : Fin cfg2.N) : (ms0_3 t).IsWhole := hstage2_3 ((cfg2.slots t 3).cast nbuf2_3)
/-- The window's current staging memref at point `t`. -/
abbrev ms0_4 (t : Fin cfg2.N) : Memref sig .tc .vmem S1x64 .f32 := win2_4.stage (cfg2.slots t 4)
/-- That staging memref is whole. -/
abbrev hs0_4 (t : Fin cfg2.N) : (ms0_4 t).IsWhole := hstage2_4 ((cfg2.slots t 4).cast nbuf2_4)
/-- The window's current staging memref at point `t`. -/
abbrev ms0_5 (t : Fin cfg2.N) : Memref sig .tc .vmem S1x4096 .f32 := win2_5.stage (cfg2.slots t 5)
/-- That staging memref is whole. -/
abbrev hs0_5 (t : Fin cfg2.N) : (ms0_5 t).IsWhole := hstage2_5 ((cfg2.slots t 5).cast nbuf2_5)
/-- The window's current staging memref at point `t`. -/
abbrev ms0_6 (t : Fin cfg2.N) : Memref sig .tc .vmem S64x3x64 .f32 := win2_6.stage (cfg2.slots t 6)
/-- That staging memref is whole. -/
abbrev hs0_6 (t : Fin cfg2.N) : (ms0_6 t).IsWhole := hstage2_6 ((cfg2.slots t 6).cast nbuf2_6)
/-- The window's current staging memref at point `t`. -/
abbrev ms0_7 (t : Fin cfg2.N) : Memref sig .tc .vmem S64x1x4096 .f32 := win2_7.stage (cfg2.slots t 7)
/-- That staging memref is whole. -/
abbrev hs0_7 (t : Fin cfg2.N) : (ms0_7 t).IsWhole := hstage2_7 ((cfg2.slots t 7).cast nbuf2_7)
/-- The window's current staging memref at point `t`. -/
abbrev ms0_8 (t : Fin cfg2.N) : Memref sig .tc .smem S1x1 .f32 := win2_8.stage (cfg2.slots t 8)
/-- That staging memref is whole. -/
abbrev hs0_8 (t : Fin cfg2.N) : (ms0_8 t).IsWhole := hstage2_8 ((cfg2.slots t 8).cast nbuf2_8)
/-- The window's current staging memref at point `t`. -/
abbrev ms0_9 (t : Fin cfg2.N) : Memref sig .tc .smem S1x1 .f32 := win2_9.stage (cfg2.slots t 9)
/-- That staging memref is whole. -/
abbrev hs0_9 (t : Fin cfg2.N) : (ms0_9 t).IsWhole := hstage2_9 ((cfg2.slots t 9).cast nbuf2_9)
/-- The scratch buffer as a memref. -/
abbrev scM0_0 : Memref sig .tc .smem S2 .f32 := Memref.whole cc2_scratch0
/-- The scratch buffer as a view. -/
abbrev VS0_0 : View sig .tc .smem S2 .f32 := scM0_0.view

/-- The buffers of the kernel's scope that no window of this region stages: the scratch and the others. -/
theorem scopedRest2_split (c : Dev nD) :
    (Pipeline.scopedRest (Ix := Unit) (Name := ℕ) (U := UU) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UU) (Lvl := ℕ) (Val := Elt F) spec2 c [cc2_scratch0]) :=
  Pipeline.scopedRest_split_of_list spec2 c [cc2_scratch0] (by decide) (by decide)

/-- What rides along beside the scratch: the other buffers of the kernel's scope and the generator register. -/
abbrev tail (c : Dev nD) : sProp 𝕄 := iprop(Pipeline.scopedRestBut (Ix := Unit) (Name := ℕ) (U := UU) (Lvl := ℕ) (Val := Elt F) spec2 c [cc2_scratch0] ∗ ∃ r, prngReg c r)

/-- What the region is handed beside the windows: the scratch buffer at some contents and the rest. -/
theorem PhiA0_eq (c : Dev nD) :
    (Pipeline.ΦA spec2 c : sProp 𝕄)
      = iprop(iprop((∃ d, owns (c : Thread nD τ) scM0_0 fullShare d)) ∗ tail (F := F) c) := by
  unfold Pipeline.ΦA; rw [scopedRest2_split]; simp only [scM0_0, owns_whole]
  exact BI.equiv_iff.mp ⟨BI.sep_assoc, BI.sep_assoc'⟩

end Cert.KernelIdeal.R2

end
-- ==== Proof.KernelIdeal.Region2RunA.lean ====
/-
  Kernel call 3: the body run in case A of its branch conditions.
-/
module

public import proofs.«01_k».proof.Proof.KernelIdeal.Region2Runs

@[expose] public section

set_option maxRecDepth 16384

noncomputable section

namespace Cert.KernelIdeal.R2

open Cert.KernelIdeal Cert.KernelIdeal.Gen
open Cert.KernelIdeal.R0 (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

set_option maxHeartbeats 1000000 in
/-- The body run in this case on whole staging memrefs: the pieces it leaves in each output and in the scratch, with the triple. -/
noncomputable def kernelRun0_A (c : Dev nD) (i : grid2.Coords) (arg1 : Memref sig .tc .vmem S64x1x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S1x64 .f32) (harg5 : arg5.IsWhole) (arg6 : Memref sig .tc .vmem S1x4096 .f32) (harg6 : arg6.IsWhole) (arg7 : Memref sig .tc .vmem S64x3x64 .f32) (harg7 : arg7.IsWhole) (arg8 : Memref sig .tc .vmem S64x1x4096 .f32) (harg8 : arg8.IsWhole) (arg9 : Memref sig .tc .smem S1x1 .f32) (harg9 : arg9.IsWhole) (arg10 : Memref sig .tc .smem S1x1 .f32) (harg10 : arg10.IsWhole) (arg11 : Memref sig .tc .smem S2 .f32) (harg11 : arg11.IsWhole) (hc0 : cond0_0 i) (hc1 : ¬cond0_1 i)
    (x0 : Vec F S64x1x4096 .f32) (x1 : Vec F S4096x64 .f32) (x2 : Vec F S4096x64 .f32) (x3 : Vec F S4096x64 .f32) (x4 : Vec F S1x64 .f32) (x5 : Vec F S1x4096 .f32) (x6 : Vec F S64x3x64 .f32) :
    Σ' (L7 : List (View.Piece (Elt F) S64x1x4096 .f32)), Σ' (L8 : List (View.Piece (Elt F) S1x1 .f32)), Σ' (L9 : List (View.Piece (Elt F) S1x1 .f32)), { LS0 : List (View.Piece (Elt F) S2 .f32) //
      ∀ (xi8 : Vec F S1x1 .f32) (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc2__main_body i arg1 harg1 arg2 harg2 arg3 harg3 arg4 harg4 arg5 harg5 arg6 harg6 arg7 harg7 arg8 harg8 arg9 harg9 arg10 harg10 arg11 harg11) K } := by
  refine ⟨?_, [], [], ?_, fun xi8 xi9 E K => ?run⟩
  case run =>
    simp only [cc2__main_body_eq_skeleton]; unfold cc2__main_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    iexists _; iexact HS0

end Cert.KernelIdeal.R2

end
-- ==== Proof.KernelIdeal.Region2RunB.lean ====
/-
  Kernel call 3: the body run in case B of its branch conditions.
-/
module

public import proofs.«01_k».proof.Proof.KernelIdeal.Region2RunA

@[expose] public section

set_option maxRecDepth 16384

noncomputable section

namespace Cert.KernelIdeal.R2

open Cert.KernelIdeal Cert.KernelIdeal.Gen
open Cert.KernelIdeal.R0 (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

set_option maxHeartbeats 1000000 in
/-- The body run in this case on whole staging memrefs: the pieces it leaves in each output and in the scratch, with the triple. -/
noncomputable def kernelRun0_B (c : Dev nD) (i : grid2.Coords) (arg1 : Memref sig .tc .vmem S64x1x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S1x64 .f32) (harg5 : arg5.IsWhole) (arg6 : Memref sig .tc .vmem S1x4096 .f32) (harg6 : arg6.IsWhole) (arg7 : Memref sig .tc .vmem S64x3x64 .f32) (harg7 : arg7.IsWhole) (arg8 : Memref sig .tc .vmem S64x1x4096 .f32) (harg8 : arg8.IsWhole) (arg9 : Memref sig .tc .smem S1x1 .f32) (harg9 : arg9.IsWhole) (arg10 : Memref sig .tc .smem S1x1 .f32) (harg10 : arg10.IsWhole) (arg11 : Memref sig .tc .smem S2 .f32) (harg11 : arg11.IsWhole) (hc0 : ¬cond0_0 i) (hc1 : ¬cond0_1 i)
    (x0 : Vec F S64x1x4096 .f32) (x1 : Vec F S4096x64 .f32) (x2 : Vec F S4096x64 .f32) (x3 : Vec F S4096x64 .f32) (x4 : Vec F S1x64 .f32) (x5 : Vec F S1x4096 .f32) (x6 : Vec F S64x3x64 .f32) (xs0 : Vec F S2 .f32) :
    Σ' (L7 : List (View.Piece (Elt F) S64x1x4096 .f32)), Σ' (L8 : List (View.Piece (Elt F) S1x1 .f32)), Σ' (L9 : List (View.Piece (Elt F) S1x1 .f32)), { LS0 : List (View.Piece (Elt F) S2 .f32) //
      ∀ (xi8 : Vec F S1x1 .f32) (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc2__main_body i arg1 harg1 arg2 harg2 arg3 harg3 arg4 harg4 arg5 harg5 arg6 harg6 arg7 harg7 arg8 harg8 arg9 harg9 arg10 harg10 arg11 harg11) K } := by
  refine ⟨?_, [], [], ?_, fun xi8 xi9 E K => ?run⟩
  case run =>
    simp only [cc2__main_body_eq_skeleton]; unfold cc2__main_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    iexists _; iexact HS0

end Cert.KernelIdeal.R2

end
-- ==== Proof.KernelIdeal.Region2RunC.lean ====
/-
  Kernel call 3: the body run in case C of its branch conditions.
-/
module

public import proofs.«01_k».proof.Proof.KernelIdeal.Region2RunB

@[expose] public section

set_option maxRecDepth 16384

noncomputable section

namespace Cert.KernelIdeal.R2

open Cert.KernelIdeal Cert.KernelIdeal.Gen
open Cert.KernelIdeal.R0 (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

set_option maxHeartbeats 1000000 in
/-- The body run in this case on whole staging memrefs: the pieces it leaves in each output and in the scratch, with the triple. -/
noncomputable def kernelRun0_C (c : Dev nD) (i : grid2.Coords) (arg1 : Memref sig .tc .vmem S64x1x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S1x64 .f32) (harg5 : arg5.IsWhole) (arg6 : Memref sig .tc .vmem S1x4096 .f32) (harg6 : arg6.IsWhole) (arg7 : Memref sig .tc .vmem S64x3x64 .f32) (harg7 : arg7.IsWhole) (arg8 : Memref sig .tc .vmem S64x1x4096 .f32) (harg8 : arg8.IsWhole) (arg9 : Memref sig .tc .smem S1x1 .f32) (harg9 : arg9.IsWhole) (arg10 : Memref sig .tc .smem S1x1 .f32) (harg10 : arg10.IsWhole) (arg11 : Memref sig .tc .smem S2 .f32) (harg11 : arg11.IsWhole) (hc0 : ¬cond0_0 i) (hc1 : cond0_1 i)
    (x0 : Vec F S64x1x4096 .f32) (x1 : Vec F S4096x64 .f32) (x2 : Vec F S4096x64 .f32) (x3 : Vec F S4096x64 .f32) (x4 : Vec F S1x64 .f32) (x5 : Vec F S1x4096 .f32) (x6 : Vec F S64x3x64 .f32) (xs0 : Vec F S2 .f32) :
    Σ' (L7 : List (View.Piece (Elt F) S64x1x4096 .f32)), Σ' (L8 : List (View.Piece (Elt F) S1x1 .f32)), Σ' (L9 : List (View.Piece (Elt F) S1x1 .f32)), { LS0 : List (View.Piece (Elt F) S2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc2__main_body i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc2__main_body_eq_skeleton]; unfold cc2__main_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS0

end Cert.KernelIdeal.R2

end
-- ==== Proof.KernelIdeal.Region2.lean ====
/-
  Kernel call 3: what each point leaves, and the body obligation.
-/
module

public import proofs.«01_k».proof.Proof.KernelIdeal.Region2RunC

@[expose] public section

set_option maxRecDepth 16384

noncomputable section

namespace Cert.KernelIdeal.R2

open Cert.KernelIdeal Cert.KernelIdeal.Gen
open Cert.KernelIdeal.R0 (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

section
variable (c : Dev nD) (i : grid2.Coords) (arg1 : Memref sig .tc .vmem S64x1x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S1x64 .f32) (harg5 : arg5.IsWhole) (arg6 : Memref sig .tc .vmem S1x4096 .f32) (harg6 : arg6.IsWhole) (arg7 : Memref sig .tc .vmem S64x3x64 .f32) (harg7 : arg7.IsWhole) (arg8 : Memref sig .tc .vmem S64x1x4096 .f32) (harg8 : arg8.IsWhole) (arg9 : Memref sig .tc .smem S1x1 .f32) (harg9 : arg9.IsWhole) (arg10 : Memref sig .tc .smem S1x1 .f32) (harg10 : arg10.IsWhole) (arg11 : Memref sig .tc .smem S2 .f32) (harg11 : arg11.IsWhole) (hc0 : cond0_0 i) (hc1 : ¬cond0_1 i)
    (x0 : Vec F S64x1x4096 .f32) (x1 : Vec F S4096x64 .f32) (x2 : Vec F S4096x64 .f32) (x3 : Vec F S4096x64 .f32) (x4 : Vec F S1x64 .f32) (x5 : Vec F S1x4096 .f32) (x6 : Vec F S64x3x64 .f32)

/-- The pieces cover the output block. -/
theorem cover0_A_7 (y : S64x1x4096.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1 S64x1x4096.size (by sl_kernel_rfl) y

/-- What this case leaves in the output window's staging buffer. -/
def out0_A_7 : Vec F S64x1x4096 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1)

/-- What this case leaves in the output window's staging buffer. -/
def out0_A_8 : Vec F S1x1 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.1)

/-- What this case leaves in the output window's staging buffer. -/
def out0_A_9 : Vec F S1x1 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1)

/-- The pieces cover the scratch. -/
theorem scover0_A_0 (y : S2.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.2.1 S1.size (by sl_kernel_rfl) y

/-- What this case leaves in the scratch. -/
def sout0_A_0 : Vec F S2 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.2.1)

end

section
variable (c : Dev nD) (i : grid2.Coords) (arg1 : Memref sig .tc .vmem S64x1x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S1x64 .f32) (harg5 : arg5.IsWhole) (arg6 : Memref sig .tc .vmem S1x4096 .f32) (harg6 : arg6.IsWhole) (arg7 : Memref sig .tc .vmem S64x3x64 .f32) (harg7 : arg7.IsWhole) (arg8 : Memref sig .tc .vmem S64x1x4096 .f32) (harg8 : arg8.IsWhole) (arg9 : Memref sig .tc .smem S1x1 .f32) (harg9 : arg9.IsWhole) (arg10 : Memref sig .tc .smem S1x1 .f32) (harg10 : arg10.IsWhole) (arg11 : Memref sig .tc .smem S2 .f32) (harg11 : arg11.IsWhole) (hc0 : ¬cond0_0 i) (hc1 : ¬cond0_1 i)
    (x0 : Vec F S64x1x4096 .f32) (x1 : Vec F S4096x64 .f32) (x2 : Vec F S4096x64 .f32) (x3 : Vec F S4096x64 .f32) (x4 : Vec F S1x64 .f32) (x5 : Vec F S1x4096 .f32) (x6 : Vec F S64x3x64 .f32) (xs0 : Vec F S2 .f32)

/-- The pieces cover the output block. -/
theorem cover0_B_7 (y : S64x1x4096.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xs0).1 S64x1x4096.size (by sl_kernel_rfl) y

/-- What this case leaves in the output window's staging buffer. -/
def out0_B_7 : Vec F S64x1x4096 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xs0).1)

/-- What this case leaves in the output window's staging buffer. -/
def out0_B_8 : Vec F S1x1 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.1)

/-- What this case leaves in the output window's staging buffer. -/
def out0_B_9 : Vec F S1x1 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.2.1)

/-- The pieces cover the scratch. -/
theorem scover0_B_0 (y : S2.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.2.2.1 S1.size (by sl_kernel_rfl) y

/-- What this case leaves in the scratch. -/
def sout0_B_0 : Vec F S2 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.2.2.1)

end

section
variable (c : Dev nD) (i : grid2.Coords) (arg1 : Memref sig .tc .vmem S64x1x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S1x64 .f32) (harg5 : arg5.IsWhole) (arg6 : Memref sig .tc .vmem S1x4096 .f32) (harg6 : arg6.IsWhole) (arg7 : Memref sig .tc .vmem S64x3x64 .f32) (harg7 : arg7.IsWhole) (arg8 : Memref sig .tc .vmem S64x1x4096 .f32) (harg8 : arg8.IsWhole) (arg9 : Memref sig .tc .smem S1x1 .f32) (harg9 : arg9.IsWhole) (arg10 : Memref sig .tc .smem S1x1 .f32) (harg10 : arg10.IsWhole) (arg11 : Memref sig .tc .smem S2 .f32) (harg11 : arg11.IsWhole) (hc0 : ¬cond0_0 i) (hc1 : cond0_1 i)
    (x0 : Vec F S64x1x4096 .f32) (x1 : Vec F S4096x64 .f32) (x2 : Vec F S4096x64 .f32) (x3 : Vec F S4096x64 .f32) (x4 : Vec F S1x64 .f32) (x5 : Vec F S1x4096 .f32) (x6 : Vec F S64x3x64 .f32) (xs0 : Vec F S2 .f32)

/-- The pieces cover the output block. -/
theorem cover0_C_7 (y : S64x1x4096.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).1 S64x1x4096.size (by sl_kernel_rfl) y

/-- What this case leaves in the output window's staging buffer. -/
def out0_C_7 : Vec F S64x1x4096 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).1)

/-- The pieces cover the output block. -/
theorem cover0_C_8 (y : S1x1.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.1 S1x1.size (by sl_kernel_rfl) y

/-- What this case leaves in the output window's staging buffer. -/
def out0_C_8 : Vec F S1x1 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.1)

/-- The pieces cover the output block. -/
theorem cover0_C_9 (y : S1x1.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.2.1 S1x1.size (by sl_kernel_rfl) y

/-- What this case leaves in the output window's staging buffer. -/
def out0_C_9 : Vec F S1x1 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.2.1)

/-- The pieces cover the scratch. -/
theorem scover0_C_0 (y : S2.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.2.2.1 S1.size (by sl_kernel_rfl) y

/-- What this case leaves in the scratch. -/
def sout0_C_0 : Vec F S2 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 xs0).2.2.2.1)
end

/-- What the outputs and the scratch hold after each point, by recursion on the point. -/
def outsAt0 (c : Dev nD) : (n : ℕ) → n < cfg2.N → Vec F S64x1x4096 .f32 × Vec F S1x1 .f32 × Vec F S1x1 .f32 × Vec F S2 .f32
  | 0, hn => (out0_A_7 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), out0_A_8 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), out0_A_9 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), sout0_A_0 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    if h0 : (n + 1) % 16 = 0 then
      if h1 : (n + 1) % 16 = 15 then
        False.elim (by have hN : n + 1 < 16 := lt_of_lt_of_eq hn (show cfg2.N = 16 from N_2); omega)
      else
        (out0_A_7 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), out0_A_8 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), out0_A_9 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), sout0_A_0 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩))
    else
      if h1 : (n + 1) % 16 = 15 then
        (out0_C_7 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, out0_C_8 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, out0_C_9 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, sout0_C_0 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2)
      else
        (out0_B_7 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, out0_B_8 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, out0_B_9 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, sout0_B_0 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2)

/-- The recursion at a point of this case. -/
theorem outsAt0_A (c : Dev nD) (t : Fin cfg2.N) (h0 : t.val % 16 = 0) (h1 : ¬t.val % 16 = 15) :
    outsAt0 V c t.val t.isLt = (out0_A_7 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk V c 0 t) (iblk V c 1 t) (iblk V c 2 t) (iblk V c 3 t) (iblk V c 4 t) (iblk V c 5 t) (iblk V c 6 t), out0_A_8 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk V c 0 t) (iblk V c 1 t) (iblk V c 2 t) (iblk V c 3 t) (iblk V c 4 t) (iblk V c 5 t) (iblk V c 6 t), out0_A_9 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk V c 0 t) (iblk V c 1 t) (iblk V c 2 t) (iblk V c 3 t) (iblk V c 4 t) (iblk V c 5 t) (iblk V c 6 t), sout0_A_0 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact (dif_pos h0).trans ((dif_neg h1).trans rfl)

/-- The recursion at a point of this case. -/
theorem outsAt0_B (c : Dev nD) (t : Fin cfg2.N) (h0 : ¬t.val % 16 = 0) (h1 : ¬t.val % 16 = 15) :
    outsAt0 V c t.val t.isLt = (out0_B_7 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, out0_B_8 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, out0_B_9 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, sout0_B_0 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- The recursion at a point of this case. -/
theorem outsAt0_C (c : Dev nD) (t : Fin cfg2.N) (h0 : ¬t.val % 16 = 0) (h1 : t.val % 16 = 15) :
    outsAt0 V c t.val t.isLt = (out0_C_7 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, out0_C_8 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, out0_C_9 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, sout0_C_0 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- What holds between points beside the windows: the scratch at what the point before left. -/
def PhiS (c : Dev nD) : (n : ℕ) → n ≤ cfg2.N → sProp 𝕄
  | 0, _ => Pipeline.ΦA spec2 c
  | n + 1, hn => iprop(iprop(owns (c : Thread nD τ) scM0_0 fullShare ((outsAt0 V c n hn).2.2.2)) ∗ tail (F := F) c)

/-- The invariant at such a position. -/
theorem PhiS_zero (c : Dev nD) (n : ℕ) (h : n ≤ cfg2.N) (hz : n = 0) : PhiS V c n h = Pipeline.ΦA spec2 c := by
  subst hz; rfl

/-- The invariant at such a position. -/
theorem PhiS_succ (c : Dev nD) (n : ℕ) (hn : n < cfg2.N) :
    PhiS V c (n + 1) hn = iprop(iprop(owns (c : Thread nD τ) scM0_0 fullShare ((outsAt0 V c n hn).2.2.2)) ∗ tail (F := F) c) := rfl

/-- The invariant at such a position. -/
theorem PhiS_pos (c : Dev nD) (n : ℕ) (h : n ≤ cfg2.N) (hz : n ≠ 0) :
    PhiS V c n h = iprop(iprop(owns (c : Thread nD τ) scM0_0 fullShare ((outsAt0 V c (n - 1) (by omega)).2.2.2)) ∗ tail (F := F) c) := by
  cases n with
  | zero => exact absurd rfl hz
  | succ n => rfl

/-- The proof data of the region: the arrays as found, and what each window holds after each point. -/
def dat (c : Dev nD) : Dat τ (Elt F) Unit ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS V c t.val (Nat.le_of_lt_succ t.isLt)
  q _ := fullShare
  owed _ := 0

/-- The arrays are as the region finds them. -/
theorem A_eq (c : Dev nD) (w : Fin cfg2.W) : (dat V c).A w = V c (Pipeline.arrRef spec2 w) := by
  dsimp only [dat]

/-- The invariant at such a position. -/
theorem PhiS_castSucc (c : Dev nD) (t : Fin cfg2.N) :
    (dat V c).Φ t.castSucc = PhiS V c t.val (Nat.le_of_lt t.isLt) := by
  dsimp only [dat]; exact Pipeline.Dat.Φ_castSucc (PhiS V c) t

/-- What the body leaves in this window. -/
theorem after0_0 (c : Dev nD) (t : Fin cfg2.N) : (dat V c).after 0 t = iblk V c 0 t := by dsimp only [dat]
/-- What the body leaves in this window. -/
theorem after0_1 (c : Dev nD) (t : Fin cfg2.N) : (dat V c).after 1 t = iblk V c 1 t := by dsimp only [dat]
/-- What the body leaves in this window. -/
theorem after0_2 (c : Dev nD) (t : Fin cfg2.N) : (dat V c).after 2 t = iblk V c 2 t := by dsimp only [dat]
/-- What the body leaves in this window. -/
theorem after0_3 (c : Dev nD) (t : Fin cfg2.N) : (dat V c).after 3 t = iblk V c 3 t := by dsimp only [dat]
/-- What the body leaves in this window. -/
theorem after0_4 (c : Dev nD) (t : Fin cfg2.N) : (dat V c).after 4 t = iblk V c 4 t := by dsimp only [dat]
/-- What the body leaves in this window. -/
theorem after0_5 (c : Dev nD) (t : Fin cfg2.N) : (dat V c).after 5 t = iblk V c 5 t := by dsimp only [dat]
/-- What the body leaves in this window. -/
theorem after0_6 (c : Dev nD) (t : Fin cfg2.N) : (dat V c).after 6 t = iblk V c 6 t := by dsimp only [dat]
/-- What the body leaves in this window. -/
theorem after0_7 (c : Dev nD) (t : Fin cfg2.N) : (dat V c).after 7 t = (outsAt0 V c t.val t.isLt).1 := by dsimp only [dat]
/-- What the body leaves in this window. -/
theorem after0_8 (c : Dev nD) (t : Fin cfg2.N) : (dat V c).after 8 t = (outsAt0 V c t.val t.isLt).2.1 := by dsimp only [dat]
/-- What the body leaves in this window. -/
theorem after0_9 (c : Dev nD) (t : Fin cfg2.N) : (dat V c).after 9 t = (outsAt0 V c t.val t.isLt).2.2.1 := by dsimp only [dat]

/-- What this input window holds when the body runs. -/
theorem before0_0 (c : Dev nD) (t : Fin cfg2.N) (d) : (dat V c).before 0 t d = iblk V c 0 t :=
  before0_0_of V (dat V c) (A_eq V c 0) (after0_0 V c) t d
/-- What this input window holds when the body runs. -/
theorem before0_1 (c : Dev nD) (t : Fin cfg2.N) (d) : (dat V c).before 1 t d = iblk V c 1 t :=
  before0_1_of V (dat V c) (A_eq V c 1) (after0_1 V c) t d
/-- What this input window holds when the body runs. -/
theorem before0_2 (c : Dev nD) (t : Fin cfg2.N) (d) : (dat V c).before 2 t d = iblk V c 2 t :=
  before0_2_of V (dat V c) (A_eq V c 2) (after0_2 V c) t d
/-- What this input window holds when the body runs. -/
theorem before0_3 (c : Dev nD) (t : Fin cfg2.N) (d) : (dat V c).before 3 t d = iblk V c 3 t :=
  before0_3_of V (dat V c) (A_eq V c 3) (after0_3 V c) t d
/-- What this input window holds when the body runs. -/
theorem before0_4 (c : Dev nD) (t : Fin cfg2.N) (d) : (dat V c).before 4 t d = iblk V c 4 t :=
  before0_4_of V (dat V c) (A_eq V c 4) (after0_4 V c) t d
/-- What this input window holds when the body runs. -/
theorem before0_5 (c : Dev nD) (t : Fin cfg2.N) (d) : (dat V c).before 5 t d = iblk V c 5 t :=
  before0_5_of V (dat V c) (A_eq V c 5) (after0_5 V c) t d
/-- What this input window holds when the body runs. -/
theorem before0_6 (c : Dev nD) (t : Fin cfg2.N) (d) : (dat V c).before 6 t d = iblk V c 6 t :=
  before0_6_of V (dat V c) (A_eq V c 6) (after0_6 V c) t d

/-- What the body is called with at point `t`. -/
def bodyPre (c : Dev nD) (t : Fin cfg2.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d)))

/-- What the body returns at point `t`. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 9600000 in
/-- The body at any point, from the precondition to the postcondition. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1, before0_2, before0_3, before0_4, before0_5, before0_6]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg2.N = 16 from N_2)
  by_cases h0 : t.val % 16 = 0
  · by_cases h1 : t.val % 16 = 15
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [Dat.leavesExact_idle (dat V c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dat V c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold out0_A_7 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid2.coords t) _ _ _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t) (iblk V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS0]; · iexact HS0
        iintro ⟨H0, H1, H2, H3, H4, H5, H6, ⟨%e7, H7⟩, H8, H9, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _)
        isplitl [H8]; · iexists _; iexact H8
        iexists _; iexact H9
      · exfalso; have hN : t.val < 16 := lt_of_lt_of_eq t.isLt (show cfg2.N = 16 from N_2); omega
  · by_cases h1 : t.val % 16 = 15
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [show (dat V c).leavesExact 8 t = owns (c : Thread nD τ) (ms0_8 t) fullShare ((dat V c).after 8 t) from by
      unfold Dat.leavesExact; rw [liveAt0_8_C t (fun h => h0 ((hcond0_0 t).mp h)) ((hcond0_1 t).mpr h1)], after0_8]
      rw [show (dat V c).leavesExact 9 t = owns (c : Thread nD τ) (ms0_9 t) fullShare ((dat V c).after 9 t) from by
      unfold Dat.leavesExact; rw [liveAt0_9_C t (fun h => h0 ((hcond0_0 t).mp h)) ((hcond0_1 t).mpr h1)], after0_9]
      by_cases hz : t.val = 0
      · exfalso; have hN : t.val < 16 := lt_of_lt_of_eq t.isLt (show cfg2.N = 16 from N_2); omega
      · rw [PhiS_castSucc V c t, PhiS_pos V c _ _ hz]
        rw [outsAt0_C V c t h0 h1]
        unfold out0_C_7 out0_C_8 out0_C_9 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid2.coords t) _ _ _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) (iblk V c 6 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        iintro ⟨H0, H1, H2, H3, H4, H5, H6, ⟨%e7, H7⟩, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _)
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [Dat.leavesExact_idle (dat V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dat V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 16 := lt_of_lt_of_eq t.isLt (show cfg2.N = 16 from N_2); omega
      · rw [PhiS_castSucc V c t, PhiS_pos V c _ _ hz]
        rw [outsAt0_B V c t h0 h1]
        unfold out0_B_7 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid2.coords t) _ _ _ _ _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) (iblk V c 5 t) (iblk V c 6 t) _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS0]; · iexact HS0
        iintro ⟨H0, H1, H2, H3, H4, H5, H6, ⟨%e7, H7⟩, H8, H9, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _)
        isplitl [H8]; · iexists _; iexact H8
        iexists _; iexact H9

/-- The body table's row is the body. -/
theorem defs₀_row (t : Fin cfg2.N) :
    defs₀ (F := F) .tc cfg2.body (cfg2.bodyArgs t (cfg2.slots t)) = bodyAt2 t := by
  unfold defs₀; rw [Defs.onTc_tc]

/-- The body obligation of the pipeline, at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the region's resources back. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- After the last point the invariant gives the region's resources back. -/
theorem hout (c : Dev nD) : (dat V c).Φ (Fin.last cfg2.N) ⊢ Pipeline.ΦA spec2 c :=
  Phi_out V c _ (by rw [Fin.val_last]; have : cfg2.N = 16 := N_2; omega)

end Cert.KernelIdeal.R2

end
-- ==== Proof.KernelIdeal.Run.lean ====
/-
  The whole program's run: the host stretches and the three kernel calls in sequence, with what every array holds at the end.
-/
module

public import proofs.«01_k».proof.Proof.KernelIdeal.Region0
public import proofs.«01_k».proof.Proof.KernelIdeal.Region1
public import proofs.«01_k».proof.Proof.KernelIdeal.Region2
public import proofs.«01_k».proof.Proof.Gen.KernelIdeal.Regions
public import Idealize.ShloMosaic.Lib.Pipeline.RegionArraysS
public import Idealize.ShloMosaic.Lib.Claim

@[expose] public section

set_option maxRecDepth 16384

noncomputable section

namespace Cert.KernelIdeal.Run

open Cert.KernelIdeal Cert.KernelIdeal.Gen
open Cert.KernelIdeal.R0 (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ UU ℕ

/-- The pipelines' rounds sit in the left component of the ghost algebra. -/
abbrev EP : Emb (UR sig nD τ) (MT nD τ sig Unit (Elt F) ℕ UU ℕ) := embL

variable (m : (ℓ : Loc nD τ sig) → Buf (Elt F) ℓ) (ρ : Dev nD → PrngReg)

/-- The buffers at launch. -/
def W0 (c : Dev nD) : Valuation τ sig (Elt F) := fun b => m (c, b)
/-- The buffers after the first host stretch. -/
def W1 (c : Dev nD) : Valuation τ sig (Elt F) := StableHlo.after hostOps0 (W0 m c)
/-- The first kernel call's proof data, entered from those buffers. -/
abbrev d0 (c : Dev nD) : Dat τ (Elt F) Unit ℕ UU ℕ cfg0 c := R0.dat (fun c b => W1 m c b) c
/-- The buffers after the first kernel call. -/
def W2 (c : Dev nD) : Valuation τ sig (Elt F) := Pipeline.afterRegion (d0 m c) (W1 m c)
/-- The second kernel call's proof data. -/
abbrev d1 (c : Dev nD) : Dat τ (Elt F) Unit ℕ UU ℕ cfg1 c := R1.dat (fun c b => W2 m c b) c
/-- The buffers after the second kernel call. -/
def W3 (c : Dev nD) : Valuation τ sig (Elt F) := Pipeline.afterRegion (d1 m c) (W2 m c)
/-- The third kernel call's proof data. -/
abbrev d2 (c : Dev nD) : Dat τ (Elt F) Unit ℕ UU ℕ cfg2 c := R2.dat (fun c b => W3 m c b) c
/-- The buffers after the third kernel call. -/
def W4 (c : Dev nD) : Valuation τ sig (Elt F) := Pipeline.afterRegion (d2 m c) (W3 m c)
/-- The buffers at the end, after the last host stretch. -/
def W5 (c : Dev nD) : Valuation τ sig (Elt F) := StableHlo.after hostOps3 (W4 m c)

/-- The three calls' proof data, by the call's number. -/
def pdats : (p : Fin 3) → (c : Dev nD) → Dat τ (Elt F) Unit ℕ UU ℕ (cfgs p) c
  | ⟨0, _⟩ => d0 m
  | ⟨1, _⟩ => d1 m
  | ⟨2, _⟩ => d2 m

/-- The one index is assigned at every TensorCore cell. -/
def L : GSem nD τ sig → Finset Unit := fun g => if g.1.2 = .tc then {()} else ∅
/-- Every level is zero. -/
abbrev lv : GSem nD τ sig → Unit → ℕ := fun _ _ => 0

theorem L_off (g : GSem nD τ sig) (h : g.1.2 ≠ .tc) : L g = ∅ := by unfold L; rw [if_neg h]

/-- What rides beside the buffers: nothing owed and the generator register. -/
abbrev rest (c : Dev nD) : sProp 𝕄 :=
  iprop((∃ Wd, owes (c : Thread nD τ) (0 : CellTallies nD τ sig Unit) Wd) ∗ (∃ r, prngReg c r) ∗ BI.emp)

theorem share0 (c : Dev nD) (w) : (d0 m c).share w = fullShare := (d0 m c).share_full (fun _ => rfl) w
theorem share1 (c : Dev nD) (w) : (d1 m c).share w = fullShare := (d1 m c).share_full (fun _ => rfl) w
theorem share2 (c : Dev nD) (w) : (d2 m c).share w = fullShare := (d2 m c).share_full (fun _ => rfl) w

/-- The level facts the regions ask: the index is assigned at the staging cells; nothing is owed. -/
theorem cut (p : Fin 3) : Pipeline.LevelCut (pcfgs (F := F)) adm () L lv p (fun _ => 0) (fun _ => 0) where
  hι c w s := by unfold L; rw [if_pos rfl]; exact Finset.mem_singleton.mpr rfl
  hιb _ _ _ := le_rfl
  hD _ _ _ h := absurd h (lt_irrefl 0)

set_option backward.isDefEq.respectTransparency.types false in
/-- The first kernel call as a segment. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (R0.body_obligation (fun c b => W1 m c b) c).loose) (fun _ _ => rfl) (fun _ => rfl) (fun c w => share0 m c w)
    (fun c => .rfl) (fun c => .rfl) (fun _ => 0) (cut 0) (fun _ => BI.emp) (W1 m)
    (fun c w => R0.A_eq (fun c b => W1 m c b) c w)

set_option backward.isDefEq.respectTransparency.types false in
/-- The second kernel call as a segment. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (R1.body_obligation (fun c b => W2 m c b) c).loose) (fun _ _ => rfl) (fun _ => rfl) (fun c w => share1 m c w)
    (fun c => R1.hin (fun c b => W2 m c b) c) (fun c => R1.hout (fun c b => W2 m c b) c) (fun _ => 0) (cut 1) (fun _ => BI.emp) (W2 m)
    (fun c w => R1.A_eq (fun c b => W2 m c b) c w)

set_option backward.isDefEq.respectTransparency.types false in
/-- The third kernel call as a segment. -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun c => iprop(∃ r, prngReg c r)) (fun c => iprop(∃ r, prngReg c r)) launch2.toP rfl
    (fun c => (R2.body_obligation (fun c b => W3 m c b) c).loose) (fun _ _ => rfl) (fun _ => rfl) (fun c w => share2 m c w)
    (fun c => R2.hin (fun c b => W3 m c b) c) (fun c => R2.hout (fun c b => W3 m c b) c) (fun _ => 0) (cut 2) (fun _ => BI.emp) (W3 m)
    (fun c w => R2.A_eq (fun c b => W3 m c b) c w)

/-- The first host stretch as a segment. -/
def hseg0 : HostSeg (Name := ℕ) (U := UU) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) rest
/-- The last host stretch as a segment. -/
def hseg3 : HostSeg (Name := ℕ) (U := UU) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) rest

/-- The program as its five segments. -/
abbrev mainSegs (_ : Dev nD) : List (Seg (pcfgs (F := F)) adm (pdats m) () defs₀ Variants.none L lv) :=
  [.host (hseg0 m), .region (reg0 m), .region (reg1 m), .region (reg2 m), .host (hseg3 m)]

set_option backward.isDefEq.respectTransparency.types false in
/-- Call 0's arrays are among the unscoped buffers. -/
theorem sub0 : Pipeline.arrRefs (τ := τ) (pcfgs (F := F) 0).spec ⊆ Pipeline.ucRefs τ sig :=
  Pipeline.arrRefs_sub_ucRefs spec0 (by decide)
set_option backward.isDefEq.respectTransparency.types false in
/-- Call 0 is entered from the buffers before it. -/
theorem pre0 (c : Dev nD) : iprop(StableHlo.held (c : Thread nD τ) (Pipeline.ucRefs τ sig) (W1 m c) ∗ rest c) ⊢ (reg0 m).pre c := by
  unfold reg0
  refine BIBase.Entails.trans ?_ (RegionSeg.ofHeldIn_pre sub0 c)
  exact .rfl
set_option backward.isDefEq.respectTransparency.types false in
/-- Call 0 leaves the buffers after it. -/
theorem post0 (c : Dev nD) : (reg0 m).post c ⊢ iprop(StableHlo.held (c : Thread nD τ) (Pipeline.ucRefs τ sig) (W2 m c) ∗ rest c) := by
  rw [show W2 m c = Pipeline.afterRegion (pdats m 0 c) (W1 m c) from rfl]
  unfold reg0
  exact RegionSeg.ofHeldIn_post sub0 c
set_option backward.isDefEq.respectTransparency.types false in
/-- Call 1's arrays are among the unscoped buffers. -/
theorem sub1 : Pipeline.arrRefs (τ := τ) (pcfgs (F := F) 1).spec ⊆ Pipeline.ucRefs τ sig :=
  Pipeline.arrRefs_sub_ucRefs spec1 (by decide)
set_option backward.isDefEq.respectTransparency.types false in
/-- Call 1 is entered from the buffers before it. -/
theorem pre1 (c : Dev nD) : iprop(StableHlo.held (c : Thread nD τ) (Pipeline.ucRefs τ sig) (W2 m c) ∗ rest c) ⊢ (reg1 m).pre c := by
  unfold reg1
  refine BIBase.Entails.trans ?_ (RegionSeg.ofHeldIn_pre sub1 c)
  exact .rfl
set_option backward.isDefEq.respectTransparency.types false in
/-- Call 1 leaves the buffers after it. -/
theorem post1 (c : Dev nD) : (reg1 m).post c ⊢ iprop(StableHlo.held (c : Thread nD τ) (Pipeline.ucRefs τ sig) (W3 m c) ∗ rest c) := by
  rw [show W3 m c = Pipeline.afterRegion (pdats m 1 c) (W2 m c) from rfl]
  unfold reg1
  exact RegionSeg.ofHeldIn_post sub1 c
set_option backward.isDefEq.respectTransparency.types false in
/-- Call 2's arrays are among the unscoped buffers. -/
theorem sub2 : Pipeline.arrRefs (τ := τ) (pcfgs (F := F) 2).spec ⊆ Pipeline.ucRefs τ sig :=
  Pipeline.arrRefs_sub_ucRefs spec2 (by decide)
set_option backward.isDefEq.respectTransparency.types false in
/-- Call 2 is entered from the buffers before it. -/
theorem pre2 (c : Dev nD) : iprop(StableHlo.held (c : Thread nD τ) (Pipeline.ucRefs τ sig) (W3 m c) ∗ rest c) ⊢ (reg2 m).pre c := by
  unfold reg2
  refine BIBase.Entails.trans ?_ (RegionSeg.ofHeldIn_pre sub2 c)
  exact .rfl
set_option backward.isDefEq.respectTransparency.types false in
/-- Call 2 leaves the buffers after it. -/
theorem post2 (c : Dev nD) : (reg2 m).post c ⊢ iprop(StableHlo.held (c : Thread nD τ) (Pipeline.ucRefs τ sig) (W4 m c) ∗ rest c) := by
  rw [show W4 m c = Pipeline.afterRegion (pdats m 2 c) (W3 m c) from rfl]
  unfold reg2
  exact RegionSeg.ofHeldIn_post sub2 c

/-- The ghost state at launch. -/
def u₀ : UU := (initOf (Pipeline.cells cfgs cellOf_inj) (Pipeline.launchToks cfgs cellOf_inj), 1)

set_option backward.isDefEq.respectTransparency.types false in
/-- From any memory with zero counters every weakly fair execution terminates; at the end every unscoped buffer holds
    what the five segments leave in turn, and every counter is zero. -/
theorem run_main : θ_run defs (onTc (τ := τ) (main (F := F))) ⟨m, fun _ => 0, ρ⟩
    (fun r => (∀ c : Dev nD, ∀ b : Ref sig .tc, b.isScoped = false → r.2.mem ((c.tc : Thread nD τ).loc b) = W5 m c b) ∧ r.2.sem = fun _ => 0) := by
  refine Pipeline.θ_run_regions_kit_dev_sems (pcfgs (F := F)) adm (pdats m) () cellOf_inj EP defs₀ Variants.none L lv m ρ main
    (mainSegs m)
    (fun c Q => by
      rewrite [main_chain c, Seg.run_eq_chain,
        show (mainSegs m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [mainSegs, Seg.pipes_host, Seg.pipes_region, Seg.pipes_nil]; decide) 0 L_off (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => StableHlo.held (c : Thread nD τ) (Pipeline.ucRefs τ sig) (W5 m c))
    (hch := fun c => ⟨.rfl, pre0 m c, (post0 m c).trans (pre1 m c), (post1 m c).trans (pre2 m c), post2 m c, sep_mono .rfl (by
      iintro ⟨HO, -, -⟩; iexact HO)⟩)
    (hinit := by
      refine Pipeline.initEach L lv fun c => ?_
      rw [show unscopedBufs c (fun b => m ((c : Thread nD τ).loc b)) = StableHlo.held (c : Thread nD τ) (Pipeline.ucRefs τ sig) (W0 m c) from
        Pipeline.unscopedBufs_held c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b : Ref sig .tc, b.isScoped = false → s.mem ((c.tc : Thread nD τ).loc b) = W5 m c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (W5 m c) s') $$ [Hh HSI]
  · isplitl [Hh] <;> iassumption
  icases Hr with ⟨%h, HSI⟩
  imodintro
  isplitr
  · ipureintro
    exact fun b hb => h (Proc.devRef .tc b) (Finset.mem_filter.mpr ⟨StableHlo.devRef_mem_tcRefs b, fun h' => Bool.false_ne_true (hb.symm.trans h')⟩)
  · iexact HSI

/-- A buffer that no call's output window and no host stretch writes is at the end as launched. -/
theorem W5_keep (c : Dev nD) (r : Ref sig .tc) (h0 : r ∉ hostOps0_W) (h3 : r ∉ hostOps3_W)
    (a0 : ∀ w, Pipeline.arrRef spec0 w = r → (cfg0.win w).isOut = false)
    (a1 : ∀ w, Pipeline.arrRef spec1 w = r → (cfg1.win w).isOut = false)
    (a2 : ∀ w, Pipeline.arrRef spec2 w = r → (cfg2.win w).isOut = false) : W5 m c r = m ((c.tc : Thread nD τ).loc r) := by
  refine (StableHlo.after_of_writes_sub hostOps3 _ hostOps3_writes h3).trans ?_
  refine (Pipeline.afterRegion_keeps (d2 m c) (W3 m c) launch2.win.arr_inj (fun w => R2.A_eq (fun c b => W3 m c b) c w) r a2).trans ?_
  refine (Pipeline.afterRegion_keeps (d1 m c) (W2 m c) launch1.win.arr_inj (fun w => R1.A_eq (fun c b => W2 m c b) c w) r a1).trans ?_
  refine (Pipeline.afterRegion_keeps (d0 m c) (W1 m c) launch0.win.arr_inj (fun w => R0.A_eq (fun c b => W1 m c b) c w) r a0).trans ?_
  exact StableHlo.after_of_writes_sub hostOps0 _ hostOps0_writes h0

/-- The run with the ten arguments left as launched. -/
theorem frame_run : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)
      ∧ ∀ c : Dev nD, ∀ b : Ref sig .tc, b.isScoped = false → r.2.mem ((c.tc : Thread nD τ).loc b) = W5 m c b) :=
  θ_run_mono (run_main m ρ) (fun r h => ⟨⟨fun c =>
    ⟨(h.1 c main_arg0 rfl).trans (W5_keep m c _ (by decide) (by decide) (by decide) (by decide) (by decide)),
     (h.1 c main_arg1 rfl).trans (W5_keep m c _ (by decide) (by decide) (by decide) (by decide) (by decide)),
     (h.1 c main_arg2 rfl).trans (W5_keep m c _ (by decide) (by decide) (by decide) (by decide) (by decide)),
     (h.1 c main_arg3 rfl).trans (W5_keep m c _ (by decide) (by decide) (by decide) (by decide) (by decide)),
     (h.1 c main_arg4 rfl).trans (W5_keep m c _ (by decide) (by decide) (by decide) (by decide) (by decide)),
     (h.1 c main_arg5 rfl).trans (W5_keep m c _ (by decide) (by decide) (by decide) (by decide) (by decide)),
     (h.1 c main_arg6 rfl).trans (W5_keep m c _ (by decide) (by decide) (by decide) (by decide) (by decide)),
     (h.1 c main_arg7 rfl).trans (W5_keep m c _ (by decide) (by decide) (by decide) (by decide) (by decide)),
     (h.1 c main_arg8 rfl).trans (W5_keep m c _ (by decide) (by decide) (by decide) (by decide) (by decide)),
     (h.1 c main_arg9 rfl).trans (W5_keep m c _ (by decide) (by decide) (by decide) (by decide) (by decide))⟩, h.2⟩, h.1⟩)

end Cert.KernelIdeal.Run

end
-- ==== Proof.ReferenceIdeal.Stages.lean ====
/-
  The reference's stages as functions of their inputs.
-/
module

public import proofs.«01_k».proof.Proof.Gen.ReferenceIdeal
public import Idealize.ShloMosaic.Lib.StableHlo.Run
public import Idealize.ShloMosaic.Lib.Pipeline.Frame

@[expose] public section

set_option Elab.async false
set_option maxRecDepth 8192

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of the reference. -/
abbrev T (F : FTy → Type) (r : Ref sig .tc) := r.ty.Contents (Elt F)

/-- Arrays of one shape and one kind of element. -/
abbrev B (F : FTy → Type) (s : Shape) (e : EltTy) := (⟨s, e⟩ : BufTy).Contents (Elt F)

/-- Stage 0 of the reference: the centred signal projected on the principal axes. -/
def st_v0 (arg0 : T F main_arg0) : T F main_v0 :=
  let v0 : T F main_v0 := shapeCast _ arg0 shapeCasts_S1024x1x4096_S1024x4096
  v0

/-- Stage 0 of the reference: the centred signal projected on the principal axes. -/
def st_v5 (arg0 : T F main_arg0) (arg2 : T F main_arg2) (arg3 : T F main_arg3) : T F main_v5 :=
  let v0 : T F main_v0 := shapeCast _ arg0 shapeCasts_S1024x1x4096_S1024x4096
  let v1 : T F main_v1 := (broadcastInDim S1x4096 ![1] bcast_S4096_S1x4096_1 : B F S4096 .f32 → B F S1x4096 .f32) arg3
  let v2 : T F main_v2 := (broadcastInDim S1024x4096 ![0, 1] bcast_S1x4096_S1024x4096_0_1 : B F S1x4096 .f32 → B F S1024x4096 .f32) v1
  let v3 : T F main_v3 := (subf : B F S1024x4096 .f32 → B F S1024x4096 .f32 → B F S1024x4096 .f32) v0 v2
  let v4 : T F main_v4 := ((transpose S4096x256 [1, 0] · transposes_S256x4096_S4096x256_1_0) : B F S256x4096 .f32 → B F S4096x256 .f32) arg2
  let v5 : T F main_v5 := ((fun l r => Host.dotGeneral dot_S1024x4096_S4096x256_S1024x256_1_0_0_1_n_n none l r) : B F S1024x4096 .f32 → B F S4096x256 .f32 → B F S1024x256 .f32) v3 v4
  v5

/-- Stage 1 of the reference: the cosine transform. -/
def st_v16 (v0 : T F main_v0) : T F main_v16 :=
  let v6 : T F main_v6 := (iotaInDim S4096x2049 32 0)
  let v7 : T F main_v7 := (iotaInDim S4096x2049 32 1)
  let cst : T F main_cst := (constant S_ .f32 0x3F800000#32)
  let v8 : T F main_v8 := (Host.atan : B F S_ .f32 → B F S_ .f32) cst
  let cst_0 : T F main_cst_0 := (constant S_ .f32 0x41000000#32)
  let v9 : T F main_v9 := (mulf : B F S_ .f32 → B F S_ .f32 → B F S_ .f32) cst_0 v8
  let v10 : T F main_v10 := (muli : B F S4096x2049 .i32 → B F S4096x2049 .i32 → B F S4096x2049 .i32) v6 v7
  let v11 : T F main_v11 := (sitofp .f32 : B F S4096x2049 .i32 → B F S4096x2049 .f32) v10
  let cst_1 : T F main_cst_1 := (constant S_ .f32 0x45800000#32)
  let v12 : T F main_v12 := (Host.divf : B F S_ .f32 → B F S_ .f32 → B F S_ .f32) v9 cst_1
  let v13 : T F main_v13 := (broadcastInDim S4096x2049 ![] bcast_S_S4096x2049 : B F S_ .f32 → B F S4096x2049 .f32) v12
  let v14 : T F main_v14 := (mulf : B F S4096x2049 .f32 → B F S4096x2049 .f32 → B F S4096x2049 .f32) v11 v13
  let v15 : T F main_v15 := (Host.cos : B F S4096x2049 .f32 → B F S4096x2049 .f32) v14
  let v16 : T F main_v16 := ((fun l r => Host.dotGeneral dot_S1024x4096_S4096x2049_S1024x2049_1_0_0_1_n_n none l r) : B F S1024x4096 .f32 → B F S4096x2049 .f32 → B F S1024x2049 .f32) v0 v15
  v16

/-- Stage 2 of the reference: the first Haar level. -/
def st_v21 (v0 : T F main_v0) : T F main_v21 :=
  let v17 : T F main_v17 := ((Host.slice S1024x2048 ![0, 0] ![1, 2] · slicesBy_S1024x4096_S1024x2048_0s1_0s2) : B F S1024x4096 .f32 → B F S1024x2048 .f32) v0
  let v18 : T F main_v18 := ((Host.slice S1024x2048 ![0, 1] ![1, 2] · slicesBy_S1024x4096_S1024x2048_0s1_1s2) : B F S1024x4096 .f32 → B F S1024x2048 .f32) v0
  let v19 : T F main_v19 := (subf : B F S1024x2048 .f32 → B F S1024x2048 .f32 → B F S1024x2048 .f32) v18 v17
  let cst_2 : T F main_cst_2 := (constant S_ .f32 0x3F3504F3#32)
  let v20 : T F main_v20 := (broadcastInDim S1024x2048 ![] bcast_S_S1024x2048 : B F S_ .f32 → B F S1024x2048 .f32) cst_2
  let v21 : T F main_v21 := (mulf : B F S1024x2048 .f32 → B F S1024x2048 .f32 → B F S1024x2048 .f32) v19 v20
  v21

/-- Stage 2 of the reference: the first Haar level. -/
def st_v24 (v0 : T F main_v0) : T F main_v24 :=
  let v17 : T F main_v17 := ((Host.slice S1024x2048 ![0, 0] ![1, 2] · slicesBy_S1024x4096_S1024x2048_0s1_0s2) : B F S1024x4096 .f32 → B F S1024x2048 .f32) v0
  let v18 : T F main_v18 := ((Host.slice S1024x2048 ![0, 1] ![1, 2] · slicesBy_S1024x4096_S1024x2048_0s1_1s2) : B F S1024x4096 .f32 → B F S1024x2048 .f32) v0
  let v22 : T F main_v22 := (addf : B F S1024x2048 .f32 → B F S1024x2048 .f32 → B F S1024x2048 .f32) v17 v18
  let cst_3 : T F main_cst_3 := (constant S_ .f32 0x3F3504F3#32)
  let v23 : T F main_v23 := (broadcastInDim S1024x2048 ![] bcast_S_S1024x2048 : B F S_ .f32 → B F S1024x2048 .f32) cst_3
  let v24 : T F main_v24 := (mulf : B F S1024x2048 .f32 → B F S1024x2048 .f32 → B F S1024x2048 .f32) v22 v23
  v24

/-- Stage 3 of the reference: the second Haar level. -/
def st_v29 (v24 : T F main_v24) : T F main_v29 :=
  let v25 : T F main_v25 := ((Host.slice S1024x1024 ![0, 0] ![1, 2] · slicesBy_S1024x2048_S1024x1024_0s1_0s2) : B F S1024x2048 .f32 → B F S1024x1024 .f32) v24
  let v26 : T F main_v26 := ((Host.slice S1024x1024 ![0, 1] ![1, 2] · slicesBy_S1024x2048_S1024x1024_0s1_1s2) : B F S1024x2048 .f32 → B F S1024x1024 .f32) v24
  let v27 : T F main_v27 := (subf : B F S1024x1024 .f32 → B F S1024x1024 .f32 → B F S1024x1024 .f32) v26 v25
  let cst_4 : T F main_cst_4 := (constant S_ .f32 0x3F3504F3#32)
  let v28 : T F main_v28 := (broadcastInDim S1024x1024 ![] bcast_S_S1024x1024 : B F S_ .f32 → B F S1024x1024 .f32) cst_4
  let v29 : T F main_v29 := (mulf : B F S1024x1024 .f32 → B F S1024x1024 .f32 → B F S1024x1024 .f32) v27 v28
  v29

/-- Stage 3 of the reference: the second Haar level. -/
def st_v32 (v24 : T F main_v24) : T F main_v32 :=
  let v25 : T F main_v25 := ((Host.slice S1024x1024 ![0, 0] ![1, 2] · slicesBy_S1024x2048_S1024x1024_0s1_0s2) : B F S1024x2048 .f32 → B F S1024x1024 .f32) v24
  let v26 : T F main_v26 := ((Host.slice S1024x1024 ![0, 1] ![1, 2] · slicesBy_S1024x2048_S1024x1024_0s1_1s2) : B F S1024x2048 .f32 → B F S1024x1024 .f32) v24
  let v30 : T F main_v30 := (addf : B F S1024x1024 .f32 → B F S1024x1024 .f32 → B F S1024x1024 .f32) v25 v26
  let cst_5 : T F main_cst_5 := (constant S_ .f32 0x3F3504F3#32)
  let v31 : T F main_v31 := (broadcastInDim S1024x1024 ![] bcast_S_S1024x1024 : B F S_ .f32 → B F S1024x1024 .f32) cst_5
  let v32 : T F main_v32 := (mulf : B F S1024x1024 .f32 → B F S1024x1024 .f32 → B F S1024x1024 .f32) v30 v31
  v32

/-- Stage 4 of the reference: the third Haar level. -/
def st_v37 (v32 : T F main_v32) : T F main_v37 :=
  let v33 : T F main_v33 := ((Host.slice S1024x512 ![0, 0] ![1, 2] · slicesBy_S1024x1024_S1024x512_0s1_0s2) : B F S1024x1024 .f32 → B F S1024x512 .f32) v32
  let v34 : T F main_v34 := ((Host.slice S1024x512 ![0, 1] ![1, 2] · slicesBy_S1024x1024_S1024x512_0s1_1s2) : B F S1024x1024 .f32 → B F S1024x512 .f32) v32
  let v35 : T F main_v35 := (subf : B F S1024x512 .f32 → B F S1024x512 .f32 → B F S1024x512 .f32) v34 v33
  let cst_6 : T F main_cst_6 := (constant S_ .f32 0x3F3504F3#32)
  let v36 : T F main_v36 := (broadcastInDim S1024x512 ![] bcast_S_S1024x512 : B F S_ .f32 → B F S1024x512 .f32) cst_6
  let v37 : T F main_v37 := (mulf : B F S1024x512 .f32 → B F S1024x512 .f32 → B F S1024x512 .f32) v35 v36
  v37

/-- Stage 4 of the reference: the third Haar level. -/
def st_v40 (v32 : T F main_v32) : T F main_v40 :=
  let v33 : T F main_v33 := ((Host.slice S1024x512 ![0, 0] ![1, 2] · slicesBy_S1024x1024_S1024x512_0s1_0s2) : B F S1024x1024 .f32 → B F S1024x512 .f32) v32
  let v34 : T F main_v34 := ((Host.slice S1024x512 ![0, 1] ![1, 2] · slicesBy_S1024x1024_S1024x512_0s1_1s2) : B F S1024x1024 .f32 → B F S1024x512 .f32) v32
  let v38 : T F main_v38 := (addf : B F S1024x512 .f32 → B F S1024x512 .f32 → B F S1024x512 .f32) v33 v34
  let cst_7 : T F main_cst_7 := (constant S_ .f32 0x3F3504F3#32)
  let v39 : T F main_v39 := (broadcastInDim S1024x512 ![] bcast_S_S1024x512 : B F S_ .f32 → B F S1024x512 .f32) cst_7
  let v40 : T F main_v40 := (mulf : B F S1024x512 .f32 → B F S1024x512 .f32 → B F S1024x512 .f32) v38 v39
  v40

/-- Stage 5 of the reference: the fourth Haar level. -/
def st_v45 (v40 : T F main_v40) : T F main_v45 :=
  let v41 : T F main_v41 := ((Host.slice S1024x256 ![0, 0] ![1, 2] · slicesBy_S1024x512_S1024x256_0s1_0s2) : B F S1024x512 .f32 → B F S1024x256 .f32) v40
  let v42 : T F main_v42 := ((Host.slice S1024x256 ![0, 1] ![1, 2] · slicesBy_S1024x512_S1024x256_0s1_1s2) : B F S1024x512 .f32 → B F S1024x256 .f32) v40
  let v43 : T F main_v43 := (subf : B F S1024x256 .f32 → B F S1024x256 .f32 → B F S1024x256 .f32) v42 v41
  let cst_8 : T F main_cst_8 := (constant S_ .f32 0x3F3504F3#32)
  let v44 : T F main_v44 := (broadcastInDim S1024x256 ![] bcast_S_S1024x256 : B F S_ .f32 → B F S1024x256 .f32) cst_8
  let v45 : T F main_v45 := (mulf : B F S1024x256 .f32 → B F S1024x256 .f32 → B F S1024x256 .f32) v43 v44
  v45

/-- Stage 5 of the reference: the fourth Haar level. -/
def st_v48 (v40 : T F main_v40) : T F main_v48 :=
  let v41 : T F main_v41 := ((Host.slice S1024x256 ![0, 0] ![1, 2] · slicesBy_S1024x512_S1024x256_0s1_0s2) : B F S1024x512 .f32 → B F S1024x256 .f32) v40
  let v42 : T F main_v42 := ((Host.slice S1024x256 ![0, 1] ![1, 2] · slicesBy_S1024x512_S1024x256_0s1_1s2) : B F S1024x512 .f32 → B F S1024x256 .f32) v40
  let v46 : T F main_v46 := (addf : B F S1024x256 .f32 → B F S1024x256 .f32 → B F S1024x256 .f32) v41 v42
  let cst_9 : T F main_cst_9 := (constant S_ .f32 0x3F3504F3#32)
  let v47 : T F main_v47 := (broadcastInDim S1024x256 ![] bcast_S_S1024x256 : B F S_ .f32 → B F S1024x256 .f32) cst_9
  let v48 : T F main_v48 := (mulf : B F S1024x256 .f32 → B F S1024x256 .f32 → B F S1024x256 .f32) v46 v47
  v48

/-- Stage 6 of the reference: the fifth Haar level. -/
def st_v53 (v48 : T F main_v48) : T F main_v53 :=
  let v49 : T F main_v49 := ((Host.slice S1024x128 ![0, 0] ![1, 2] · slicesBy_S1024x256_S1024x128_0s1_0s2) : B F S1024x256 .f32 → B F S1024x128 .f32) v48
  let v50 : T F main_v50 := ((Host.slice S1024x128 ![0, 1] ![1, 2] · slicesBy_S1024x256_S1024x128_0s1_1s2) : B F S1024x256 .f32 → B F S1024x128 .f32) v48
  let v51 : T F main_v51 := (subf : B F S1024x128 .f32 → B F S1024x128 .f32 → B F S1024x128 .f32) v50 v49
  let cst_10 : T F main_cst_10 := (constant S_ .f32 0x3F3504F3#32)
  let v52 : T F main_v52 := (broadcastInDim S1024x128 ![] bcast_S_S1024x128 : B F S_ .f32 → B F S1024x128 .f32) cst_10
  let v53 : T F main_v53 := (mulf : B F S1024x128 .f32 → B F S1024x128 .f32 → B F S1024x128 .f32) v51 v52
  v53

/-- Stage 6 of the reference: the fifth Haar level. -/
def st_v56 (v48 : T F main_v48) : T F main_v56 :=
  let v49 : T F main_v49 := ((Host.slice S1024x128 ![0, 0] ![1, 2] · slicesBy_S1024x256_S1024x128_0s1_0s2) : B F S1024x256 .f32 → B F S1024x128 .f32) v48
  let v50 : T F main_v50 := ((Host.slice S1024x128 ![0, 1] ![1, 2] · slicesBy_S1024x256_S1024x128_0s1_1s2) : B F S1024x256 .f32 → B F S1024x128 .f32) v48
  let v54 : T F main_v54 := (addf : B F S1024x128 .f32 → B F S1024x128 .f32 → B F S1024x128 .f32) v49 v50
  let cst_11 : T F main_cst_11 := (constant S_ .f32 0x3F3504F3#32)
  let v55 : T F main_v55 := (broadcastInDim S1024x128 ![] bcast_S_S1024x128 : B F S_ .f32 → B F S1024x128 .f32) cst_11
  let v56 : T F main_v56 := (mulf : B F S1024x128 .f32 → B F S1024x128 .f32 → B F S1024x128 .f32) v54 v55
  v56

/-- Stage 7 of the reference: the wavelet coefficients side by side. -/
def st_v57 (v21 : T F main_v21) (v29 : T F main_v29) (v37 : T F main_v37) (v45 : T F main_v45) (v53 : T F main_v53) (v56 : T F main_v56) : T F main_v57 :=
  let v57 : T F main_v57 := (concatenate S1024x4096 1 [⟨S1024x128, (v56 : B F S1024x128 .f32)⟩, ⟨S1024x128, (v53 : B F S1024x128 .f32)⟩, ⟨S1024x256, (v45 : B F S1024x256 .f32)⟩, ⟨S1024x512, (v37 : B F S1024x512 .f32)⟩, ⟨S1024x1024, (v29 : B F S1024x1024 .f32)⟩, ⟨S1024x2048, (v21 : B F S1024x2048 .f32)⟩] concatenates_S1024x128_S1024x128_S1024x256_S1024x512_S1024x1024_S1024x2048_S1024x4096_d1 : B F S1024x4096 .f32)
  v57

/-- Stage 8 of the reference: the three queries. -/
def st_v64 (v5 : T F main_v5) (arg4 : T F main_arg4) : T F main_v64 :=
  let v58 : T F main_v58 := ((transpose S256x768 [1, 0] · transposes_S768x256_S256x768_1_0) : B F S768x256 .f32 → B F S256x768 .f32) arg4
  let v59 : T F main_v59 := ((fun l r => Host.dotGeneral dot_S1024x256_S256x768_S1024x768_1_0_0_1_n_n none l r) : B F S1024x256 .f32 → B F S256x768 .f32 → B F S1024x768 .f32) v5 v58
  let v64 : T F main_v64 := (broadcastInDim S1024x1x768 ![0, 2] bcast_S1024x768_S1024x1x768_0_2 : B F S1024x768 .f32 → B F S1024x1x768 .f32) v59
  v64

/-- Stage 8 of the reference: the three queries. -/
def st_v65 (v16 : T F main_v16) (arg5 : T F main_arg5) : T F main_v65 :=
  let v60 : T F main_v60 := ((transpose S2049x768 [1, 0] · transposes_S768x2049_S2049x768_1_0) : B F S768x2049 .f32 → B F S2049x768 .f32) arg5
  let v61 : T F main_v61 := ((fun l r => Host.dotGeneral dot_S1024x2049_S2049x768_S1024x768_1_0_0_1_n_n none l r) : B F S1024x2049 .f32 → B F S2049x768 .f32 → B F S1024x768 .f32) v16 v60
  let v65 : T F main_v65 := (broadcastInDim S1024x1x768 ![0, 2] bcast_S1024x768_S1024x1x768_0_2 : B F S1024x768 .f32 → B F S1024x1x768 .f32) v61
  v65

/-- Stage 8 of the reference: the three queries. -/
def st_v66 (v57 : T F main_v57) (arg6 : T F main_arg6) : T F main_v66 :=
  let v62 : T F main_v62 := ((transpose S4096x768 [1, 0] · transposes_S768x4096_S4096x768_1_0) : B F S768x4096 .f32 → B F S4096x768 .f32) arg6
  let v63 : T F main_v63 := ((fun l r => Host.dotGeneral dot_S1024x4096_S4096x768_S1024x768_1_0_0_1_n_n none l r) : B F S1024x4096 .f32 → B F S4096x768 .f32 → B F S1024x768 .f32) v57 v62
  let v66 : T F main_v66 := (broadcastInDim S1024x1x768 ![0, 2] bcast_S1024x768_S1024x1x768_0_2 : B F S1024x768 .f32 → B F S1024x1x768 .f32) v63
  v66

/-- Stage 9 of the reference: the scores. -/
def st_v72 (v64 : T F main_v64) (v65 : T F main_v65) (v66 : T F main_v66) (arg7 : T F main_arg7) : T F main_v72 :=
  let v67 : T F main_v67 := (concatenate S1024x3x768 1 [⟨S1024x1x768, (v64 : B F S1024x1x768 .f32)⟩, ⟨S1024x1x768, (v65 : B F S1024x1x768 .f32)⟩, ⟨S1024x1x768, (v66 : B F S1024x1x768 .f32)⟩] concatenates_S1024x1x768_S1024x1x768_S1024x1x768_S1024x3x768_d1 : B F S1024x3x768 .f32)
  let v68 : T F main_v68 := ((fun l r => Host.dotGeneral dot_S64x3x768_S1024x3x768_S3x64x1024_2_2_0_0_1_1 none l r) : B F S64x3x768 .f32 → B F S1024x3x768 .f32 → B F S3x64x1024 .f32) arg7 v67
  let v69 : T F main_v69 := ((transpose S1024x3x64 [2, 0, 1] · transposes_S3x64x1024_S1024x3x64_2_0_1) : B F S3x64x1024 .f32 → B F S1024x3x64 .f32) v68
  let cst_12 : T F main_cst_12 := (constant S_ .f32 0x44400000#32)
  let v70 : T F main_v70 := (Host.sqrt : B F S_ .f32 → B F S_ .f32) cst_12
  let v71 : T F main_v71 := (broadcastInDim S1024x3x64 ![] bcast_S_S1024x3x64 : B F S_ .f32 → B F S1024x3x64 .f32) v70
  let v72 : T F main_v72 := (Host.divf : B F S1024x3x64 .f32 → B F S1024x3x64 .f32 → B F S1024x3x64 .f32) v69 v71
  v72

/-- Stage 10 of the reference: the softmax of the noisy scores. -/
def st_v86 (v72 : T F main_v72) (arg9 : T F main_arg9) : T F main_v86 :=
  let v73 : T F main_v73 := (addf : B F S1024x3x64 .f32 → B F S1024x3x64 .f32 → B F S1024x3x64 .f32) v72 arg9
  let cst_13 : T F main_cst_13 := (constant S_ .f32 0x3F800000#32)
  let v74 : T F main_v74 := (broadcastInDim S1024x3x64 ![] bcast_S_S1024x3x64 : B F S_ .f32 → B F S1024x3x64 .f32) cst_13
  let v75 : T F main_v75 := (Host.divf : B F S1024x3x64 .f32 → B F S1024x3x64 .f32 → B F S1024x3x64 .f32) v73 v74
  let cst_14 : T F main_cst_14 := (constant S_ .f32 0xFF800000#32)
  let v76 : T F main_v76 := ((fun x v => Host.reduce FloatOps.maximumf x v reducesTo_S1024x3x64_S1024x3_d2 h_S_) : B F S1024x3x64 .f32 → B F S_ .f32 → B F S1024x3 .f32) v75 cst_14
  let cst_15 : T F main_cst_15 := (constant S_ .f32 0xFF800000#32)
  let v77 : T F main_v77 := (broadcastInDim S1024x3 ![] bcast_S_S1024x3 : B F S_ .f32 → B F S1024x3 .f32) cst_15
  let v78 : T F main_v78 := (maximumf : B F S1024x3 .f32 → B F S1024x3 .f32 → B F S1024x3 .f32) v77 v76
  let v79 : T F main_v79 := (broadcastInDim S1024x3x1 ![0, 1] bcast_S1024x3_S1024x3x1_0_1 : B F S1024x3 .f32 → B F S1024x3x1 .f32) v78
  let v80 : T F main_v80 := (broadcastInDim S1024x3x64 ![0, 1, 2] bcast_S1024x3x1_S1024x3x64_0_1_2 : B F S1024x3x1 .f32 → B F S1024x3x64 .f32) v79
  let v81 : T F main_v81 := (subf : B F S1024x3x64 .f32 → B F S1024x3x64 .f32 → B F S1024x3x64 .f32) v75 v80
  let v82 : T F main_v82 := (Host.exp : B F S1024x3x64 .f32 → B F S1024x3x64 .f32) v81
  let cst_16 : T F main_cst_16 := (constant S_ .f32 0x00000000#32)
  let v83 : T F main_v83 := ((fun x v => Host.reduceAdd x v reducesTo_S1024x3x64_S1024x3_d2 h_S_) : B F S1024x3x64 .f32 → B F S_ .f32 → B F S1024x3 .f32) v82 cst_16
  let v84 : T F main_v84 := (broadcastInDim S1024x3x1 ![0, 1] bcast_S1024x3_S1024x3x1_0_1 : B F S1024x3 .f32 → B F S1024x3x1 .f32) v83
  let v85 : T F main_v85 := (broadcastInDim S1024x3x64 ![0, 1, 2] bcast_S1024x3x1_S1024x3x64_0_1_2 : B F S1024x3x1 .f32 → B F S1024x3x64 .f32) v84
  let v86 : T F main_v86 := (Host.divf : B F S1024x3x64 .f32 → B F S1024x3x64 .f32 → B F S1024x3x64 .f32) v82 v85
  v86

/-- Stage 11 of the reference: the arg-max. -/
def st_v87 (v86 : T F main_v86) : T F main_v87 :=
  let call0_v0 : T F main_call0_v0 := (iotaInDim S1024x3x64 32 2)
  let call0_cst : T F main_call0_cst := (constant S_ .f32 0xFF800000#32)
  let call0_c : T F main_call0_c := (constantI S_ 32 0#32)
  let v87 : T F main_v87 := (fun x y u v j => (Host.argReduce reducer_argmax_f32_i32 x y u v reducesTo_S1024x3x64_S1024x3_d2 h_S_ j).2) v86 call0_v0 call0_cst call0_c
  v87

/-- Stage 12 of the reference: the summed prompts scaled by the sampled row sum. -/
def st_v98 (v86 : T F main_v86) (v87 : T F main_v87) (arg8 : T F main_arg8) : T F main_v98 :=
  let call1_v0 : T F main_call1_v0 := (broadcastInDim S1024x3x1 ![0, 1] bcast_S1024x3_S1024x3x1_0_1) v87
  let call1_v1 : T F main_call1_v1 := (iotaInDim S1x1x64 32 2)
  let call1_v2 : T F main_call1_v2 := (broadcastInDim S1024x3x64 ![0, 1, 2] bcast_S1024x3x1_S1024x3x64_0_1_2) call1_v0
  let call1_v3 : T F main_call1_v3 := (broadcastInDim S1024x3x64 ![0, 1, 2] bcast_S1x1x64_S1024x3x64_0_1_2) call1_v1
  let call1_v4 : T F main_call1_v4 := (cmpi .eq) call1_v2 call1_v3
  let v88 : T F main_v88 := (uitofp .f32) call1_v4
  let v89 : T F main_v89 := (subf : B F S1024x3x64 .f32 → B F S1024x3x64 .f32 → B F S1024x3x64 .f32) v88 v86
  let v90 : T F main_v90 := (addf : B F S1024x3x64 .f32 → B F S1024x3x64 .f32 → B F S1024x3x64 .f32) v89 v86
  let cst_17 : T F main_cst_17 := (constant S_ .f32 0x00000000#32)
  let v91 : T F main_v91 := ((fun x v => Host.reduceAdd x v reducesTo_S1024x3x64_S1024x3_d2 h_S_) : B F S1024x3x64 .f32 → B F S_ .f32 → B F S1024x3 .f32) v90 cst_17
  let v92 : T F main_v92 := (broadcastInDim S1024x3x1 ![0, 1] bcast_S1024x3_S1024x3x1_0_1 : B F S1024x3 .f32 → B F S1024x3x1 .f32) v91
  let v93 : T F main_v93 := shapeCast _ arg8 shapeCasts_S64x1x4096_S64x4096
  let cst_18 : T F main_cst_18 := (constant S_ .f32 0x00000000#32)
  let v94 : T F main_v94 := ((fun x v => Host.reduceAdd x v reducesTo_S64x4096_S4096_d0 h_S_) : B F S64x4096 .f32 → B F S_ .f32 → B F S4096 .f32) v93 cst_18
  let v95 : T F main_v95 := (broadcastInDim S1x1x4096 ![2] bcast_S4096_S1x1x4096_2 : B F S4096 .f32 → B F S1x1x4096 .f32) v94
  let v96 : T F main_v96 := (broadcastInDim S1024x3x4096 ![0, 1, 2] bcast_S1024x3x1_S1024x3x4096_0_1_2 : B F S1024x3x1 .f32 → B F S1024x3x4096 .f32) v92
  let v97 : T F main_v97 := (broadcastInDim S1024x3x4096 ![0, 1, 2] bcast_S1x1x4096_S1024x3x4096_0_1_2 : B F S1x1x4096 .f32 → B F S1024x3x4096 .f32) v95
  let v98 : T F main_v98 := (mulf : B F S1024x3x4096 .f32 → B F S1024x3x4096 .f32 → B F S1024x3x4096 .f32) v96 v97
  v98

/-- Stage 12 of the reference: the summed prompts scaled by the sampled row sum. -/
def st_v99 (v87 : T F main_v87) : T F main_v99 :=
  let v99 : T F main_v99 := (broadcastInDim S1024x3x1 ![0, 1] bcast_S1024x3_S1024x3x1_0_1 : B F S1024x3 .i32 → B F S1024x3x1 .i32) v87
  v99

/-- Stage 13 of the reference: the score at the arg-max. -/
def st_v101 (v72 : T F main_v72) (v99 : T F main_v99) : T F main_v101 :=
  let call2_c : T F main_call2_c := (constantI S_ 32 0#32)
  let call2_v0 : T F main_call2_v0 := (broadcastInDim S1024x3x1 ![] bcast_S_S1024x3x1) call2_c
  let call2_v1 : T F main_call2_v1 := (cmpi .slt) v99 call2_v0
  let call2_c_0 : T F main_call2_c_0 := (constantI S_ 32 64#32)
  let call2_v2 : T F main_call2_v2 := (broadcastInDim S1024x3x1 ![] bcast_S_S1024x3x1) call2_c_0
  let call2_v3 : T F main_call2_v3 := addi v99 call2_v2
  let call2_v4 : T F main_call2_v4 := select call2_v1 call2_v3 v99
  let call2_v5 : T F main_call2_v5 := shapeCast _ call2_v4 shapeCasts_S1024x3x1_S1024x3x1x1
  let call2_c_1 : T F main_call2_c_1 := (constantI S1 32 63#32)
  let call2_c_2 : T F main_call2_c_2 := (constantI S_ 32 0#32)
  let call2_v6 : T F main_call2_v6 := (broadcastInDim S1024x3x1x1 ![] bcast_S_S1024x3x1x1) call2_c_2
  let call2_v7 : T F main_call2_v7 := (cmpi .sge) call2_v5 call2_v6
  let call2_v8 : T F main_call2_v8 := (broadcastInDim S1x1x1x1 ![3] bcast_S1_S1x1x1x1_3) call2_c_1
  let call2_v9 : T F main_call2_v9 := (broadcastInDim S1024x3x1x1 ![0, 1, 2, 3] bcast_S1x1x1x1_S1024x3x1x1_0_1_2_3) call2_v8
  let call2_v10 : T F main_call2_v10 := (cmpi .sle) call2_v5 call2_v9
  let call2_v11 : T F main_call2_v11 := andi call2_v7 call2_v10
  let call2_c_3 : T F main_call2_c_3 := (constantI S_ 1 1#1)
  let call2_v12 : T F main_call2_v12 := (fun x v => Host.reduce IntOp.andi x v reducesTo_S1024x3x1x1_S1024x3x1_d3 h_S_) call2_v11 call2_c_3
  let call2_v13 : T F main_call2_v13 := (fun x i => Host.gather gather_S1024x3x64_S1024x3x1x1_S1024x3x1_n_2_01_01_2_3_111 x i) v72 call2_v5
  let call2_cst : T F main_call2_cst := (constant S_ .f32 0x7FC00000#32)
  let call2_v14 : T F main_call2_v14 := (broadcastInDim S1024x3x1 ![] bcast_S_S1024x3x1) call2_cst
  let v100 : T F main_v100 := select call2_v12 call2_v13 call2_v14
  let v101 : T F main_v101 := shapeCast _ v100 shapeCasts_S1024x3x1_S1024x3
  v101

/-- Stage 14 of the reference: the softmax of those scores. -/
def st_v112 (v101 : T F main_v101) : T F main_v112 :=
  let cst_19 : T F main_cst_19 := (constant S_ .f32 0xFF800000#32)
  let v102 : T F main_v102 := ((fun x v => Host.reduce FloatOps.maximumf x v reducesTo_S1024x3_S1024_d1 h_S_) : B F S1024x3 .f32 → B F S_ .f32 → B F S1024 .f32) v101 cst_19
  let cst_20 : T F main_cst_20 := (constant S_ .f32 0xFF800000#32)
  let v103 : T F main_v103 := (broadcastInDim S1024 ![] bcast_S_S1024 : B F S_ .f32 → B F S1024 .f32) cst_20
  let v104 : T F main_v104 := (maximumf : B F S1024 .f32 → B F S1024 .f32 → B F S1024 .f32) v103 v102
  let v105 : T F main_v105 := (broadcastInDim S1024x1 ![0] bcast_S1024_S1024x1_0 : B F S1024 .f32 → B F S1024x1 .f32) v104
  let v106 : T F main_v106 := (broadcastInDim S1024x3 ![0, 1] bcast_S1024x1_S1024x3_0_1 : B F S1024x1 .f32 → B F S1024x3 .f32) v105
  let v107 : T F main_v107 := (subf : B F S1024x3 .f32 → B F S1024x3 .f32 → B F S1024x3 .f32) v101 v106
  let v108 : T F main_v108 := (Host.exp : B F S1024x3 .f32 → B F S1024x3 .f32) v107
  let cst_21 : T F main_cst_21 := (constant S_ .f32 0x00000000#32)
  let v109 : T F main_v109 := ((fun x v => Host.reduceAdd x v reducesTo_S1024x3_S1024_d1 h_S_) : B F S1024x3 .f32 → B F S_ .f32 → B F S1024 .f32) v108 cst_21
  let v110 : T F main_v110 := (broadcastInDim S1024x1 ![0] bcast_S1024_S1024x1_0 : B F S1024 .f32 → B F S1024x1 .f32) v109
  let v111 : T F main_v111 := (broadcastInDim S1024x3 ![0, 1] bcast_S1024x1_S1024x3_0_1 : B F S1024x1 .f32 → B F S1024x3 .f32) v110
  let v112 : T F main_v112 := (Host.divf : B F S1024x3 .f32 → B F S1024x3 .f32 → B F S1024x3 .f32) v108 v111
  v112

/-- Stage 15 of the reference: the prompted signal. -/
def st_v120 (v98 : T F main_v98) (v112 : T F main_v112) (arg0 : T F main_arg0) : T F main_v120 :=
  let v113 : T F main_v113 := (broadcastInDim S1024x3x1 ![0, 1] bcast_S1024x3_S1024x3x1_0_1 : B F S1024x3 .f32 → B F S1024x3x1 .f32) v112
  let v114 : T F main_v114 := (broadcastInDim S1024x3x4096 ![0, 1, 2] bcast_S1024x3x1_S1024x3x4096_0_1_2 : B F S1024x3x1 .f32 → B F S1024x3x4096 .f32) v113
  let v115 : T F main_v115 := (mulf : B F S1024x3x4096 .f32 → B F S1024x3x4096 .f32 → B F S1024x3x4096 .f32) v114 v98
  let cst_22 : T F main_cst_22 := (constant S_ .f32 0x00000000#32)
  let v116 : T F main_v116 := ((fun x v => Host.reduceAdd x v reducesTo_S1024x3x4096_S1024x4096_d1 h_S_) : B F S1024x3x4096 .f32 → B F S_ .f32 → B F S1024x4096 .f32) v115 cst_22
  let v117 : T F main_v117 := (broadcastInDim S1024x1x4096 ![0, 2] bcast_S1024x4096_S1024x1x4096_0_2 : B F S1024x4096 .f32 → B F S1024x1x4096 .f32) v116
  let cst_23 : T F main_cst_23 := (constant S_ .f32 0x3F800000#32)
  let v118 : T F main_v118 := (broadcastInDim S1024x1x4096 ![] bcast_S_S1024x1x4096 : B F S_ .f32 → B F S1024x1x4096 .f32) cst_23
  let v119 : T F main_v119 := (mulf : B F S1024x1x4096 .f32 → B F S1024x1x4096 .f32 → B F S1024x1x4096 .f32) v118 v117
  let v120 : T F main_v120 := (addf : B F S1024x1x4096 .f32 → B F S1024x1x4096 .f32 → B F S1024x1x4096 .f32) arg0 v119
  v120

/-- Stage 16 of the reference: the similarity loss. -/
def st_v124 (v101 : T F main_v101) : T F main_v124 :=
  let cst_24 : T F main_cst_24 := (constant S_ .f32 0x00000000#32)
  let v121 : T F main_v121 := ((fun x v => Host.reduceAdd x v reducesTo_S1024x3_S_d0_1 h_S_) : B F S1024x3 .f32 → B F S_ .f32 → B F S_ .f32) v101 cst_24
  let cst_25 : T F main_cst_25 := (constant S_ .f32 0x45400000#32)
  let v122 : T F main_v122 := (Host.divf : B F S_ .f32 → B F S_ .f32 → B F S_ .f32) v121 cst_25
  let cst_26 : T F main_cst_26 := (constant S_ .f32 0x3F800000#32)
  let v123 : T F main_v123 := (subf : B F S_ .f32 → B F S_ .f32 → B F S_ .f32) cst_26 v122
  let cst_27 : T F main_cst_27 := (constant S_ .f32 0x00000000#32)
  let v124 : T F main_v124 := (maximumf : B F S_ .f32 → B F S_ .f32 → B F S_ .f32) v123 cst_27
  v124

/-- Stage 17 of the reference: the entropy penalty. -/
def st_v133 (v112 : T F main_v112) : T F main_v133 :=
  let cst_28 : T F main_cst_28 := (constant S_ .f32 0x2EDBE6FF#32)
  let v125 : T F main_v125 := (broadcastInDim S1024x3 ![] bcast_S_S1024x3 : B F S_ .f32 → B F S1024x3 .f32) cst_28
  let v126 : T F main_v126 := (addf : B F S1024x3 .f32 → B F S1024x3 .f32 → B F S1024x3 .f32) v112 v125
  let v127 : T F main_v127 := (Host.log : B F S1024x3 .f32 → B F S1024x3 .f32) v126
  let v128 : T F main_v128 := (mulf : B F S1024x3 .f32 → B F S1024x3 .f32 → B F S1024x3 .f32) v112 v127
  let cst_29 : T F main_cst_29 := (constant S_ .f32 0x00000000#32)
  let v129 : T F main_v129 := ((fun x v => Host.reduceAdd x v reducesTo_S1024x3_S1024_d1 h_S_) : B F S1024x3 .f32 → B F S_ .f32 → B F S1024 .f32) v128 cst_29
  let v130 : T F main_v130 := (Host.negf : B F S1024 .f32 → B F S1024 .f32) v129
  let cst_30 : T F main_cst_30 := (constant S_ .f32 0x00000000#32)
  let v131 : T F main_v131 := ((fun x v => Host.reduceAdd x v reducesTo_S1024_S_d0 h_S_) : B F S1024 .f32 → B F S_ .f32 → B F S_ .f32) v130 cst_30
  let cst_31 : T F main_cst_31 := (constant S_ .f32 0x44800000#32)
  let v132 : T F main_v132 := (Host.divf : B F S_ .f32 → B F S_ .f32 → B F S_ .f32) v131 cst_31
  let v133 : T F main_v133 := (Host.negf : B F S_ .f32 → B F S_ .f32) v132
  v133

end Cert.ReferenceIdeal.Stage

end
-- ==== Proof.ReferenceIdeal.Run.lean ====
/-
  The reference's run: its operations stage by stage, and what each stage leaves.
-/
module

public import proofs.«01_k».proof.Proof.Gen.ReferenceIdeal
public import Idealize.ShloMosaic.Lib.StableHlo.Run
public import Idealize.ShloMosaic.Lib.Pipeline.Frame
public import proofs.«01_k».proof.Proof.ReferenceIdeal.Stages

@[expose] public section

set_option Elab.async false
set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.Stage

/-- The operations of stage 0: the centred signal projected on the principal axes. -/

abbrev c0 : List (HloOp τ sig (Elt F)) :=
  [ reshape main_arg0 main_v0 (rfl : (.f32 : EltTy) = .f32) shapeCasts_S1024x1x4096_S1024x4096,
    unary main_arg3 main_v1 (broadcastInDim S1x4096 ![1] bcast_S4096_S1x4096_1 : B F S4096 .f32 → B F S1x4096 .f32),
    unary main_v1 main_v2 (broadcastInDim S1024x4096 ![0, 1] bcast_S1x4096_S1024x4096_0_1 : B F S1x4096 .f32 → B F S1024x4096 .f32),
    binary main_v0 main_v2 main_v3 (subf : B F S1024x4096 .f32 → B F S1024x4096 .f32 → B F S1024x4096 .f32),
    unary main_arg2 main_v4 ((transpose S4096x256 [1, 0] · transposes_S256x4096_S4096x256_1_0) : B F S256x4096 .f32 → B F S4096x256 .f32),
    binary main_v3 main_v4 main_v5 ((fun l r => Host.dotGeneral dot_S1024x4096_S4096x256_S1024x256_1_0_0_1_n_n none l r) : B F S1024x4096 .f32 → B F S4096x256 .f32 → B F S1024x256 .f32) ]

/-- The operations of stage 1: the cosine transform. -/

abbrev c1 : List (HloOp τ sig (Elt F)) :=
  [ nullary main_v6 (iotaInDim S4096x2049 32 0),
    nullary main_v7 (iotaInDim S4096x2049 32 1),
    nullary main_cst (constant S_ .f32 0x3F800000#32),
    unary main_cst main_v8 (Host.atan : B F S_ .f32 → B F S_ .f32),
    nullary main_cst_0 (constant S_ .f32 0x41000000#32),
    binary main_cst_0 main_v8 main_v9 (mulf : B F S_ .f32 → B F S_ .f32 → B F S_ .f32),
    binary main_v6 main_v7 main_v10 (muli : B F S4096x2049 .i32 → B F S4096x2049 .i32 → B F S4096x2049 .i32),
    unary main_v10 main_v11 (sitofp .f32 : B F S4096x2049 .i32 → B F S4096x2049 .f32),
    nullary main_cst_1 (constant S_ .f32 0x45800000#32),
    binary main_v9 main_cst_1 main_v12 (Host.divf : B F S_ .f32 → B F S_ .f32 → B F S_ .f32),
    unary main_v12 main_v13 (broadcastInDim S4096x2049 ![] bcast_S_S4096x2049 : B F S_ .f32 → B F S4096x2049 .f32),
    binary main_v11 main_v13 main_v14 (mulf : B F S4096x2049 .f32 → B F S4096x2049 .f32 → B F S4096x2049 .f32),
    unary main_v14 main_v15 (Host.cos : B F S4096x2049 .f32 → B F S4096x2049 .f32),
    binary main_v0 main_v15 main_v16 ((fun l r => Host.dotGeneral dot_S1024x4096_S4096x2049_S1024x2049_1_0_0_1_n_n none l r) : B F S1024x4096 .f32 → B F S4096x2049 .f32 → B F S1024x2049 .f32) ]

/-- The operations of stage 2: the first Haar level. -/

abbrev c2 : List (HloOp τ sig (Elt F)) :=
  [ unary main_v0 main_v17 ((Host.slice S1024x2048 ![0, 0] ![1, 2] · slicesBy_S1024x4096_S1024x2048_0s1_0s2) : B F S1024x4096 .f32 → B F S1024x2048 .f32),
    unary main_v0 main_v18 ((Host.slice S1024x2048 ![0, 1] ![1, 2] · slicesBy_S1024x4096_S1024x2048_0s1_1s2) : B F S1024x4096 .f32 → B F S1024x2048 .f32),
    binary main_v18 main_v17 main_v19 (subf : B F S1024x2048 .f32 → B F S1024x2048 .f32 → B F S1024x2048 .f32),
    nullary main_cst_2 (constant S_ .f32 0x3F3504F3#32),
    unary main_cst_2 main_v20 (broadcastInDim S1024x2048 ![] bcast_S_S1024x2048 : B F S_ .f32 → B F S1024x2048 .f32),
    binary main_v19 main_v20 main_v21 (mulf : B F S1024x2048 .f32 → B F S1024x2048 .f32 → B F S1024x2048 .f32),
    binary main_v17 main_v18 main_v22 (addf : B F S1024x2048 .f32 → B F S1024x2048 .f32 → B F S1024x2048 .f32),
    nullary main_cst_3 (constant S_ .f32 0x3F3504F3#32),
    unary main_cst_3 main_v23 (broadcastInDim S1024x2048 ![] bcast_S_S1024x2048 : B F S_ .f32 → B F S1024x2048 .f32),
    binary main_v22 main_v23 main_v24 (mulf : B F S1024x2048 .f32 → B F S1024x2048 .f32 → B F S1024x2048 .f32) ]

/-- The operations of stage 3: the second Haar level. -/

abbrev c3 : List (HloOp τ sig (Elt F)) :=
  [ unary main_v24 main_v25 ((Host.slice S1024x1024 ![0, 0] ![1, 2] · slicesBy_S1024x2048_S1024x1024_0s1_0s2) : B F S1024x2048 .f32 → B F S1024x1024 .f32),
    unary main_v24 main_v26 ((Host.slice S1024x1024 ![0, 1] ![1, 2] · slicesBy_S1024x2048_S1024x1024_0s1_1s2) : B F S1024x2048 .f32 → B F S1024x1024 .f32),
    binary main_v26 main_v25 main_v27 (subf : B F S1024x1024 .f32 → B F S1024x1024 .f32 → B F S1024x1024 .f32),
    nullary main_cst_4 (constant S_ .f32 0x3F3504F3#32),
    unary main_cst_4 main_v28 (broadcastInDim S1024x1024 ![] bcast_S_S1024x1024 : B F S_ .f32 → B F S1024x1024 .f32),
    binary main_v27 main_v28 main_v29 (mulf : B F S1024x1024 .f32 → B F S1024x1024 .f32 → B F S1024x1024 .f32),
    binary main_v25 main_v26 main_v30 (addf : B F S1024x1024 .f32 → B F S1024x1024 .f32 → B F S1024x1024 .f32),
    nullary main_cst_5 (constant S_ .f32 0x3F3504F3#32),
    unary main_cst_5 main_v31 (broadcastInDim S1024x1024 ![] bcast_S_S1024x1024 : B F S_ .f32 → B F S1024x1024 .f32),
    binary main_v30 main_v31 main_v32 (mulf : B F S1024x1024 .f32 → B F S1024x1024 .f32 → B F S1024x1024 .f32) ]

/-- The operations of stage 4: the third Haar level. -/

abbrev c4 : List (HloOp τ sig (Elt F)) :=
  [ unary main_v32 main_v33 ((Host.slice S1024x512 ![0, 0] ![1, 2] · slicesBy_S1024x1024_S1024x512_0s1_0s2) : B F S1024x1024 .f32 → B F S1024x512 .f32),
    unary main_v32 main_v34 ((Host.slice S1024x512 ![0, 1] ![1, 2] · slicesBy_S1024x1024_S1024x512_0s1_1s2) : B F S1024x1024 .f32 → B F S1024x512 .f32),
    binary main_v34 main_v33 main_v35 (subf : B F S1024x512 .f32 → B F S1024x512 .f32 → B F S1024x512 .f32),
    nullary main_cst_6 (constant S_ .f32 0x3F3504F3#32),
    unary main_cst_6 main_v36 (broadcastInDim S1024x512 ![] bcast_S_S1024x512 : B F S_ .f32 → B F S1024x512 .f32),
    binary main_v35 main_v36 main_v37 (mulf : B F S1024x512 .f32 → B F S1024x512 .f32 → B F S1024x512 .f32),
    binary main_v33 main_v34 main_v38 (addf : B F S1024x512 .f32 → B F S1024x512 .f32 → B F S1024x512 .f32),
    nullary main_cst_7 (constant S_ .f32 0x3F3504F3#32),
    unary main_cst_7 main_v39 (broadcastInDim S1024x512 ![] bcast_S_S1024x512 : B F S_ .f32 → B F S1024x512 .f32),
    binary main_v38 main_v39 main_v40 (mulf : B F S1024x512 .f32 → B F S1024x512 .f32 → B F S1024x512 .f32) ]

/-- The operations of stage 5: the fourth Haar level. -/

abbrev c5 : List (HloOp τ sig (Elt F)) :=
  [ unary main_v40 main_v41 ((Host.slice S1024x256 ![0, 0] ![1, 2] · slicesBy_S1024x512_S1024x256_0s1_0s2) : B F S1024x512 .f32 → B F S1024x256 .f32),
    unary main_v40 main_v42 ((Host.slice S1024x256 ![0, 1] ![1, 2] · slicesBy_S1024x512_S1024x256_0s1_1s2) : B F S1024x512 .f32 → B F S1024x256 .f32),
    binary main_v42 main_v41 main_v43 (subf : B F S1024x256 .f32 → B F S1024x256 .f32 → B F S1024x256 .f32),
    nullary main_cst_8 (constant S_ .f32 0x3F3504F3#32),
    unary main_cst_8 main_v44 (broadcastInDim S1024x256 ![] bcast_S_S1024x256 : B F S_ .f32 → B F S1024x256 .f32),
    binary main_v43 main_v44 main_v45 (mulf : B F S1024x256 .f32 → B F S1024x256 .f32 → B F S1024x256 .f32),
    binary main_v41 main_v42 main_v46 (addf : B F S1024x256 .f32 → B F S1024x256 .f32 → B F S1024x256 .f32),
    nullary main_cst_9 (constant S_ .f32 0x3F3504F3#32),
    unary main_cst_9 main_v47 (broadcastInDim S1024x256 ![] bcast_S_S1024x256 : B F S_ .f32 → B F S1024x256 .f32),
    binary main_v46 main_v47 main_v48 (mulf : B F S1024x256 .f32 → B F S1024x256 .f32 → B F S1024x256 .f32) ]

/-- The operations of stage 6: the fifth Haar level. -/

abbrev c6 : List (HloOp τ sig (Elt F)) :=
  [ unary main_v48 main_v49 ((Host.slice S1024x128 ![0, 0] ![1, 2] · slicesBy_S1024x256_S1024x128_0s1_0s2) : B F S1024x256 .f32 → B F S1024x128 .f32),
    unary main_v48 main_v50 ((Host.slice S1024x128 ![0, 1] ![1, 2] · slicesBy_S1024x256_S1024x128_0s1_1s2) : B F S1024x256 .f32 → B F S1024x128 .f32),
    binary main_v50 main_v49 main_v51 (subf : B F S1024x128 .f32 → B F S1024x128 .f32 → B F S1024x128 .f32),
    nullary main_cst_10 (constant S_ .f32 0x3F3504F3#32),
    unary main_cst_10 main_v52 (broadcastInDim S1024x128 ![] bcast_S_S1024x128 : B F S_ .f32 → B F S1024x128 .f32),
    binary main_v51 main_v52 main_v53 (mulf : B F S1024x128 .f32 → B F S1024x128 .f32 → B F S1024x128 .f32),
    binary main_v49 main_v50 main_v54 (addf : B F S1024x128 .f32 → B F S1024x128 .f32 → B F S1024x128 .f32),
    nullary main_cst_11 (constant S_ .f32 0x3F3504F3#32),
    unary main_cst_11 main_v55 (broadcastInDim S1024x128 ![] bcast_S_S1024x128 : B F S_ .f32 → B F S1024x128 .f32),
    binary main_v54 main_v55 main_v56 (mulf : B F S1024x128 .f32 → B F S1024x128 .f32 → B F S1024x128 .f32) ]

/-- The operations of stage 7: the wavelet coefficients side by side. -/

abbrev c7 : List (HloOp τ sig (Elt F)) :=
  [ nary ![main_v56, main_v53, main_v45, main_v37, main_v29, main_v21] main_v57 (fun u => (concatenate S1024x4096 1 [⟨S1024x128, (u 0 : B F S1024x128 .f32)⟩, ⟨S1024x128, (u 1 : B F S1024x128 .f32)⟩, ⟨S1024x256, (u 2 : B F S1024x256 .f32)⟩, ⟨S1024x512, (u 3 : B F S1024x512 .f32)⟩, ⟨S1024x1024, (u 4 : B F S1024x1024 .f32)⟩, ⟨S1024x2048, (u 5 : B F S1024x2048 .f32)⟩] concatenates_S1024x128_S1024x128_S1024x256_S1024x512_S1024x1024_S1024x2048_S1024x4096_d1 : B F S1024x4096 .f32)) ]

/-- The operations of stage 8: the three queries. -/

abbrev c8 : List (HloOp τ sig (Elt F)) :=
  [ unary main_arg4 main_v58 ((transpose S256x768 [1, 0] · transposes_S768x256_S256x768_1_0) : B F S768x256 .f32 → B F S256x768 .f32),
    binary main_v5 main_v58 main_v59 ((fun l r => Host.dotGeneral dot_S1024x256_S256x768_S1024x768_1_0_0_1_n_n none l r) : B F S1024x256 .f32 → B F S256x768 .f32 → B F S1024x768 .f32),
    unary main_arg5 main_v60 ((transpose S2049x768 [1, 0] · transposes_S768x2049_S2049x768_1_0) : B F S768x2049 .f32 → B F S2049x768 .f32),
    binary main_v16 main_v60 main_v61 ((fun l r => Host.dotGeneral dot_S1024x2049_S2049x768_S1024x768_1_0_0_1_n_n none l r) : B F S1024x2049 .f32 → B F S2049x768 .f32 → B F S1024x768 .f32),
    unary main_arg6 main_v62 ((transpose S4096x768 [1, 0] · transposes_S768x4096_S4096x768_1_0) : B F S768x4096 .f32 → B F S4096x768 .f32),
    binary main_v57 main_v62 main_v63 ((fun l r => Host.dotGeneral dot_S1024x4096_S4096x768_S1024x768_1_0_0_1_n_n none l r) : B F S1024x4096 .f32 → B F S4096x768 .f32 → B F S1024x768 .f32),
    unary main_v59 main_v64 (broadcastInDim S1024x1x768 ![0, 2] bcast_S1024x768_S1024x1x768_0_2 : B F S1024x768 .f32 → B F S1024x1x768 .f32),
    unary main_v61 main_v65 (broadcastInDim S1024x1x768 ![0, 2] bcast_S1024x768_S1024x1x768_0_2 : B F S1024x768 .f32 → B F S1024x1x768 .f32),
    unary main_v63 main_v66 (broadcastInDim S1024x1x768 ![0, 2] bcast_S1024x768_S1024x1x768_0_2 : B F S1024x768 .f32 → B F S1024x1x768 .f32) ]

/-- The operations of stage 9: the scores. -/

abbrev c9 : List (HloOp τ sig (Elt F)) :=
  [ nary ![main_v64, main_v65, main_v66] main_v67 (fun u => (concatenate S1024x3x768 1 [⟨S1024x1x768, (u 0 : B F S1024x1x768 .f32)⟩, ⟨S1024x1x768, (u 1 : B F S1024x1x768 .f32)⟩, ⟨S1024x1x768, (u 2 : B F S1024x1x768 .f32)⟩] concatenates_S1024x1x768_S1024x1x768_S1024x1x768_S1024x3x768_d1 : B F S1024x3x768 .f32)),
    binary main_arg7 main_v67 main_v68 ((fun l r => Host.dotGeneral dot_S64x3x768_S1024x3x768_S3x64x1024_2_2_0_0_1_1 none l r) : B F S64x3x768 .f32 → B F S1024x3x768 .f32 → B F S3x64x1024 .f32),
    unary main_v68 main_v69 ((transpose S1024x3x64 [2, 0, 1] · transposes_S3x64x1024_S1024x3x64_2_0_1) : B F S3x64x1024 .f32 → B F S1024x3x64 .f32),
    nullary main_cst_12 (constant S_ .f32 0x44400000#32),
    unary main_cst_12 main_v70 (Host.sqrt : B F S_ .f32 → B F S_ .f32),
    unary main_v70 main_v71 (broadcastInDim S1024x3x64 ![] bcast_S_S1024x3x64 : B F S_ .f32 → B F S1024x3x64 .f32),
    binary main_v69 main_v71 main_v72 (Host.divf : B F S1024x3x64 .f32 → B F S1024x3x64 .f32 → B F S1024x3x64 .f32) ]

/-- The operations of stage 10: the softmax of the noisy scores. -/

abbrev c10 : List (HloOp τ sig (Elt F)) :=
  [ binary main_v72 main_arg9 main_v73 (addf : B F S1024x3x64 .f32 → B F S1024x3x64 .f32 → B F S1024x3x64 .f32),
    nullary main_cst_13 (constant S_ .f32 0x3F800000#32),
    unary main_cst_13 main_v74 (broadcastInDim S1024x3x64 ![] bcast_S_S1024x3x64 : B F S_ .f32 → B F S1024x3x64 .f32),
    binary main_v73 main_v74 main_v75 (Host.divf : B F S1024x3x64 .f32 → B F S1024x3x64 .f32 → B F S1024x3x64 .f32),
    nullary main_cst_14 (constant S_ .f32 0xFF800000#32),
    binary main_v75 main_cst_14 main_v76 ((fun x v => Host.reduce FloatOps.maximumf x v reducesTo_S1024x3x64_S1024x3_d2 h_S_) : B F S1024x3x64 .f32 → B F S_ .f32 → B F S1024x3 .f32),
    nullary main_cst_15 (constant S_ .f32 0xFF800000#32),
    unary main_cst_15 main_v77 (broadcastInDim S1024x3 ![] bcast_S_S1024x3 : B F S_ .f32 → B F S1024x3 .f32),
    binary main_v77 main_v76 main_v78 (maximumf : B F S1024x3 .f32 → B F S1024x3 .f32 → B F S1024x3 .f32),
    unary main_v78 main_v79 (broadcastInDim S1024x3x1 ![0, 1] bcast_S1024x3_S1024x3x1_0_1 : B F S1024x3 .f32 → B F S1024x3x1 .f32),
    unary main_v79 main_v80 (broadcastInDim S1024x3x64 ![0, 1, 2] bcast_S1024x3x1_S1024x3x64_0_1_2 : B F S1024x3x1 .f32 → B F S1024x3x64 .f32),
    binary main_v75 main_v80 main_v81 (subf : B F S1024x3x64 .f32 → B F S1024x3x64 .f32 → B F S1024x3x64 .f32),
    unary main_v81 main_v82 (Host.exp : B F S1024x3x64 .f32 → B F S1024x3x64 .f32),
    nullary main_cst_16 (constant S_ .f32 0x00000000#32),
    binary main_v82 main_cst_16 main_v83 ((fun x v => Host.reduceAdd x v reducesTo_S1024x3x64_S1024x3_d2 h_S_) : B F S1024x3x64 .f32 → B F S_ .f32 → B F S1024x3 .f32),
    unary main_v83 main_v84 (broadcastInDim S1024x3x1 ![0, 1] bcast_S1024x3_S1024x3x1_0_1 : B F S1024x3 .f32 → B F S1024x3x1 .f32),
    unary main_v84 main_v85 (broadcastInDim S1024x3x64 ![0, 1, 2] bcast_S1024x3x1_S1024x3x64_0_1_2 : B F S1024x3x1 .f32 → B F S1024x3x64 .f32),
    binary main_v82 main_v85 main_v86 (Host.divf : B F S1024x3x64 .f32 → B F S1024x3x64 .f32 → B F S1024x3x64 .f32) ]

/-- The operations of stage 11: the arg-max. -/

abbrev c11 : List (HloOp τ sig (Elt F)) :=
  [ TRef.nullary (TRef.of (T := ⟨S1024x3x64, .i32⟩) main_call0_v0) (iotaInDim S1024x3x64 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S1024x3x64, .f32⟩) main_v86) (TRef.of (T := ⟨S1024x3x64, .i32⟩) main_call0_v0) (TRef.of (T := ⟨S_, .f32⟩) main_call0_cst) (TRef.of (T := ⟨S_, .i32⟩) main_call0_c) (TRef.of (T := ⟨S1024x3, .f32⟩) main_call0_v1_0) (fun x y u v j => (Host.argReduce reducer_argmax_f32_i32 x y u v reducesTo_S1024x3x64_S1024x3_d2 h_S_ j).1),
    TRef.quaternary (TRef.of (T := ⟨S1024x3x64, .f32⟩) main_v86) (TRef.of (T := ⟨S1024x3x64, .i32⟩) main_call0_v0) (TRef.of (T := ⟨S_, .f32⟩) main_call0_cst) (TRef.of (T := ⟨S_, .i32⟩) main_call0_c) (TRef.of (T := ⟨S1024x3, .i32⟩) main_v87) (fun x y u v j => (Host.argReduce reducer_argmax_f32_i32 x y u v reducesTo_S1024x3x64_S1024x3_d2 h_S_ j).2) ]

/-- The operations of stage 12: the summed prompts scaled by the sampled row sum. -/

abbrev c12 : List (HloOp τ sig (Elt F)) :=
  [ TRef.unary (TRef.of (T := ⟨S1024x3, .i32⟩) main_v87) (TRef.of (T := ⟨S1024x3x1, .i32⟩) main_call1_v0) (broadcastInDim S1024x3x1 ![0, 1] bcast_S1024x3_S1024x3x1_0_1),
    TRef.nullary (TRef.of (T := ⟨S1x1x64, .i32⟩) main_call1_v1) (iotaInDim S1x1x64 32 2),
    TRef.unary (TRef.of (T := ⟨S1024x3x1, .i32⟩) main_call1_v0) (TRef.of (T := ⟨S1024x3x64, .i32⟩) main_call1_v2) (broadcastInDim S1024x3x64 ![0, 1, 2] bcast_S1024x3x1_S1024x3x64_0_1_2),
    TRef.unary (TRef.of (T := ⟨S1x1x64, .i32⟩) main_call1_v1) (TRef.of (T := ⟨S1024x3x64, .i32⟩) main_call1_v3) (broadcastInDim S1024x3x64 ![0, 1, 2] bcast_S1x1x64_S1024x3x64_0_1_2),
    TRef.binary (TRef.of (T := ⟨S1024x3x64, .i32⟩) main_call1_v2) (TRef.of (T := ⟨S1024x3x64, .i32⟩) main_call1_v3) (TRef.of (T := ⟨S1024x3x64, .i1⟩) main_call1_v4) (cmpi .eq),
    TRef.unary (TRef.of (T := ⟨S1024x3x64, .i1⟩) main_call1_v4) (TRef.of (T := ⟨S1024x3x64, .f32⟩) main_v88) (uitofp .f32),
    binary main_v88 main_v86 main_v89 (subf : B F S1024x3x64 .f32 → B F S1024x3x64 .f32 → B F S1024x3x64 .f32),
    binary main_v89 main_v86 main_v90 (addf : B F S1024x3x64 .f32 → B F S1024x3x64 .f32 → B F S1024x3x64 .f32),
    nullary main_cst_17 (constant S_ .f32 0x00000000#32),
    binary main_v90 main_cst_17 main_v91 ((fun x v => Host.reduceAdd x v reducesTo_S1024x3x64_S1024x3_d2 h_S_) : B F S1024x3x64 .f32 → B F S_ .f32 → B F S1024x3 .f32),
    unary main_v91 main_v92 (broadcastInDim S1024x3x1 ![0, 1] bcast_S1024x3_S1024x3x1_0_1 : B F S1024x3 .f32 → B F S1024x3x1 .f32),
    reshape main_arg8 main_v93 (rfl : (.f32 : EltTy) = .f32) shapeCasts_S64x1x4096_S64x4096,
    nullary main_cst_18 (constant S_ .f32 0x00000000#32),
    binary main_v93 main_cst_18 main_v94 ((fun x v => Host.reduceAdd x v reducesTo_S64x4096_S4096_d0 h_S_) : B F S64x4096 .f32 → B F S_ .f32 → B F S4096 .f32),
    unary main_v94 main_v95 (broadcastInDim S1x1x4096 ![2] bcast_S4096_S1x1x4096_2 : B F S4096 .f32 → B F S1x1x4096 .f32),
    unary main_v92 main_v96 (broadcastInDim S1024x3x4096 ![0, 1, 2] bcast_S1024x3x1_S1024x3x4096_0_1_2 : B F S1024x3x1 .f32 → B F S1024x3x4096 .f32),
    unary main_v95 main_v97 (broadcastInDim S1024x3x4096 ![0, 1, 2] bcast_S1x1x4096_S1024x3x4096_0_1_2 : B F S1x1x4096 .f32 → B F S1024x3x4096 .f32),
    binary main_v96 main_v97 main_v98 (mulf : B F S1024x3x4096 .f32 → B F S1024x3x4096 .f32 → B F S1024x3x4096 .f32),
    unary main_v87 main_v99 (broadcastInDim S1024x3x1 ![0, 1] bcast_S1024x3_S1024x3x1_0_1 : B F S1024x3 .i32 → B F S1024x3x1 .i32) ]

/-- The operations of stage 13: the score at the arg-max. -/

abbrev c13 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S1024x3x1, .i32⟩) main_call2_v0) (broadcastInDim S1024x3x1 ![] bcast_S_S1024x3x1),
    TRef.binary (TRef.of (T := ⟨S1024x3x1, .i32⟩) main_v99) (TRef.of (T := ⟨S1024x3x1, .i32⟩) main_call2_v0) (TRef.of (T := ⟨S1024x3x1, .i1⟩) main_call2_v1) (cmpi .slt),
    TRef.nullary (TRef.of (T := ⟨S_, .i32⟩) main_call2_c_0) (constantI S_ 32 64#32),
    TRef.unary (TRef.of (T := ⟨S_, .i32⟩) main_call2_c_0) (TRef.of (T := ⟨S1024x3x1, .i32⟩) main_call2_v2) (broadcastInDim S1024x3x1 ![] bcast_S_S1024x3x1),
    TRef.binary (TRef.of (T := ⟨S1024x3x1, .i32⟩) main_v99) (TRef.of (T := ⟨S1024x3x1, .i32⟩) main_call2_v2) (TRef.of (T := ⟨S1024x3x1, .i32⟩) main_call2_v3) addi,
    TRef.ternary (TRef.of (T := ⟨S1024x3x1, .i1⟩) main_call2_v1) (TRef.of (T := ⟨S1024x3x1, .i32⟩) main_call2_v3) (TRef.of (T := ⟨S1024x3x1, .i32⟩) main_v99) (TRef.of (T := ⟨S1024x3x1, .i32⟩) main_call2_v4) select,
    TRef.reshape (TRef.of (T := ⟨S1024x3x1, .i32⟩) main_call2_v4) (TRef.of (T := ⟨S1024x3x1x1, .i32⟩) main_call2_v5) (rfl : (.i32 : EltTy) = .i32) shapeCasts_S1024x3x1_S1024x3x1x1,
    TRef.nullary (TRef.of (T := ⟨S1, .i32⟩) main_call2_c_1) (constantI S1 32 63#32),
    TRef.nullary (TRef.of (T := ⟨S_, .i32⟩) main_call2_c_2) (constantI S_ 32 0#32),
    TRef.unary (TRef.of (T := ⟨S_, .i32⟩) main_call2_c_2) (TRef.of (T := ⟨S1024x3x1x1, .i32⟩) main_call2_v6) (broadcastInDim S1024x3x1x1 ![] bcast_S_S1024x3x1x1),
    TRef.binary (TRef.of (T := ⟨S1024x3x1x1, .i32⟩) main_call2_v5) (TRef.of (T := ⟨S1024x3x1x1, .i32⟩) main_call2_v6) (TRef.of (T := ⟨S1024x3x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S1024x3x1x1, .i32⟩) main_call2_v9) (broadcastInDim S1024x3x1x1 ![0, 1, 2, 3] bcast_S1x1x1x1_S1024x3x1x1_0_1_2_3),
    TRef.binary (TRef.of (T := ⟨S1024x3x1x1, .i32⟩) main_call2_v5) (TRef.of (T := ⟨S1024x3x1x1, .i32⟩) main_call2_v9) (TRef.of (T := ⟨S1024x3x1x1, .i1⟩) main_call2_v10) (cmpi .sle),
    TRef.binary (TRef.of (T := ⟨S1024x3x1x1, .i1⟩) main_call2_v7) (TRef.of (T := ⟨S1024x3x1x1, .i1⟩) main_call2_v10) (TRef.of (T := ⟨S1024x3x1x1, .i1⟩) main_call2_v11) andi,
    TRef.nullary (TRef.of (T := ⟨S_, .i1⟩) main_call2_c_3) (constantI S_ 1 1#1),
    TRef.binary (TRef.of (T := ⟨S1024x3x1x1, .i1⟩) main_call2_v11) (TRef.of (T := ⟨S_, .i1⟩) main_call2_c_3) (TRef.of (T := ⟨S1024x3x1, .i1⟩) main_call2_v12) (fun x v => Host.reduce IntOp.andi x v reducesTo_S1024x3x1x1_S1024x3x1_d3 h_S_),
    TRef.binary (TRef.of (T := ⟨S1024x3x64, .f32⟩) main_v72) (TRef.of (T := ⟨S1024x3x1x1, .i32⟩) main_call2_v5) (TRef.of (T := ⟨S1024x3x1, .f32⟩) main_call2_v13) (fun x i => Host.gather gather_S1024x3x64_S1024x3x1x1_S1024x3x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S1024x3x1, .f32⟩) main_call2_v14) (broadcastInDim S1024x3x1 ![] bcast_S_S1024x3x1),
    TRef.ternary (TRef.of (T := ⟨S1024x3x1, .i1⟩) main_call2_v12) (TRef.of (T := ⟨S1024x3x1, .f32⟩) main_call2_v13) (TRef.of (T := ⟨S1024x3x1, .f32⟩) main_call2_v14) (TRef.of (T := ⟨S1024x3x1, .f32⟩) main_v100) select,
    reshape main_v100 main_v101 (rfl : (.f32 : EltTy) = .f32) shapeCasts_S1024x3x1_S1024x3 ]

/-- The operations of stage 14: the softmax of those scores. -/

abbrev c14 : List (HloOp τ sig (Elt F)) :=
  [ nullary main_cst_19 (constant S_ .f32 0xFF800000#32),
    binary main_v101 main_cst_19 main_v102 ((fun x v => Host.reduce FloatOps.maximumf x v reducesTo_S1024x3_S1024_d1 h_S_) : B F S1024x3 .f32 → B F S_ .f32 → B F S1024 .f32),
    nullary main_cst_20 (constant S_ .f32 0xFF800000#32),
    unary main_cst_20 main_v103 (broadcastInDim S1024 ![] bcast_S_S1024 : B F S_ .f32 → B F S1024 .f32),
    binary main_v103 main_v102 main_v104 (maximumf : B F S1024 .f32 → B F S1024 .f32 → B F S1024 .f32),
    unary main_v104 main_v105 (broadcastInDim S1024x1 ![0] bcast_S1024_S1024x1_0 : B F S1024 .f32 → B F S1024x1 .f32),
    unary main_v105 main_v106 (broadcastInDim S1024x3 ![0, 1] bcast_S1024x1_S1024x3_0_1 : B F S1024x1 .f32 → B F S1024x3 .f32),
    binary main_v101 main_v106 main_v107 (subf : B F S1024x3 .f32 → B F S1024x3 .f32 → B F S1024x3 .f32),
    unary main_v107 main_v108 (Host.exp : B F S1024x3 .f32 → B F S1024x3 .f32),
    nullary main_cst_21 (constant S_ .f32 0x00000000#32),
    binary main_v108 main_cst_21 main_v109 ((fun x v => Host.reduceAdd x v reducesTo_S1024x3_S1024_d1 h_S_) : B F S1024x3 .f32 → B F S_ .f32 → B F S1024 .f32),
    unary main_v109 main_v110 (broadcastInDim S1024x1 ![0] bcast_S1024_S1024x1_0 : B F S1024 .f32 → B F S1024x1 .f32),
    unary main_v110 main_v111 (broadcastInDim S1024x3 ![0, 1] bcast_S1024x1_S1024x3_0_1 : B F S1024x1 .f32 → B F S1024x3 .f32),
    binary main_v108 main_v111 main_v112 (Host.divf : B F S1024x3 .f32 → B F S1024x3 .f32 → B F S1024x3 .f32) ]

/-- The operations of stage 15: the prompted signal. -/

abbrev c15 : List (HloOp τ sig (Elt F)) :=
  [ unary main_v112 main_v113 (broadcastInDim S1024x3x1 ![0, 1] bcast_S1024x3_S1024x3x1_0_1 : B F S1024x3 .f32 → B F S1024x3x1 .f32),
    unary main_v113 main_v114 (broadcastInDim S1024x3x4096 ![0, 1, 2] bcast_S1024x3x1_S1024x3x4096_0_1_2 : B F S1024x3x1 .f32 → B F S1024x3x4096 .f32),
    binary main_v114 main_v98 main_v115 (mulf : B F S1024x3x4096 .f32 → B F S1024x3x4096 .f32 → B F S1024x3x4096 .f32),
    nullary main_cst_22 (constant S_ .f32 0x00000000#32),
    binary main_v115 main_cst_22 main_v116 ((fun x v => Host.reduceAdd x v reducesTo_S1024x3x4096_S1024x4096_d1 h_S_) : B F S1024x3x4096 .f32 → B F S_ .f32 → B F S1024x4096 .f32),
    unary main_v116 main_v117 (broadcastInDim S1024x1x4096 ![0, 2] bcast_S1024x4096_S1024x1x4096_0_2 : B F S1024x4096 .f32 → B F S1024x1x4096 .f32),
    nullary main_cst_23 (constant S_ .f32 0x3F800000#32),
    unary main_cst_23 main_v118 (broadcastInDim S1024x1x4096 ![] bcast_S_S1024x1x4096 : B F S_ .f32 → B F S1024x1x4096 .f32),
    binary main_v118 main_v117 main_v119 (mulf : B F S1024x1x4096 .f32 → B F S1024x1x4096 .f32 → B F S1024x1x4096 .f32),
    binary main_arg0 main_v119 main_v120 (addf : B F S1024x1x4096 .f32 → B F S1024x1x4096 .f32 → B F S1024x1x4096 .f32) ]

/-- The operations of stage 16: the similarity loss. -/

abbrev c16 : List (HloOp τ sig (Elt F)) :=
  [ nullary main_cst_24 (constant S_ .f32 0x00000000#32),
    binary main_v101 main_cst_24 main_v121 ((fun x v => Host.reduceAdd x v reducesTo_S1024x3_S_d0_1 h_S_) : B F S1024x3 .f32 → B F S_ .f32 → B F S_ .f32),
    nullary main_cst_25 (constant S_ .f32 0x45400000#32),
    binary main_v121 main_cst_25 main_v122 (Host.divf : B F S_ .f32 → B F S_ .f32 → B F S_ .f32),
    nullary main_cst_26 (constant S_ .f32 0x3F800000#32),
    binary main_cst_26 main_v122 main_v123 (subf : B F S_ .f32 → B F S_ .f32 → B F S_ .f32),
    nullary main_cst_27 (constant S_ .f32 0x00000000#32),
    binary main_v123 main_cst_27 main_v124 (maximumf : B F S_ .f32 → B F S_ .f32 → B F S_ .f32) ]

/-- The operations of stage 17: the entropy penalty. -/

abbrev c17 : List (HloOp τ sig (Elt F)) :=
  [ nullary main_cst_28 (constant S_ .f32 0x2EDBE6FF#32),
    unary main_cst_28 main_v125 (broadcastInDim S1024x3 ![] bcast_S_S1024x3 : B F S_ .f32 → B F S1024x3 .f32),
    binary main_v112 main_v125 main_v126 (addf : B F S1024x3 .f32 → B F S1024x3 .f32 → B F S1024x3 .f32),
    unary main_v126 main_v127 (Host.log : B F S1024x3 .f32 → B F S1024x3 .f32),
    binary main_v112 main_v127 main_v128 (mulf : B F S1024x3 .f32 → B F S1024x3 .f32 → B F S1024x3 .f32),
    nullary main_cst_29 (constant S_ .f32 0x00000000#32),
    binary main_v128 main_cst_29 main_v129 ((fun x v => Host.reduceAdd x v reducesTo_S1024x3_S1024_d1 h_S_) : B F S1024x3 .f32 → B F S_ .f32 → B F S1024 .f32),
    unary main_v129 main_v130 (Host.negf : B F S1024 .f32 → B F S1024 .f32),
    nullary main_cst_30 (constant S_ .f32 0x00000000#32),
    binary main_v130 main_cst_30 main_v131 ((fun x v => Host.reduceAdd x v reducesTo_S1024_S_d0 h_S_) : B F S1024 .f32 → B F S_ .f32 → B F S_ .f32),
    nullary main_cst_31 (constant S_ .f32 0x44800000#32),
    binary main_v131 main_cst_31 main_v132 (Host.divf : B F S_ .f32 → B F S_ .f32 → B F S_ .f32),
    unary main_v132 main_v133 (Host.negf : B F S_ .f32 → B F S_ .f32) ]

/-- Part 0 of the operations. -/
def ops0 : List (HloOp τ sig (Elt F)) := c0 ++ (c1 ++ (c2 ++ (c3 ++ (c4 ++ (c5)))))

/-- Part 1 of the operations. -/
def ops1 : List (HloOp τ sig (Elt F)) := c6 ++ (c7 ++ (c8 ++ (c9 ++ (c10 ++ (c11 ++ (c12))))))

/-- Part 2 of the operations. -/
def ops2 : List (HloOp τ sig (Elt F)) := c13 ++ (c14 ++ (c15 ++ (c16 ++ (c17))))

/-- All operations in order. -/
abbrev ops : List (HloOp τ sig (Elt F)) := ops0 ++ (ops1 ++ ops2)

set_option maxHeartbeats 4000000 in
theorem main_part0_eq (c : Dev nD) : main_part0 (F := F) c = seq ops0 := rfl

set_option maxHeartbeats 4000000 in
theorem main_part1_eq (c : Dev nD) : main_part1 (F := F) c = seq ops1 := rfl

set_option maxHeartbeats 4000000 in
theorem main_part2_eq (c : Dev nD) : main_part2 (F := F) c = seq ops2 := rfl

/-- The program is the sequence of the operations. -/
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

theorem c0_sub : (c0 : List (HloOp τ sig (Elt F))).Forall fun op => op.bufs ⊆ tcRefs τ sig := by
  simp only [List.Forall]; exact ⟨reshape_bufs_sub .., unary_bufs_sub .., unary_bufs_sub .., binary_bufs_sub .., unary_bufs_sub .., binary_bufs_sub ..⟩

theorem c0_fresh : (c0 : List (HloOp τ sig (Elt F))).Forall fun op => op.fresh = ∅ := by
  simp only [List.Forall]; repeat' constructor

theorem c1_sub : (c1 : List (HloOp τ sig (Elt F))).Forall fun op => op.bufs ⊆ tcRefs τ sig := by
  simp only [List.Forall]; exact ⟨nullary_bufs_sub .., nullary_bufs_sub .., nullary_bufs_sub .., unary_bufs_sub .., nullary_bufs_sub .., binary_bufs_sub .., binary_bufs_sub .., unary_bufs_sub .., nullary_bufs_sub .., binary_bufs_sub .., unary_bufs_sub .., binary_bufs_sub .., unary_bufs_sub .., binary_bufs_sub ..⟩

theorem c1_fresh : (c1 : List (HloOp τ sig (Elt F))).Forall fun op => op.fresh = ∅ := by
  simp only [List.Forall]; repeat' constructor

theorem c2_sub : (c2 : List (HloOp τ sig (Elt F))).Forall fun op => op.bufs ⊆ tcRefs τ sig := by
  simp only [List.Forall]; exact ⟨unary_bufs_sub .., unary_bufs_sub .., binary_bufs_sub .., nullary_bufs_sub .., unary_bufs_sub .., binary_bufs_sub .., binary_bufs_sub .., nullary_bufs_sub .., unary_bufs_sub .., binary_bufs_sub ..⟩

theorem c2_fresh : (c2 : List (HloOp τ sig (Elt F))).Forall fun op => op.fresh = ∅ := by
  simp only [List.Forall]; repeat' constructor

theorem c3_sub : (c3 : List (HloOp τ sig (Elt F))).Forall fun op => op.bufs ⊆ tcRefs τ sig := by
  simp only [List.Forall]; exact ⟨unary_bufs_sub .., unary_bufs_sub .., binary_bufs_sub .., nullary_bufs_sub .., unary_bufs_sub .., binary_bufs_sub .., binary_bufs_sub .., nullary_bufs_sub .., unary_bufs_sub .., binary_bufs_sub ..⟩

theorem c3_fresh : (c3 : List (HloOp τ sig (Elt F))).Forall fun op => op.fresh = ∅ := by
  simp only [List.Forall]; repeat' constructor

theorem c4_sub : (c4 : List (HloOp τ sig (Elt F))).Forall fun op => op.bufs ⊆ tcRefs τ sig := by
  simp only [List.Forall]; exact ⟨unary_bufs_sub .., unary_bufs_sub .., binary_bufs_sub .., nullary_bufs_sub .., unary_bufs_sub .., binary_bufs_sub .., binary_bufs_sub .., nullary_bufs_sub .., unary_bufs_sub .., binary_bufs_sub ..⟩

theorem c4_fresh : (c4 : List (HloOp τ sig (Elt F))).Forall fun op => op.fresh = ∅ := by
  simp only [List.Forall]; repeat' constructor

theorem c5_sub : (c5 : List (HloOp τ sig (Elt F))).Forall fun op => op.bufs ⊆ tcRefs τ sig := by
  simp only [List.Forall]; exact ⟨unary_bufs_sub .., unary_bufs_sub .., binary_bufs_sub .., nullary_bufs_sub .., unary_bufs_sub .., binary_bufs_sub .., binary_bufs_sub .., nullary_bufs_sub .., unary_bufs_sub .., binary_bufs_sub ..⟩

theorem c5_fresh : (c5 : List (HloOp τ sig (Elt F))).Forall fun op => op.fresh = ∅ := by
  simp only [List.Forall]; repeat' constructor

theorem c6_sub : (c6 : List (HloOp τ sig (Elt F))).Forall fun op => op.bufs ⊆ tcRefs τ sig := by
  simp only [List.Forall]; exact ⟨unary_bufs_sub .., unary_bufs_sub .., binary_bufs_sub .., nullary_bufs_sub .., unary_bufs_sub .., binary_bufs_sub .., binary_bufs_sub .., nullary_bufs_sub .., unary_bufs_sub .., binary_bufs_sub ..⟩

theorem c6_fresh : (c6 : List (HloOp τ sig (Elt F))).Forall fun op => op.fresh = ∅ := by
  simp only [List.Forall]; repeat' constructor

theorem c7_sub : (c7 : List (HloOp τ sig (Elt F))).Forall fun op => op.bufs ⊆ tcRefs τ sig := by
  simp only [List.Forall]; exact nary_bufs_sub ..

theorem c7_fresh : (c7 : List (HloOp τ sig (Elt F))).Forall fun op => op.fresh = ∅ := by
  simp only [List.Forall]; repeat' constructor

theorem c8_sub : (c8 : List (HloOp τ sig (Elt F))).Forall fun op => op.bufs ⊆ tcRefs τ sig := by
  simp only [List.Forall]; exact ⟨unary_bufs_sub .., binary_bufs_sub .., unary_bufs_sub .., binary_bufs_sub .., unary_bufs_sub .., binary_bufs_sub .., unary_bufs_sub .., unary_bufs_sub .., unary_bufs_sub ..⟩

theorem c8_fresh : (c8 : List (HloOp τ sig (Elt F))).Forall fun op => op.fresh = ∅ := by
  simp only [List.Forall]; repeat' constructor

theorem c9_sub : (c9 : List (HloOp τ sig (Elt F))).Forall fun op => op.bufs ⊆ tcRefs τ sig := by
  simp only [List.Forall]; exact ⟨nary_bufs_sub .., binary_bufs_sub .., unary_bufs_sub .., nullary_bufs_sub .., unary_bufs_sub .., unary_bufs_sub .., binary_bufs_sub ..⟩

theorem c9_fresh : (c9 : List (HloOp τ sig (Elt F))).Forall fun op => op.fresh = ∅ := by
  simp only [List.Forall]; repeat' constructor

theorem c10_sub : (c10 : List (HloOp τ sig (Elt F))).Forall fun op => op.bufs ⊆ tcRefs τ sig := by
  simp only [List.Forall]; exact ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem c10_fresh : (c10 : List (HloOp τ sig (Elt F))).Forall fun op => op.fresh = ∅ := by
  simp only [List.Forall]; repeat' constructor

theorem c11_sub : (c11 : List (HloOp τ sig (Elt F))).Forall fun op => op.bufs ⊆ tcRefs τ sig := by
  simp only [List.Forall]; exact ⟨nullary_bufs_sub .., nullary_bufs_sub .., nullary_bufs_sub .., quaternary_bufs_sub .., quaternary_bufs_sub ..⟩

theorem c11_fresh : (c11 : List (HloOp τ sig (Elt F))).Forall fun op => op.fresh = ∅ := by
  simp only [List.Forall]; repeat' constructor

theorem c12_sub : (c12 : List (HloOp τ sig (Elt F))).Forall fun op => op.bufs ⊆ tcRefs τ sig := by
  simp only [List.Forall]; exact ⟨unary_bufs_sub .., nullary_bufs_sub .., unary_bufs_sub .., unary_bufs_sub .., binary_bufs_sub .., unary_bufs_sub .., binary_bufs_sub .., binary_bufs_sub .., nullary_bufs_sub .., binary_bufs_sub .., unary_bufs_sub .., reshape_bufs_sub .., nullary_bufs_sub .., binary_bufs_sub .., unary_bufs_sub .., unary_bufs_sub .., unary_bufs_sub .., binary_bufs_sub .., unary_bufs_sub ..⟩

theorem c12_fresh : (c12 : List (HloOp τ sig (Elt F))).Forall fun op => op.fresh = ∅ := by
  simp only [List.Forall]; repeat' constructor

theorem c13_sub : (c13 : List (HloOp τ sig (Elt F))).Forall fun op => op.bufs ⊆ tcRefs τ sig := by
  simp only [List.Forall]; exact ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

theorem c13_fresh : (c13 : List (HloOp τ sig (Elt F))).Forall fun op => op.fresh = ∅ := by
  simp only [List.Forall]; repeat' constructor

theorem c14_sub : (c14 : List (HloOp τ sig (Elt F))).Forall fun op => op.bufs ⊆ tcRefs τ sig := by
  simp only [List.Forall]; exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem c14_fresh : (c14 : List (HloOp τ sig (Elt F))).Forall fun op => op.fresh = ∅ := by
  simp only [List.Forall]; repeat' constructor

theorem c15_sub : (c15 : List (HloOp τ sig (Elt F))).Forall fun op => op.bufs ⊆ tcRefs τ sig := by
  simp only [List.Forall]; exact ⟨unary_bufs_sub .., unary_bufs_sub .., binary_bufs_sub .., nullary_bufs_sub .., binary_bufs_sub .., unary_bufs_sub .., nullary_bufs_sub .., unary_bufs_sub .., binary_bufs_sub .., binary_bufs_sub ..⟩

theorem c15_fresh : (c15 : List (HloOp τ sig (Elt F))).Forall fun op => op.fresh = ∅ := by
  simp only [List.Forall]; repeat' constructor

theorem c16_sub : (c16 : List (HloOp τ sig (Elt F))).Forall fun op => op.bufs ⊆ tcRefs τ sig := by
  simp only [List.Forall]; exact ⟨nullary_bufs_sub .., binary_bufs_sub .., nullary_bufs_sub .., binary_bufs_sub .., nullary_bufs_sub .., binary_bufs_sub .., nullary_bufs_sub .., binary_bufs_sub ..⟩

theorem c16_fresh : (c16 : List (HloOp τ sig (Elt F))).Forall fun op => op.fresh = ∅ := by
  simp only [List.Forall]; repeat' constructor

theorem c17_sub : (c17 : List (HloOp τ sig (Elt F))).Forall fun op => op.bufs ⊆ tcRefs τ sig := by
  simp only [List.Forall]; exact ⟨nullary_bufs_sub .., unary_bufs_sub .., binary_bufs_sub .., unary_bufs_sub .., binary_bufs_sub .., nullary_bufs_sub .., binary_bufs_sub .., unary_bufs_sub .., nullary_bufs_sub .., binary_bufs_sub .., nullary_bufs_sub .., binary_bufs_sub .., unary_bufs_sub ..⟩

theorem c17_fresh : (c17 : List (HloOp τ sig (Elt F))).Forall fun op => op.fresh = ∅ := by
  simp only [List.Forall]; repeat' constructor

theorem ops_sub : (ops : List (HloOp τ sig (Elt F))).Forall fun op => op.bufs ⊆ tcRefs τ sig :=
  List.forall_iff_forall_mem.mpr fun op h => by
    simp only [ops, ops0, ops1, ops2, List.mem_append, or_assoc] at h
    rcases h with h | h | h | h | h | h | h | h | h | h | h | h | h | h | h | h | h | h
    exacts [List.forall_iff_forall_mem.mp c0_sub op h, List.forall_iff_forall_mem.mp c1_sub op h, List.forall_iff_forall_mem.mp c2_sub op h, List.forall_iff_forall_mem.mp c3_sub op h, List.forall_iff_forall_mem.mp c4_sub op h, List.forall_iff_forall_mem.mp c5_sub op h, List.forall_iff_forall_mem.mp c6_sub op h, List.forall_iff_forall_mem.mp c7_sub op h, List.forall_iff_forall_mem.mp c8_sub op h, List.forall_iff_forall_mem.mp c9_sub op h, List.forall_iff_forall_mem.mp c10_sub op h, List.forall_iff_forall_mem.mp c11_sub op h, List.forall_iff_forall_mem.mp c12_sub op h, List.forall_iff_forall_mem.mp c13_sub op h, List.forall_iff_forall_mem.mp c14_sub op h, List.forall_iff_forall_mem.mp c15_sub op h, List.forall_iff_forall_mem.mp c16_sub op h, List.forall_iff_forall_mem.mp c17_sub op h]

theorem ops_fresh : ∀ op ∈ (ops : List (HloOp τ sig (Elt F))), op.fresh = ∅ := fun op h => by
    simp only [ops, ops0, ops1, ops2, List.mem_append, or_assoc] at h
    rcases h with h | h | h | h | h | h | h | h | h | h | h | h | h | h | h | h | h | h
    exacts [List.forall_iff_forall_mem.mp c0_fresh op h, List.forall_iff_forall_mem.mp c1_fresh op h, List.forall_iff_forall_mem.mp c2_fresh op h, List.forall_iff_forall_mem.mp c3_fresh op h, List.forall_iff_forall_mem.mp c4_fresh op h, List.forall_iff_forall_mem.mp c5_fresh op h, List.forall_iff_forall_mem.mp c6_fresh op h, List.forall_iff_forall_mem.mp c7_fresh op h, List.forall_iff_forall_mem.mp c8_fresh op h, List.forall_iff_forall_mem.mp c9_fresh op h, List.forall_iff_forall_mem.mp c10_fresh op h, List.forall_iff_forall_mem.mp c11_fresh op h, List.forall_iff_forall_mem.mp c12_fresh op h, List.forall_iff_forall_mem.mp c13_fresh op h, List.forall_iff_forall_mem.mp c14_fresh op h, List.forall_iff_forall_mem.mp c15_fresh op h, List.forall_iff_forall_mem.mp c16_fresh op h, List.forall_iff_forall_mem.mp c17_fresh op h]

/-- The buffers before any operation. -/
def U0 (V : Valuation τ sig (Elt F)) : Valuation τ sig (Elt F) := V

/-- The buffers after stage 0. -/
def U1 (V : Valuation τ sig (Elt F)) : Valuation τ sig (Elt F) := after c0 (U0 V)

/-- What stage 0 writes. -/
abbrev w0 : List (Ref sig .tc) := [main_v0, main_v1, main_v2, main_v3, main_v4, main_v5]

theorem c0_writes : (c0 : List (HloOp τ sig (Elt F))).Forall fun op => op.writes ⊆ (w0.map (Proc.devRef (τ := τ) .tc)).toFinset :=
  forall_writes_sub_of_map rfl

theorem keep0 (V : Valuation τ sig (Elt F)) (r : Ref sig .tc) (h : r ∉ w0) : U1 V (Proc.devRef .tc r) = U0 V (Proc.devRef .tc r) :=
  after_of_writes_sub c0 _ c0_writes h

/-- Stage 0 leaves its result. -/
theorem U_v0 (V : Valuation τ sig (Elt F)) : U1 V (Proc.devRef .tc main_v0) = st_v0 (U0 V (Proc.devRef .tc main_arg0)) := by
  unfold U1; simp only [c0]; after_results_simp; rfl

/-- Stage 0 leaves its result. -/
theorem U_v5 (V : Valuation τ sig (Elt F)) : U1 V (Proc.devRef .tc main_v5) = st_v5 (U0 V (Proc.devRef .tc main_arg0)) (U0 V (Proc.devRef .tc main_arg2)) (U0 V (Proc.devRef .tc main_arg3)) := by
  unfold U1; simp only [c0]; after_results_simp; rfl

/-- The buffers after stage 1. -/
def U2 (V : Valuation τ sig (Elt F)) : Valuation τ sig (Elt F) := after c1 (U1 V)

/-- What stage 1 writes. -/
abbrev w1 : List (Ref sig .tc) := [main_v6, main_v7, main_cst, main_v8, main_cst_0, main_v9, main_v10, main_v11, main_cst_1, main_v12, main_v13, main_v14, main_v15, main_v16]

theorem c1_writes : (c1 : List (HloOp τ sig (Elt F))).Forall fun op => op.writes ⊆ (w1.map (Proc.devRef (τ := τ) .tc)).toFinset :=
  forall_writes_sub_of_map rfl

theorem keep1 (V : Valuation τ sig (Elt F)) (r : Ref sig .tc) (h : r ∉ w1) : U2 V (Proc.devRef .tc r) = U1 V (Proc.devRef .tc r) :=
  after_of_writes_sub c1 _ c1_writes h

/-- Stage 1 leaves its result. -/
theorem U_v16 (V : Valuation τ sig (Elt F)) : U2 V (Proc.devRef .tc main_v16) = st_v16 (U1 V (Proc.devRef .tc main_v0)) := by
  unfold U2; simp only [c1]; after_results_simp; rfl

/-- The buffers after stage 2. -/
def U3 (V : Valuation τ sig (Elt F)) : Valuation τ sig (Elt F) := after c2 (U2 V)

/-- What stage 2 writes. -/
abbrev w2 : List (Ref sig .tc) := [main_v17, main_v18, main_v19, main_cst_2, main_v20, main_v21, main_v22, main_cst_3, main_v23, main_v24]

theorem c2_writes : (c2 : List (HloOp τ sig (Elt F))).Forall fun op => op.writes ⊆ (w2.map (Proc.devRef (τ := τ) .tc)).toFinset :=
  forall_writes_sub_of_map rfl

theorem keep2 (V : Valuation τ sig (Elt F)) (r : Ref sig .tc) (h : r ∉ w2) : U3 V (Proc.devRef .tc r) = U2 V (Proc.devRef .tc r) :=
  after_of_writes_sub c2 _ c2_writes h

/-- Stage 2 leaves its result. -/
theorem U_v21 (V : Valuation τ sig (Elt F)) : U3 V (Proc.devRef .tc main_v21) = st_v21 (U2 V (Proc.devRef .tc main_v0)) := by
  unfold U3; simp only [c2]; after_results_simp; rfl

/-- Stage 2 leaves its result. -/
theorem U_v24 (V : Valuation τ sig (Elt F)) : U3 V (Proc.devRef .tc main_v24) = st_v24 (U2 V (Proc.devRef .tc main_v0)) := by
  unfold U3; simp only [c2]; after_results_simp; rfl

/-- The buffers after stage 3. -/
def U4 (V : Valuation τ sig (Elt F)) : Valuation τ sig (Elt F) := after c3 (U3 V)

/-- What stage 3 writes. -/
abbrev w3 : List (Ref sig .tc) := [main_v25, main_v26, main_v27, main_cst_4, main_v28, main_v29, main_v30, main_cst_5, main_v31, main_v32]

theorem c3_writes : (c3 : List (HloOp τ sig (Elt F))).Forall fun op => op.writes ⊆ (w3.map (Proc.devRef (τ := τ) .tc)).toFinset :=
  forall_writes_sub_of_map rfl

theorem keep3 (V : Valuation τ sig (Elt F)) (r : Ref sig .tc) (h : r ∉ w3) : U4 V (Proc.devRef .tc r) = U3 V (Proc.devRef .tc r) :=
  after_of_writes_sub c3 _ c3_writes h

/-- Stage 3 leaves its result. -/
theorem U_v29 (V : Valuation τ sig (Elt F)) : U4 V (Proc.devRef .tc main_v29) = st_v29 (U3 V (Proc.devRef .tc main_v24)) := by
  unfold U4; simp only [c3]; after_results_simp; rfl

/-- Stage 3 leaves its result. -/
theorem U_v32 (V : Valuation τ sig (Elt F)) : U4 V (Proc.devRef .tc main_v32) = st_v32 (U3 V (Proc.devRef .tc main_v24)) := by
  unfold U4; simp only [c3]; after_results_simp; rfl

/-- The buffers after stage 4. -/
def U5 (V : Valuation τ sig (Elt F)) : Valuation τ sig (Elt F) := after c4 (U4 V)

/-- What stage 4 writes. -/
abbrev w4 : List (Ref sig .tc) := [main_v33, main_v34, main_v35, main_cst_6, main_v36, main_v37, main_v38, main_cst_7, main_v39, main_v40]

theorem c4_writes : (c4 : List (HloOp τ sig (Elt F))).Forall fun op => op.writes ⊆ (w4.map (Proc.devRef (τ := τ) .tc)).toFinset :=
  forall_writes_sub_of_map rfl

theorem keep4 (V : Valuation τ sig (Elt F)) (r : Ref sig .tc) (h : r ∉ w4) : U5 V (Proc.devRef .tc r) = U4 V (Proc.devRef .tc r) :=
  after_of_writes_sub c4 _ c4_writes h

/-- Stage 4 leaves its result. -/
theorem U_v37 (V : Valuation τ sig (Elt F)) : U5 V (Proc.devRef .tc main_v37) = st_v37 (U4 V (Proc.devRef .tc main_v32)) := by
  unfold U5; simp only [c4]; after_results_simp; rfl

/-- Stage 4 leaves its result. -/
theorem U_v40 (V : Valuation τ sig (Elt F)) : U5 V (Proc.devRef .tc main_v40) = st_v40 (U4 V (Proc.devRef .tc main_v32)) := by
  unfold U5; simp only [c4]; after_results_simp; rfl

/-- The buffers after stage 5. -/
def U6 (V : Valuation τ sig (Elt F)) : Valuation τ sig (Elt F) := after c5 (U5 V)

/-- What stage 5 writes. -/
abbrev w5 : List (Ref sig .tc) := [main_v41, main_v42, main_v43, main_cst_8, main_v44, main_v45, main_v46, main_cst_9, main_v47, main_v48]

theorem c5_writes : (c5 : List (HloOp τ sig (Elt F))).Forall fun op => op.writes ⊆ (w5.map (Proc.devRef (τ := τ) .tc)).toFinset :=
  forall_writes_sub_of_map rfl

theorem keep5 (V : Valuation τ sig (Elt F)) (r : Ref sig .tc) (h : r ∉ w5) : U6 V (Proc.devRef .tc r) = U5 V (Proc.devRef .tc r) :=
  after_of_writes_sub c5 _ c5_writes h

/-- Stage 5 leaves its result. -/
theorem U_v45 (V : Valuation τ sig (Elt F)) : U6 V (Proc.devRef .tc main_v45) = st_v45 (U5 V (Proc.devRef .tc main_v40)) := by
  unfold U6; simp only [c5]; after_results_simp; rfl

/-- Stage 5 leaves its result. -/
theorem U_v48 (V : Valuation τ sig (Elt F)) : U6 V (Proc.devRef .tc main_v48) = st_v48 (U5 V (Proc.devRef .tc main_v40)) := by
  unfold U6; simp only [c5]; after_results_simp; rfl

/-- The buffers after stage 6. -/
def U7 (V : Valuation τ sig (Elt F)) : Valuation τ sig (Elt F) := after c6 (U6 V)

/-- What stage 6 writes. -/
abbrev w6 : List (Ref sig .tc) := [main_v49, main_v50, main_v51, main_cst_10, main_v52, main_v53, main_v54, main_cst_11, main_v55, main_v56]

theorem c6_writes : (c6 : List (HloOp τ sig (Elt F))).Forall fun op => op.writes ⊆ (w6.map (Proc.devRef (τ := τ) .tc)).toFinset :=
  forall_writes_sub_of_map rfl

theorem keep6 (V : Valuation τ sig (Elt F)) (r : Ref sig .tc) (h : r ∉ w6) : U7 V (Proc.devRef .tc r) = U6 V (Proc.devRef .tc r) :=
  after_of_writes_sub c6 _ c6_writes h

/-- Stage 6 leaves its result. -/
theorem U_v53 (V : Valuation τ sig (Elt F)) : U7 V (Proc.devRef .tc main_v53) = st_v53 (U6 V (Proc.devRef .tc main_v48)) := by
  unfold U7; simp only [c6]; after_results_simp; rfl

/-- Stage 6 leaves its result. -/
theorem U_v56 (V : Valuation τ sig (Elt F)) : U7 V (Proc.devRef .tc main_v56) = st_v56 (U6 V (Proc.devRef .tc main_v48)) := by
  unfold U7; simp only [c6]; after_results_simp; rfl

/-- The buffers after stage 7. -/
def U8 (V : Valuation τ sig (Elt F)) : Valuation τ sig (Elt F) := after c7 (U7 V)

/-- What stage 7 writes. -/
abbrev w7 : List (Ref sig .tc) := [main_v57]

theorem c7_writes : (c7 : List (HloOp τ sig (Elt F))).Forall fun op => op.writes ⊆ (w7.map (Proc.devRef (τ := τ) .tc)).toFinset :=
  forall_writes_sub_of_map rfl

theorem keep7 (V : Valuation τ sig (Elt F)) (r : Ref sig .tc) (h : r ∉ w7) : U8 V (Proc.devRef .tc r) = U7 V (Proc.devRef .tc r) :=
  after_of_writes_sub c7 _ c7_writes h

/-- Stage 7 leaves its result. -/
theorem U_v57 (V : Valuation τ sig (Elt F)) : U8 V (Proc.devRef .tc main_v57) = st_v57 (U7 V (Proc.devRef .tc main_v21)) (U7 V (Proc.devRef .tc main_v29)) (U7 V (Proc.devRef .tc main_v37)) (U7 V (Proc.devRef .tc main_v45)) (U7 V (Proc.devRef .tc main_v53)) (U7 V (Proc.devRef .tc main_v56)) := by
  unfold U8; simp only [c7]; after_results_simp; rfl

/-- The buffers after stage 8. -/
def U9 (V : Valuation τ sig (Elt F)) : Valuation τ sig (Elt F) := after c8 (U8 V)

/-- What stage 8 writes. -/
abbrev w8 : List (Ref sig .tc) := [main_v58, main_v59, main_v60, main_v61, main_v62, main_v63, main_v64, main_v65, main_v66]

theorem c8_writes : (c8 : List (HloOp τ sig (Elt F))).Forall fun op => op.writes ⊆ (w8.map (Proc.devRef (τ := τ) .tc)).toFinset :=
  forall_writes_sub_of_map rfl

theorem keep8 (V : Valuation τ sig (Elt F)) (r : Ref sig .tc) (h : r ∉ w8) : U9 V (Proc.devRef .tc r) = U8 V (Proc.devRef .tc r) :=
  after_of_writes_sub c8 _ c8_writes h

/-- Stage 8 leaves its result. -/
theorem U_v64 (V : Valuation τ sig (Elt F)) : U9 V (Proc.devRef .tc main_v64) = st_v64 (U8 V (Proc.devRef .tc main_v5)) (U8 V (Proc.devRef .tc main_arg4)) := by
  unfold U9; simp only [c8]; after_results_simp; rfl

/-- Stage 8 leaves its result. -/
theorem U_v65 (V : Valuation τ sig (Elt F)) : U9 V (Proc.devRef .tc main_v65) = st_v65 (U8 V (Proc.devRef .tc main_v16)) (U8 V (Proc.devRef .tc main_arg5)) := by
  unfold U9; simp only [c8]; after_results_simp; rfl

/-- Stage 8 leaves its result. -/
theorem U_v66 (V : Valuation τ sig (Elt F)) : U9 V (Proc.devRef .tc main_v66) = st_v66 (U8 V (Proc.devRef .tc main_v57)) (U8 V (Proc.devRef .tc main_arg6)) := by
  unfold U9; simp only [c8]; after_results_simp; rfl

/-- The buffers after stage 9. -/
def U10 (V : Valuation τ sig (Elt F)) : Valuation τ sig (Elt F) := after c9 (U9 V)

/-- What stage 9 writes. -/
abbrev w9 : List (Ref sig .tc) := [main_v67, main_v68, main_v69, main_cst_12, main_v70, main_v71, main_v72]

theorem c9_writes : (c9 : List (HloOp τ sig (Elt F))).Forall fun op => op.writes ⊆ (w9.map (Proc.devRef (τ := τ) .tc)).toFinset :=
  forall_writes_sub_of_map rfl

theorem keep9 (V : Valuation τ sig (Elt F)) (r : Ref sig .tc) (h : r ∉ w9) : U10 V (Proc.devRef .tc r) = U9 V (Proc.devRef .tc r) :=
  after_of_writes_sub c9 _ c9_writes h

/-- Stage 9 leaves its result. -/
theorem U_v72 (V : Valuation τ sig (Elt F)) : U10 V (Proc.devRef .tc main_v72) = st_v72 (U9 V (Proc.devRef .tc main_v64)) (U9 V (Proc.devRef .tc main_v65)) (U9 V (Proc.devRef .tc main_v66)) (U9 V (Proc.devRef .tc main_arg7)) := by
  unfold U10; simp only [c9]; after_results_simp; rfl

/-- The buffers after stage 10. -/
def U11 (V : Valuation τ sig (Elt F)) : Valuation τ sig (Elt F) := after c10 (U10 V)

/-- What stage 10 writes. -/
abbrev w10 : List (Ref sig .tc) := [main_v73, main_cst_13, main_v74, main_v75, main_cst_14, main_v76, main_cst_15, main_v77, main_v78, main_v79, main_v80, main_v81, main_v82, main_cst_16, main_v83, main_v84, main_v85, main_v86]

theorem c10_writes : (c10 : List (HloOp τ sig (Elt F))).Forall fun op => op.writes ⊆ (w10.map (Proc.devRef (τ := τ) .tc)).toFinset :=
  forall_writes_sub_of_map rfl

theorem keep10 (V : Valuation τ sig (Elt F)) (r : Ref sig .tc) (h : r ∉ w10) : U11 V (Proc.devRef .tc r) = U10 V (Proc.devRef .tc r) :=
  after_of_writes_sub c10 _ c10_writes h

/-- Stage 10 leaves its result. -/
theorem U_v86 (V : Valuation τ sig (Elt F)) : U11 V (Proc.devRef .tc main_v86) = st_v86 (U10 V (Proc.devRef .tc main_v72)) (U10 V (Proc.devRef .tc main_arg9)) := by
  unfold U11; simp only [c10]; after_results_simp; rfl

/-- The buffers after stage 11. -/
def U12 (V : Valuation τ sig (Elt F)) : Valuation τ sig (Elt F) := after c11 (U11 V)

/-- What stage 11 writes. -/
abbrev w11 : List (Ref sig .tc) := [main_call0_v0, main_call0_cst, main_call0_c, main_call0_v1_0, main_v87]

theorem c11_writes : (c11 : List (HloOp τ sig (Elt F))).Forall fun op => op.writes ⊆ (w11.map (Proc.devRef (τ := τ) .tc)).toFinset :=
  forall_writes_sub_of_map rfl

theorem keep11 (V : Valuation τ sig (Elt F)) (r : Ref sig .tc) (h : r ∉ w11) : U12 V (Proc.devRef .tc r) = U11 V (Proc.devRef .tc r) :=
  after_of_writes_sub c11 _ c11_writes h

/-- Stage 11 leaves its result. -/
theorem U_v87 (V : Valuation τ sig (Elt F)) : U12 V (Proc.devRef .tc main_v87) = st_v87 (U11 V (Proc.devRef .tc main_v86)) := by
  unfold U12; simp only [c11, TRef.binary, TRef.nullary, TRef.reshape, TRef.ternary, TRef.quaternary, TRef.unary, TRef.toBuf, TRef.ofBuf, cast_eq]; after_results_simp; rfl

/-- The buffers after stage 12. -/
def U13 (V : Valuation τ sig (Elt F)) : Valuation τ sig (Elt F) := after c12 (U12 V)

/-- What stage 12 writes. -/
abbrev w12 : List (Ref sig .tc) := [main_call1_v0, main_call1_v1, main_call1_v2, main_call1_v3, main_call1_v4, main_v88, main_v89, main_v90, main_cst_17, main_v91, main_v92, main_v93, main_cst_18, main_v94, main_v95, main_v96, main_v97, main_v98, main_v99]

theorem c12_writes : (c12 : List (HloOp τ sig (Elt F))).Forall fun op => op.writes ⊆ (w12.map (Proc.devRef (τ := τ) .tc)).toFinset :=
  forall_writes_sub_of_map rfl

theorem keep12 (V : Valuation τ sig (Elt F)) (r : Ref sig .tc) (h : r ∉ w12) : U13 V (Proc.devRef .tc r) = U12 V (Proc.devRef .tc r) :=
  after_of_writes_sub c12 _ c12_writes h

/-- Stage 12 leaves its result. -/
theorem U_v98 (V : Valuation τ sig (Elt F)) : U13 V (Proc.devRef .tc main_v98) = st_v98 (U12 V (Proc.devRef .tc main_v86)) (U12 V (Proc.devRef .tc main_v87)) (U12 V (Proc.devRef .tc main_arg8)) := by
  unfold U13; simp only [c12, TRef.binary, TRef.nullary, TRef.reshape, TRef.ternary, TRef.quaternary, TRef.unary, TRef.toBuf, TRef.ofBuf, cast_eq]; after_results_simp; rfl

/-- Stage 12 leaves its result. -/
theorem U_v99 (V : Valuation τ sig (Elt F)) : U13 V (Proc.devRef .tc main_v99) = st_v99 (U12 V (Proc.devRef .tc main_v87)) := by
  unfold U13; simp only [c12, TRef.binary, TRef.nullary, TRef.reshape, TRef.ternary, TRef.quaternary, TRef.unary, TRef.toBuf, TRef.ofBuf, cast_eq]; after_results_simp; rfl

/-- The buffers after stage 13. -/
def U14 (V : Valuation τ sig (Elt F)) : Valuation τ sig (Elt F) := after c13 (U13 V)

/-- What stage 13 writes. -/
abbrev w13 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v100, main_v101]

theorem c13_writes : (c13 : List (HloOp τ sig (Elt F))).Forall fun op => op.writes ⊆ (w13.map (Proc.devRef (τ := τ) .tc)).toFinset :=
  forall_writes_sub_of_map rfl

theorem keep13 (V : Valuation τ sig (Elt F)) (r : Ref sig .tc) (h : r ∉ w13) : U14 V (Proc.devRef .tc r) = U13 V (Proc.devRef .tc r) :=
  after_of_writes_sub c13 _ c13_writes h

/-- Stage 13 leaves its result. -/
theorem U_v101 (V : Valuation τ sig (Elt F)) : U14 V (Proc.devRef .tc main_v101) = st_v101 (U13 V (Proc.devRef .tc main_v72)) (U13 V (Proc.devRef .tc main_v99)) := by
  unfold U14; simp only [c13, TRef.binary, TRef.nullary, TRef.reshape, TRef.ternary, TRef.quaternary, TRef.unary, TRef.toBuf, TRef.ofBuf, cast_eq]; after_results_simp; rfl

/-- The buffers after stage 14. -/
def U15 (V : Valuation τ sig (Elt F)) : Valuation τ sig (Elt F) := after c14 (U14 V)

/-- What stage 14 writes. -/
abbrev w14 : List (Ref sig .tc) := [main_cst_19, main_v102, main_cst_20, main_v103, main_v104, main_v105, main_v106, main_v107, main_v108, main_cst_21, main_v109, main_v110, main_v111, main_v112]

theorem c14_writes : (c14 : List (HloOp τ sig (Elt F))).Forall fun op => op.writes ⊆ (w14.map (Proc.devRef (τ := τ) .tc)).toFinset :=
  forall_writes_sub_of_map rfl

theorem keep14 (V : Valuation τ sig (Elt F)) (r : Ref sig .tc) (h : r ∉ w14) : U15 V (Proc.devRef .tc r) = U14 V (Proc.devRef .tc r) :=
  after_of_writes_sub c14 _ c14_writes h

/-- Stage 14 leaves its result. -/
theorem U_v112 (V : Valuation τ sig (Elt F)) : U15 V (Proc.devRef .tc main_v112) = st_v112 (U14 V (Proc.devRef .tc main_v101)) := by
  unfold U15; simp only [c14]; after_results_simp; rfl

/-- The buffers after stage 15. -/
def U16 (V : Valuation τ sig (Elt F)) : Valuation τ sig (Elt F) := after c15 (U15 V)

/-- What stage 15 writes. -/
abbrev w15 : List (Ref sig .tc) := [main_v113, main_v114, main_v115, main_cst_22, main_v116, main_v117, main_cst_23, main_v118, main_v119, main_v120]

theorem c15_writes : (c15 : List (HloOp τ sig (Elt F))).Forall fun op => op.writes ⊆ (w15.map (Proc.devRef (τ := τ) .tc)).toFinset :=
  forall_writes_sub_of_map rfl

theorem keep15 (V : Valuation τ sig (Elt F)) (r : Ref sig .tc) (h : r ∉ w15) : U16 V (Proc.devRef .tc r) = U15 V (Proc.devRef .tc r) :=
  after_of_writes_sub c15 _ c15_writes h

/-- Stage 15 leaves its result. -/
theorem U_v120 (V : Valuation τ sig (Elt F)) : U16 V (Proc.devRef .tc main_v120) = st_v120 (U15 V (Proc.devRef .tc main_v98)) (U15 V (Proc.devRef .tc main_v112)) (U15 V (Proc.devRef .tc main_arg0)) := by
  unfold U16; simp only [c15]; after_results_simp; rfl

/-- The buffers after stage 16. -/
def U17 (V : Valuation τ sig (Elt F)) : Valuation τ sig (Elt F) := after c16 (U16 V)

/-- What stage 16 writes. -/
abbrev w16 : List (Ref sig .tc) := [main_cst_24, main_v121, main_cst_25, main_v122, main_cst_26, main_v123, main_cst_27, main_v124]

theorem c16_writes : (c16 : List (HloOp τ sig (Elt F))).Forall fun op => op.writes ⊆ (w16.map (Proc.devRef (τ := τ) .tc)).toFinset :=
  forall_writes_sub_of_map rfl

theorem keep16 (V : Valuation τ sig (Elt F)) (r : Ref sig .tc) (h : r ∉ w16) : U17 V (Proc.devRef .tc r) = U16 V (Proc.devRef .tc r) :=
  after_of_writes_sub c16 _ c16_writes h

/-- Stage 16 leaves its result. -/
theorem U_v124 (V : Valuation τ sig (Elt F)) : U17 V (Proc.devRef .tc main_v124) = st_v124 (U16 V (Proc.devRef .tc main_v101)) := by
  unfold U17; simp only [c16]; after_results_simp; rfl

/-- The buffers after stage 17. -/
def U18 (V : Valuation τ sig (Elt F)) : Valuation τ sig (Elt F) := after c17 (U17 V)

/-- What stage 17 writes. -/
abbrev w17 : List (Ref sig .tc) := [main_cst_28, main_v125, main_v126, main_v127, main_v128, main_cst_29, main_v129, main_v130, main_cst_30, main_v131, main_cst_31, main_v132, main_v133]

theorem c17_writes : (c17 : List (HloOp τ sig (Elt F))).Forall fun op => op.writes ⊆ (w17.map (Proc.devRef (τ := τ) .tc)).toFinset :=
  forall_writes_sub_of_map rfl

theorem keep17 (V : Valuation τ sig (Elt F)) (r : Ref sig .tc) (h : r ∉ w17) : U18 V (Proc.devRef .tc r) = U17 V (Proc.devRef .tc r) :=
  after_of_writes_sub c17 _ c17_writes h

/-- Stage 17 leaves its result. -/
theorem U_v133 (V : Valuation τ sig (Elt F)) : U18 V (Proc.devRef .tc main_v133) = st_v133 (U17 V (Proc.devRef .tc main_v112)) := by
  unfold U18; simp only [c17]; after_results_simp; rfl

/-- The buffers at the end are those after the last stage. -/
theorem after_ops (V : Valuation τ sig (Elt F)) : after ops V = U18 V := by
  simp only [ops, ops0, ops1, ops2, StableHlo.after_append]; rfl

end Cert.ReferenceIdeal.Run

end
-- ==== Proof.ReferenceIdeal.Result.lean ====
/-
  The reference's results as functions of its arguments, and its run.
-/
module

public import proofs.«01_k».proof.Proof.Gen.ReferenceIdeal
public import Idealize.ShloMosaic.Lib.StableHlo.Run
public import Idealize.ShloMosaic.Lib.Pipeline.Frame
public import proofs.«01_k».proof.Proof.ReferenceIdeal.Run

@[expose] public section

set_option Elab.async false
set_option maxRecDepth 8192

noncomputable section

namespace Cert.ReferenceIdeal.Result

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.Stage Cert.ReferenceIdeal.Run

/-- The buffer v0 as a function of the arguments: the centred signal projected on the principal axes. -/
def r_v0 (arg0 : T F main_arg0) : T F main_v0 :=
  st_v0 arg0

/-- The buffer v5 as a function of the arguments: the centred signal projected on the principal axes. -/
def r_v5 (arg0 : T F main_arg0) (arg2 : T F main_arg2) (arg3 : T F main_arg3) : T F main_v5 :=
  st_v5 arg0 arg2 arg3

/-- The buffer v16 as a function of the arguments: the cosine transform. -/
def r_v16 (arg0 : T F main_arg0) : T F main_v16 :=
  st_v16 (r_v0 arg0)

/-- The buffer v21 as a function of the arguments: the first Haar level. -/
def r_v21 (arg0 : T F main_arg0) : T F main_v21 :=
  st_v21 (r_v0 arg0)

/-- The buffer v24 as a function of the arguments: the first Haar level. -/
def r_v24 (arg0 : T F main_arg0) : T F main_v24 :=
  st_v24 (r_v0 arg0)

/-- The buffer v29 as a function of the arguments: the second Haar level. -/
def r_v29 (arg0 : T F main_arg0) : T F main_v29 :=
  st_v29 (r_v24 arg0)

/-- The buffer v32 as a function of the arguments: the second Haar level. -/
def r_v32 (arg0 : T F main_arg0) : T F main_v32 :=
  st_v32 (r_v24 arg0)

/-- The buffer v37 as a function of the arguments: the third Haar level. -/
def r_v37 (arg0 : T F main_arg0) : T F main_v37 :=
  st_v37 (r_v32 arg0)

/-- The buffer v40 as a function of the arguments: the third Haar level. -/
def r_v40 (arg0 : T F main_arg0) : T F main_v40 :=
  st_v40 (r_v32 arg0)

/-- The buffer v45 as a function of the arguments: the fourth Haar level. -/
def r_v45 (arg0 : T F main_arg0) : T F main_v45 :=
  st_v45 (r_v40 arg0)

/-- The buffer v48 as a function of the arguments: the fourth Haar level. -/
def r_v48 (arg0 : T F main_arg0) : T F main_v48 :=
  st_v48 (r_v40 arg0)

/-- The buffer v53 as a function of the arguments: the fifth Haar level. -/
def r_v53 (arg0 : T F main_arg0) : T F main_v53 :=
  st_v53 (r_v48 arg0)

/-- The buffer v56 as a function of the arguments: the fifth Haar level. -/
def r_v56 (arg0 : T F main_arg0) : T F main_v56 :=
  st_v56 (r_v48 arg0)

/-- The buffer v57 as a function of the arguments: the wavelet coefficients side by side. -/
def r_v57 (arg0 : T F main_arg0) : T F main_v57 :=
  st_v57 (r_v21 arg0) (r_v29 arg0) (r_v37 arg0) (r_v45 arg0) (r_v53 arg0) (r_v56 arg0)

/-- The buffer v64 as a function of the arguments: the three queries. -/
def r_v64 (arg0 : T F main_arg0) (arg2 : T F main_arg2) (arg3 : T F main_arg3) (arg4 : T F main_arg4) : T F main_v64 :=
  st_v64 (r_v5 arg0 arg2 arg3) arg4

/-- The buffer v65 as a function of the arguments: the three queries. -/
def r_v65 (arg0 : T F main_arg0) (arg5 : T F main_arg5) : T F main_v65 :=
  st_v65 (r_v16 arg0) arg5

/-- The buffer v66 as a function of the arguments: the three queries. -/
def r_v66 (arg0 : T F main_arg0) (arg6 : T F main_arg6) : T F main_v66 :=
  st_v66 (r_v57 arg0) arg6

/-- The buffer v72 as a function of the arguments: the scores. -/
def r_v72 (arg0 : T F main_arg0) (arg2 : T F main_arg2) (arg3 : T F main_arg3) (arg4 : T F main_arg4) (arg5 : T F main_arg5) (arg6 : T F main_arg6) (arg7 : T F main_arg7) : T F main_v72 :=
  st_v72 (r_v64 arg0 arg2 arg3 arg4) (r_v65 arg0 arg5) (r_v66 arg0 arg6) arg7

/-- The buffer v86 as a function of the arguments: the softmax of the noisy scores. -/
def r_v86 (arg0 : T F main_arg0) (arg2 : T F main_arg2) (arg3 : T F main_arg3) (arg4 : T F main_arg4) (arg5 : T F main_arg5) (arg6 : T F main_arg6) (arg7 : T F main_arg7) (arg9 : T F main_arg9) : T F main_v86 :=
  st_v86 (r_v72 arg0 arg2 arg3 arg4 arg5 arg6 arg7) arg9

/-- The buffer v87 as a function of the arguments: the arg-max. -/
def r_v87 (arg0 : T F main_arg0) (arg2 : T F main_arg2) (arg3 : T F main_arg3) (arg4 : T F main_arg4) (arg5 : T F main_arg5) (arg6 : T F main_arg6) (arg7 : T F main_arg7) (arg9 : T F main_arg9) : T F main_v87 :=
  st_v87 (r_v86 arg0 arg2 arg3 arg4 arg5 arg6 arg7 arg9)

/-- The buffer v98 as a function of the arguments: the summed prompts scaled by the sampled row sum. -/
def r_v98 (arg0 : T F main_arg0) (arg2 : T F main_arg2) (arg3 : T F main_arg3) (arg4 : T F main_arg4) (arg5 : T F main_arg5) (arg6 : T F main_arg6) (arg7 : T F main_arg7) (arg8 : T F main_arg8) (arg9 : T F main_arg9) : T F main_v98 :=
  st_v98 (r_v86 arg0 arg2 arg3 arg4 arg5 arg6 arg7 arg9) (r_v87 arg0 arg2 arg3 arg4 arg5 arg6 arg7 arg9) arg8

/-- The buffer v99 as a function of the arguments: the summed prompts scaled by the sampled row sum. -/
def r_v99 (arg0 : T F main_arg0) (arg2 : T F main_arg2) (arg3 : T F main_arg3) (arg4 : T F main_arg4) (arg5 : T F main_arg5) (arg6 : T F main_arg6) (arg7 : T F main_arg7) (arg9 : T F main_arg9) : T F main_v99 :=
  st_v99 (r_v87 arg0 arg2 arg3 arg4 arg5 arg6 arg7 arg9)

/-- The buffer v101 as a function of the arguments: the score at the arg-max. -/
def r_v101 (arg0 : T F main_arg0) (arg2 : T F main_arg2) (arg3 : T F main_arg3) (arg4 : T F main_arg4) (arg5 : T F main_arg5) (arg6 : T F main_arg6) (arg7 : T F main_arg7) (arg9 : T F main_arg9) : T F main_v101 :=
  st_v101 (r_v72 arg0 arg2 arg3 arg4 arg5 arg6 arg7) (r_v99 arg0 arg2 arg3 arg4 arg5 arg6 arg7 arg9)

/-- The buffer v112 as a function of the arguments: the softmax of those scores. -/
def r_v112 (arg0 : T F main_arg0) (arg2 : T F main_arg2) (arg3 : T F main_arg3) (arg4 : T F main_arg4) (arg5 : T F main_arg5) (arg6 : T F main_arg6) (arg7 : T F main_arg7) (arg9 : T F main_arg9) : T F main_v112 :=
  st_v112 (r_v101 arg0 arg2 arg3 arg4 arg5 arg6 arg7 arg9)

/-- The buffer v120 as a function of the arguments: the prompted signal. -/
def r_v120 (arg0 : T F main_arg0) (arg2 : T F main_arg2) (arg3 : T F main_arg3) (arg4 : T F main_arg4) (arg5 : T F main_arg5) (arg6 : T F main_arg6) (arg7 : T F main_arg7) (arg8 : T F main_arg8) (arg9 : T F main_arg9) : T F main_v120 :=
  st_v120 (r_v98 arg0 arg2 arg3 arg4 arg5 arg6 arg7 arg8 arg9) (r_v112 arg0 arg2 arg3 arg4 arg5 arg6 arg7 arg9) arg0

/-- The buffer v124 as a function of the arguments: the similarity loss. -/
def r_v124 (arg0 : T F main_arg0) (arg2 : T F main_arg2) (arg3 : T F main_arg3) (arg4 : T F main_arg4) (arg5 : T F main_arg5) (arg6 : T F main_arg6) (arg7 : T F main_arg7) (arg9 : T F main_arg9) : T F main_v124 :=
  st_v124 (r_v101 arg0 arg2 arg3 arg4 arg5 arg6 arg7 arg9)

/-- The buffer v133 as a function of the arguments: the entropy penalty. -/
def r_v133 (arg0 : T F main_arg0) (arg2 : T F main_arg2) (arg3 : T F main_arg3) (arg4 : T F main_arg4) (arg5 : T F main_arg5) (arg6 : T F main_arg6) (arg7 : T F main_arg7) (arg9 : T F main_arg9) : T F main_v133 :=
  st_v133 (r_v112 arg0 arg2 arg3 arg4 arg5 arg6 arg7 arg9)

/-- The arguments' references. -/
abbrev argL : List (Ref sig .tc) := [main_arg0, main_arg1, main_arg2, main_arg3, main_arg4, main_arg5, main_arg6, main_arg7, main_arg8, main_arg9]

theorem args0 (V : Valuation τ sig (Elt F)) (r : Ref sig .tc) (_ : r ∈ argL) : U0 V (Proc.devRef .tc r) = V (Proc.devRef .tc r) := rfl

theorem args1 (V : Valuation τ sig (Elt F)) (r : Ref sig .tc) (h : r ∈ argL) : U1 V (Proc.devRef .tc r) = V (Proc.devRef .tc r) :=
  (keep0 V _ ((by decide : ∀ r ∈ argL, r ∉ w0) r h)).trans (args0 V r h)

theorem args2 (V : Valuation τ sig (Elt F)) (r : Ref sig .tc) (h : r ∈ argL) : U2 V (Proc.devRef .tc r) = V (Proc.devRef .tc r) :=
  (keep1 V _ ((by decide : ∀ r ∈ argL, r ∉ w1) r h)).trans (args1 V r h)

theorem args3 (V : Valuation τ sig (Elt F)) (r : Ref sig .tc) (h : r ∈ argL) : U3 V (Proc.devRef .tc r) = V (Proc.devRef .tc r) :=
  (keep2 V _ ((by decide : ∀ r ∈ argL, r ∉ w2) r h)).trans (args2 V r h)

theorem args4 (V : Valuation τ sig (Elt F)) (r : Ref sig .tc) (h : r ∈ argL) : U4 V (Proc.devRef .tc r) = V (Proc.devRef .tc r) :=
  (keep3 V _ ((by decide : ∀ r ∈ argL, r ∉ w3) r h)).trans (args3 V r h)

theorem args5 (V : Valuation τ sig (Elt F)) (r : Ref sig .tc) (h : r ∈ argL) : U5 V (Proc.devRef .tc r) = V (Proc.devRef .tc r) :=
  (keep4 V _ ((by decide : ∀ r ∈ argL, r ∉ w4) r h)).trans (args4 V r h)

theorem args6 (V : Valuation τ sig (Elt F)) (r : Ref sig .tc) (h : r ∈ argL) : U6 V (Proc.devRef .tc r) = V (Proc.devRef .tc r) :=
  (keep5 V _ ((by decide : ∀ r ∈ argL, r ∉ w5) r h)).trans (args5 V r h)

theorem args7 (V : Valuation τ sig (Elt F)) (r : Ref sig .tc) (h : r ∈ argL) : U7 V (Proc.devRef .tc r) = V (Proc.devRef .tc r) :=
  (keep6 V _ ((by decide : ∀ r ∈ argL, r ∉ w6) r h)).trans (args6 V r h)

theorem args8 (V : Valuation τ sig (Elt F)) (r : Ref sig .tc) (h : r ∈ argL) : U8 V (Proc.devRef .tc r) = V (Proc.devRef .tc r) :=
  (keep7 V _ ((by decide : ∀ r ∈ argL, r ∉ w7) r h)).trans (args7 V r h)

theorem args9 (V : Valuation τ sig (Elt F)) (r : Ref sig .tc) (h : r ∈ argL) : U9 V (Proc.devRef .tc r) = V (Proc.devRef .tc r) :=
  (keep8 V _ ((by decide : ∀ r ∈ argL, r ∉ w8) r h)).trans (args8 V r h)

theorem args10 (V : Valuation τ sig (Elt F)) (r : Ref sig .tc) (h : r ∈ argL) : U10 V (Proc.devRef .tc r) = V (Proc.devRef .tc r) :=
  (keep9 V _ ((by decide : ∀ r ∈ argL, r ∉ w9) r h)).trans (args9 V r h)

theorem args11 (V : Valuation τ sig (Elt F)) (r : Ref sig .tc) (h : r ∈ argL) : U11 V (Proc.devRef .tc r) = V (Proc.devRef .tc r) :=
  (keep10 V _ ((by decide : ∀ r ∈ argL, r ∉ w10) r h)).trans (args10 V r h)

theorem args12 (V : Valuation τ sig (Elt F)) (r : Ref sig .tc) (h : r ∈ argL) : U12 V (Proc.devRef .tc r) = V (Proc.devRef .tc r) :=
  (keep11 V _ ((by decide : ∀ r ∈ argL, r ∉ w11) r h)).trans (args11 V r h)

theorem args13 (V : Valuation τ sig (Elt F)) (r : Ref sig .tc) (h : r ∈ argL) : U13 V (Proc.devRef .tc r) = V (Proc.devRef .tc r) :=
  (keep12 V _ ((by decide : ∀ r ∈ argL, r ∉ w12) r h)).trans (args12 V r h)

theorem args14 (V : Valuation τ sig (Elt F)) (r : Ref sig .tc) (h : r ∈ argL) : U14 V (Proc.devRef .tc r) = V (Proc.devRef .tc r) :=
  (keep13 V _ ((by decide : ∀ r ∈ argL, r ∉ w13) r h)).trans (args13 V r h)

theorem args15 (V : Valuation τ sig (Elt F)) (r : Ref sig .tc) (h : r ∈ argL) : U15 V (Proc.devRef .tc r) = V (Proc.devRef .tc r) :=
  (keep14 V _ ((by decide : ∀ r ∈ argL, r ∉ w14) r h)).trans (args14 V r h)

theorem args16 (V : Valuation τ sig (Elt F)) (r : Ref sig .tc) (h : r ∈ argL) : U16 V (Proc.devRef .tc r) = V (Proc.devRef .tc r) :=
  (keep15 V _ ((by decide : ∀ r ∈ argL, r ∉ w15) r h)).trans (args15 V r h)

theorem args17 (V : Valuation τ sig (Elt F)) (r : Ref sig .tc) (h : r ∈ argL) : U17 V (Proc.devRef .tc r) = V (Proc.devRef .tc r) :=
  (keep16 V _ ((by decide : ∀ r ∈ argL, r ∉ w16) r h)).trans (args16 V r h)

theorem args18 (V : Valuation τ sig (Elt F)) (r : Ref sig .tc) (h : r ∈ argL) : U18 V (Proc.devRef .tc r) = V (Proc.devRef .tc r) :=
  (keep17 V _ ((by decide : ∀ r ∈ argL, r ∉ w17) r h)).trans (args17 V r h)

theorem at_v5_1 (V : Valuation τ sig (Elt F)) : U1 V (Proc.devRef .tc main_v5) = (r_v5 (V (Proc.devRef .tc main_arg0)) (V (Proc.devRef .tc main_arg2)) (V (Proc.devRef .tc main_arg3))) := by rw [U_v5, args0 V _ (by decide), args0 V _ (by decide), args0 V _ (by decide)]; rfl

theorem at_v5_2 (V : Valuation τ sig (Elt F)) : U2 V (Proc.devRef .tc main_v5) = (r_v5 (V (Proc.devRef .tc main_arg0)) (V (Proc.devRef .tc main_arg2)) (V (Proc.devRef .tc main_arg3))) := (keep1 V _ (by decide)).trans (at_v5_1 V)

theorem at_v5_3 (V : Valuation τ sig (Elt F)) : U3 V (Proc.devRef .tc main_v5) = (r_v5 (V (Proc.devRef .tc main_arg0)) (V (Proc.devRef .tc main_arg2)) (V (Proc.devRef .tc main_arg3))) := (keep2 V _ (by decide)).trans (at_v5_2 V)

theorem at_v5_4 (V : Valuation τ sig (Elt F)) : U4 V (Proc.devRef .tc main_v5) = (r_v5 (V (Proc.devRef .tc main_arg0)) (V (Proc.devRef .tc main_arg2)) (V (Proc.devRef .tc main_arg3))) := (keep3 V _ (by decide)).trans (at_v5_3 V)

theorem at_v5_5 (V : Valuation τ sig (Elt F)) : U5 V (Proc.devRef .tc main_v5) = (r_v5 (V (Proc.devRef .tc main_arg0)) (V (Proc.devRef .tc main_arg2)) (V (Proc.devRef .tc main_arg3))) := (keep4 V _ (by decide)).trans (at_v5_4 V)

theorem at_v5_6 (V : Valuation τ sig (Elt F)) : U6 V (Proc.devRef .tc main_v5) = (r_v5 (V (Proc.devRef .tc main_arg0)) (V (Proc.devRef .tc main_arg2)) (V (Proc.devRef .tc main_arg3))) := (keep5 V _ (by decide)).trans (at_v5_5 V)

theorem at_v5_7 (V : Valuation τ sig (Elt F)) : U7 V (Proc.devRef .tc main_v5) = (r_v5 (V (Proc.devRef .tc main_arg0)) (V (Proc.devRef .tc main_arg2)) (V (Proc.devRef .tc main_arg3))) := (keep6 V _ (by decide)).trans (at_v5_6 V)

theorem at_v5_8 (V : Valuation τ sig (Elt F)) : U8 V (Proc.devRef .tc main_v5) = (r_v5 (V (Proc.devRef .tc main_arg0)) (V (Proc.devRef .tc main_arg2)) (V (Proc.devRef .tc main_arg3))) := (keep7 V _ (by decide)).trans (at_v5_7 V)

theorem at_v64_9 (V : Valuation τ sig (Elt F)) : U9 V (Proc.devRef .tc main_v64) = (r_v64 (V (Proc.devRef .tc main_arg0)) (V (Proc.devRef .tc main_arg2)) (V (Proc.devRef .tc main_arg3)) (V (Proc.devRef .tc main_arg4))) := by rw [U_v64, at_v5_8, args8 V _ (by decide)]; rfl

theorem at_v0_1 (V : Valuation τ sig (Elt F)) : U1 V (Proc.devRef .tc main_v0) = (r_v0 (V (Proc.devRef .tc main_arg0))) := by rw [U_v0, args0 V _ (by decide)]; rfl

theorem at_v16_2 (V : Valuation τ sig (Elt F)) : U2 V (Proc.devRef .tc main_v16) = (r_v16 (V (Proc.devRef .tc main_arg0))) := by rw [U_v16, at_v0_1]; rfl

theorem at_v16_3 (V : Valuation τ sig (Elt F)) : U3 V (Proc.devRef .tc main_v16) = (r_v16 (V (Proc.devRef .tc main_arg0))) := (keep2 V _ (by decide)).trans (at_v16_2 V)

theorem at_v16_4 (V : Valuation τ sig (Elt F)) : U4 V (Proc.devRef .tc main_v16) = (r_v16 (V (Proc.devRef .tc main_arg0))) := (keep3 V _ (by decide)).trans (at_v16_3 V)

theorem at_v16_5 (V : Valuation τ sig (Elt F)) : U5 V (Proc.devRef .tc main_v16) = (r_v16 (V (Proc.devRef .tc main_arg0))) := (keep4 V _ (by decide)).trans (at_v16_4 V)

theorem at_v16_6 (V : Valuation τ sig (Elt F)) : U6 V (Proc.devRef .tc main_v16) = (r_v16 (V (Proc.devRef .tc main_arg0))) := (keep5 V _ (by decide)).trans (at_v16_5 V)

theorem at_v16_7 (V : Valuation τ sig (Elt F)) : U7 V (Proc.devRef .tc main_v16) = (r_v16 (V (Proc.devRef .tc main_arg0))) := (keep6 V _ (by decide)).trans (at_v16_6 V)

theorem at_v16_8 (V : Valuation τ sig (Elt F)) : U8 V (Proc.devRef .tc main_v16) = (r_v16 (V (Proc.devRef .tc main_arg0))) := (keep7 V _ (by decide)).trans (at_v16_7 V)

theorem at_v65_9 (V : Valuation τ sig (Elt F)) : U9 V (Proc.devRef .tc main_v65) = (r_v65 (V (Proc.devRef .tc main_arg0)) (V (Proc.devRef .tc main_arg5))) := by rw [U_v65, at_v16_8, args8 V _ (by decide)]; rfl

theorem at_v0_2 (V : Valuation τ sig (Elt F)) : U2 V (Proc.devRef .tc main_v0) = (r_v0 (V (Proc.devRef .tc main_arg0))) := (keep1 V _ (by decide)).trans (at_v0_1 V)

theorem at_v21_3 (V : Valuation τ sig (Elt F)) : U3 V (Proc.devRef .tc main_v21) = (r_v21 (V (Proc.devRef .tc main_arg0))) := by rw [U_v21, at_v0_2]; rfl

theorem at_v21_4 (V : Valuation τ sig (Elt F)) : U4 V (Proc.devRef .tc main_v21) = (r_v21 (V (Proc.devRef .tc main_arg0))) := (keep3 V _ (by decide)).trans (at_v21_3 V)

theorem at_v21_5 (V : Valuation τ sig (Elt F)) : U5 V (Proc.devRef .tc main_v21) = (r_v21 (V (Proc.devRef .tc main_arg0))) := (keep4 V _ (by decide)).trans (at_v21_4 V)

theorem at_v21_6 (V : Valuation τ sig (Elt F)) : U6 V (Proc.devRef .tc main_v21) = (r_v21 (V (Proc.devRef .tc main_arg0))) := (keep5 V _ (by decide)).trans (at_v21_5 V)

theorem at_v21_7 (V : Valuation τ sig (Elt F)) : U7 V (Proc.devRef .tc main_v21) = (r_v21 (V (Proc.devRef .tc main_arg0))) := (keep6 V _ (by decide)).trans (at_v21_6 V)

theorem at_v24_3 (V : Valuation τ sig (Elt F)) : U3 V (Proc.devRef .tc main_v24) = (r_v24 (V (Proc.devRef .tc main_arg0))) := by rw [U_v24, at_v0_2]; rfl

theorem at_v29_4 (V : Valuation τ sig (Elt F)) : U4 V (Proc.devRef .tc main_v29) = (r_v29 (V (Proc.devRef .tc main_arg0))) := by rw [U_v29, at_v24_3]; rfl

theorem at_v29_5 (V : Valuation τ sig (Elt F)) : U5 V (Proc.devRef .tc main_v29) = (r_v29 (V (Proc.devRef .tc main_arg0))) := (keep4 V _ (by decide)).trans (at_v29_4 V)

theorem at_v29_6 (V : Valuation τ sig (Elt F)) : U6 V (Proc.devRef .tc main_v29) = (r_v29 (V (Proc.devRef .tc main_arg0))) := (keep5 V _ (by decide)).trans (at_v29_5 V)

theorem at_v29_7 (V : Valuation τ sig (Elt F)) : U7 V (Proc.devRef .tc main_v29) = (r_v29 (V (Proc.devRef .tc main_arg0))) := (keep6 V _ (by decide)).trans (at_v29_6 V)

theorem at_v32_4 (V : Valuation τ sig (Elt F)) : U4 V (Proc.devRef .tc main_v32) = (r_v32 (V (Proc.devRef .tc main_arg0))) := by rw [U_v32, at_v24_3]; rfl

theorem at_v37_5 (V : Valuation τ sig (Elt F)) : U5 V (Proc.devRef .tc main_v37) = (r_v37 (V (Proc.devRef .tc main_arg0))) := by rw [U_v37, at_v32_4]; rfl

theorem at_v37_6 (V : Valuation τ sig (Elt F)) : U6 V (Proc.devRef .tc main_v37) = (r_v37 (V (Proc.devRef .tc main_arg0))) := (keep5 V _ (by decide)).trans (at_v37_5 V)

theorem at_v37_7 (V : Valuation τ sig (Elt F)) : U7 V (Proc.devRef .tc main_v37) = (r_v37 (V (Proc.devRef .tc main_arg0))) := (keep6 V _ (by decide)).trans (at_v37_6 V)

theorem at_v40_5 (V : Valuation τ sig (Elt F)) : U5 V (Proc.devRef .tc main_v40) = (r_v40 (V (Proc.devRef .tc main_arg0))) := by rw [U_v40, at_v32_4]; rfl

theorem at_v45_6 (V : Valuation τ sig (Elt F)) : U6 V (Proc.devRef .tc main_v45) = (r_v45 (V (Proc.devRef .tc main_arg0))) := by rw [U_v45, at_v40_5]; rfl

theorem at_v45_7 (V : Valuation τ sig (Elt F)) : U7 V (Proc.devRef .tc main_v45) = (r_v45 (V (Proc.devRef .tc main_arg0))) := (keep6 V _ (by decide)).trans (at_v45_6 V)

theorem at_v48_6 (V : Valuation τ sig (Elt F)) : U6 V (Proc.devRef .tc main_v48) = (r_v48 (V (Proc.devRef .tc main_arg0))) := by rw [U_v48, at_v40_5]; rfl

theorem at_v53_7 (V : Valuation τ sig (Elt F)) : U7 V (Proc.devRef .tc main_v53) = (r_v53 (V (Proc.devRef .tc main_arg0))) := by rw [U_v53, at_v48_6]; rfl

theorem at_v56_7 (V : Valuation τ sig (Elt F)) : U7 V (Proc.devRef .tc main_v56) = (r_v56 (V (Proc.devRef .tc main_arg0))) := by rw [U_v56, at_v48_6]; rfl

theorem at_v57_8 (V : Valuation τ sig (Elt F)) : U8 V (Proc.devRef .tc main_v57) = (r_v57 (V (Proc.devRef .tc main_arg0))) := by rw [U_v57, at_v21_7, at_v29_7, at_v37_7, at_v45_7, at_v53_7, at_v56_7]; rfl

theorem at_v66_9 (V : Valuation τ sig (Elt F)) : U9 V (Proc.devRef .tc main_v66) = (r_v66 (V (Proc.devRef .tc main_arg0)) (V (Proc.devRef .tc main_arg6))) := by rw [U_v66, at_v57_8, args8 V _ (by decide)]; rfl

theorem at_v72_10 (V : Valuation τ sig (Elt F)) : U10 V (Proc.devRef .tc main_v72) = (r_v72 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7))) := by rw [U_v72, at_v64_9, at_v65_9, at_v66_9, args9 V _ (by decide)]; rfl

theorem at_v86_11 (V : Valuation τ sig (Elt F)) : U11 V (Proc.devRef .tc main_v86) = (r_v86 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := by rw [U_v86, at_v72_10, args10 V _ (by decide)]; rfl

theorem at_v86_12 (V : Valuation τ sig (Elt F)) : U12 V (Proc.devRef .tc main_v86) = (r_v86 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := (keep11 V _ (by decide)).trans (at_v86_11 V)

theorem at_v87_12 (V : Valuation τ sig (Elt F)) : U12 V (Proc.devRef .tc main_v87) = (r_v87 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := by rw [U_v87, at_v86_11]; rfl

theorem at_v98_13 (V : Valuation τ sig (Elt F)) : U13 V (Proc.devRef .tc main_v98) = (r_v98 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := by rw [U_v98, at_v86_12, at_v87_12, args12 V _ (by decide)]; rfl

theorem at_v98_14 (V : Valuation τ sig (Elt F)) : U14 V (Proc.devRef .tc main_v98) = (r_v98 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := (keep13 V _ (by decide)).trans (at_v98_13 V)

theorem at_v98_15 (V : Valuation τ sig (Elt F)) : U15 V (Proc.devRef .tc main_v98) = (r_v98 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := (keep14 V _ (by decide)).trans (at_v98_14 V)

theorem at_v72_11 (V : Valuation τ sig (Elt F)) : U11 V (Proc.devRef .tc main_v72) = (r_v72 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7))) := (keep10 V _ (by decide)).trans (at_v72_10 V)

theorem at_v72_12 (V : Valuation τ sig (Elt F)) : U12 V (Proc.devRef .tc main_v72) = (r_v72 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7))) := (keep11 V _ (by decide)).trans (at_v72_11 V)

theorem at_v72_13 (V : Valuation τ sig (Elt F)) : U13 V (Proc.devRef .tc main_v72) = (r_v72 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7))) := (keep12 V _ (by decide)).trans (at_v72_12 V)

theorem at_v99_13 (V : Valuation τ sig (Elt F)) : U13 V (Proc.devRef .tc main_v99) = (r_v99 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := by rw [U_v99, at_v87_12]; rfl

theorem at_v101_14 (V : Valuation τ sig (Elt F)) : U14 V (Proc.devRef .tc main_v101) = (r_v101 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := by rw [U_v101, at_v72_13, at_v99_13]; rfl

theorem at_v112_15 (V : Valuation τ sig (Elt F)) : U15 V (Proc.devRef .tc main_v112) = (r_v112 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := by rw [U_v112, at_v101_14]; rfl

theorem at_v120_16 (V : Valuation τ sig (Elt F)) : U16 V (Proc.devRef .tc main_v120) = (r_v120 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := by rw [U_v120, at_v98_15, at_v112_15, args15 V _ (by decide)]; rfl

theorem at_v120_17 (V : Valuation τ sig (Elt F)) : U17 V (Proc.devRef .tc main_v120) = (r_v120 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := (keep16 V _ (by decide)).trans (at_v120_16 V)

theorem at_v120_18 (V : Valuation τ sig (Elt F)) : U18 V (Proc.devRef .tc main_v120) = (r_v120 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := (keep17 V _ (by decide)).trans (at_v120_17 V)

theorem at_v101_15 (V : Valuation τ sig (Elt F)) : U15 V (Proc.devRef .tc main_v101) = (r_v101 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := (keep14 V _ (by decide)).trans (at_v101_14 V)

theorem at_v101_16 (V : Valuation τ sig (Elt F)) : U16 V (Proc.devRef .tc main_v101) = (r_v101 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := (keep15 V _ (by decide)).trans (at_v101_15 V)

theorem at_v124_17 (V : Valuation τ sig (Elt F)) : U17 V (Proc.devRef .tc main_v124) = (r_v124 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := by rw [U_v124, at_v101_16]; rfl

theorem at_v124_18 (V : Valuation τ sig (Elt F)) : U18 V (Proc.devRef .tc main_v124) = (r_v124 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := (keep17 V _ (by decide)).trans (at_v124_17 V)

theorem at_v112_16 (V : Valuation τ sig (Elt F)) : U16 V (Proc.devRef .tc main_v112) = (r_v112 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := (keep15 V _ (by decide)).trans (at_v112_15 V)

theorem at_v112_17 (V : Valuation τ sig (Elt F)) : U17 V (Proc.devRef .tc main_v112) = (r_v112 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := (keep16 V _ (by decide)).trans (at_v112_16 V)

theorem at_v133_18 (V : Valuation τ sig (Elt F)) : U18 V (Proc.devRef .tc main_v133) = (r_v133 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9))) := by rw [U_v133, at_v112_17]; rfl

/-- The reference's run: every argument is kept, every semaphore is at rest, and the three results are the functions
    above of the arguments. -/
theorem run (m : (ℓ : Loc nD τ sig) → Buf (Elt F) ℓ) (ρ : Dev nD → PrngReg) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0)
      ∧ ∀ c : Dev nD, r.2.mem ((c.tc : Thread nD τ).loc main_v120) = (r_v120 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_v124) = (r_v124 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)))
      ∧ r.2.mem ((c.tc : Thread nD τ).loc main_v133) = (r_v133 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)))) :=
  (θ_run defs _ _).mono (fun r h => by
    have e : ∀ (c : Dev nD) (b : Ref sig .tc), r.2.mem ((c.tc : Thread nD τ).loc b) = U18 (launchContents m c) (Proc.devRef .tc b) := fun c b =>
      (h c b).trans (congrFun (after_ops (launchContents m c)) _)
    exact ⟨⟨fun c => ⟨(e c _).trans (args18 _ _ (by decide)), (e c _).trans (args18 _ _ (by decide)), (e c _).trans (args18 _ _ (by decide)), (e c _).trans (args18 _ _ (by decide)), (e c _).trans (args18 _ _ (by decide)), (e c _).trans (args18 _ _ (by decide)), (e c _).trans (args18 _ _ (by decide)), (e c _).trans (args18 _ _ (by decide)), (e c _).trans (args18 _ _ (by decide)), (e c _).trans (args18 _ _ (by decide))⟩, sem_eq_zero_of_no_sems (by decide) r.2⟩,
      fun c => ⟨(e c _).trans (at_v120_18 _), (e c _).trans (at_v124_18 _), (e c _).trans (at_v133_18 _)⟩⟩)
    (run_seq scopedRefs_eq scopedSems_eq defs main (fun _ => ops) main_eq (fun _ => ops_sub) m ρ fun _ => ops_fresh)

end Cert.ReferenceIdeal.Result

end
-- ==== Proof.Frames.lean ====
/-
  The frame claims and the ledger of named constants.
-/
module

public import proofs.«01_k».proof.Defs
public import proofs.«01_k».proof.Proof.Kernel.Run
public import proofs.«01_k».proof.Proof.KernelIdeal.Run
public import proofs.«01_k».proof.Proof.ReferenceIdeal.Result
public import proofs.«01_k».proof.Proof.Gen.Pre_scores_finite_untied
public import Idealize.ShloMosaic.Lib.Claim

@[expose] public section

noncomputable section

namespace Cert.Proof.Frames

open Idealize.ShloMosaic

/-- The kernel ends with its arguments unchanged and its semaphores at rest. -/
theorem frame_p : Cert.quiescent_Kernel := fun m ρ _ =>
  θ_run_mono (Cert.Kernel.Run.frame_run m ρ) fun _ h => h.1

/-- So does the kernel read over the extended reals. -/
theorem frame_pi : Cert.quiescent_KernelIdeal := fun m ρ _ =>
  θ_run_mono (Cert.KernelIdeal.Run.frame_run m ρ) fun _ h => h.1

/-- So it does of arguments that satisfy the precondition. -/
theorem frame_pi_pre : Cert.quiescent_KernelIdeal_pre_scores_finite_untied := fun m ρ _ =>
  θ_run_mono (Cert.KernelIdeal.Run.frame_run m ρ) fun _ h => h.1

/-- So does the reference read over the extended reals. -/
theorem frame_ri : Cert.quiescent_ReferenceIdeal := fun m ρ _ =>
  θ_run_mono (Cert.ReferenceIdeal.Result.run m ρ) fun _ h => h.1

/-- So it does of arguments that satisfy the precondition. -/
theorem frame_ri_pre : Cert.quiescent_ReferenceIdeal_pre_scores_finite_untied := fun m ρ _ =>
  θ_run_mono (Cert.ReferenceIdeal.Result.run m ρ) fun _ h => h.1

/-- The three named constants have the values the table gives them. -/
theorem preserves : Cert.preserves_Kernel_KernelIdeal :=
  ⟨IdealRules.named_const.statement _ _ _ _ _ rfl, IdealRules.named_const.statement _ _ _ _ _ rfl,
    IdealRules.named_const.statement _ _ _ _ _ rfl⟩

end Cert.Proof.Frames

end
-- ==== Proof.Math.Reals.lean ====
/-
  The identities over the real numbers behind the scores: reordering of a threefold product, the
  wavelet transform against its transpose, and the angles of the cosine transform.
-/
module

public import Mathlib.Analysis.SpecialFunctions.Trigonometric.Basic
public import Mathlib.Data.EReal.Operations
public import Mathlib.Algebra.BigOperators.Ring.Finset
public import Mathlib.Algebra.BigOperators.Intervals
public import Mathlib.Tactic.Ring
public import Mathlib.Tactic.Linarith
public import Mathlib.Tactic.FieldSimp

@[expose] public section

noncomputable section

namespace Cert.Math

/-- A finite sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A signal through two matrices and against a key is the signal against the key carried back. -/
theorem triple {E P T : Type} [Fintype E] [Fintype P] [Fintype T] (k : E → ℝ) (w : E → P → ℝ) (a : P → T → ℝ) (y : T → ℝ) :
    ∑ e, k e * ∑ p, (∑ t, y t * a p t) * w e p = ∑ t, y t * ∑ p, a p t * ∑ e, k e * w e p := by
  simp only [Finset.mul_sum, Finset.sum_mul]
  rw [Finset.sum_comm' (t' := Finset.univ) (s' := fun _ => Finset.univ) (by simp)]
  rw [Finset.sum_congr rfl (fun p _ => Finset.sum_comm)]
  rw [Finset.sum_comm]
  exact Finset.sum_congr rfl fun t _ => Finset.sum_congr rfl fun p _ => Finset.sum_congr rfl fun e _ => by ring

/-- A vector through one matrix and against a key. -/
theorem double {E P : Type} [Fintype E] [Fintype P] (k : E → ℝ) (w : E → P → ℝ) (y : P → ℝ) :
    ∑ e, k e * ∑ p, y p * w e p = ∑ p, y p * ∑ e, k e * w e p := by
  simp only [Finset.mul_sum]
  rw [Finset.sum_comm]
  exact Finset.sum_congr rfl fun p _ => Finset.sum_congr rfl fun e _ => by ring

/-- The averages of one wavelet level. -/
def lo (s : ℝ) (x : ℕ → ℝ) : ℕ → ℝ := fun i => (x (2 * i) + x (2 * i + 1)) * s
/-- The differences of one wavelet level. -/
def hi (s : ℝ) (x : ℕ → ℝ) : ℕ → ℝ := fun i => (x (2 * i + 1) - x (2 * i)) * s
/-- The transpose of one level. -/
def syn (s : ℝ) (a d : ℕ → ℝ) : ℕ → ℝ := fun t => if t % 2 = 0 then (a (t / 2) - d (t / 2)) * s else (a (t / 2) + d (t / 2)) * s

theorem level (s : ℝ) (x a d : ℕ → ℝ) (m : ℕ) :
    ∑ t ∈ Finset.range (2 * m), x t * syn s a d t
      = ∑ i ∈ Finset.range m, lo s x i * a i + ∑ i ∈ Finset.range m, hi s x i * d i := by
  induction m with
  | zero => simp
  | succ m ih =>
    rw [show 2 * (m + 1) = 2 * m + 1 + 1 by ring, Finset.sum_range_succ, Finset.sum_range_succ, ih, Finset.sum_range_succ, Finset.sum_range_succ]
    have e0 : syn s a d (2 * m) = (a m - d m) * s := by
      unfold syn; rw [if_pos (by omega), show 2 * m / 2 = m by omega]
    have e1 : syn s a d (2 * m + 1) = (a m + d m) * s := by
      unfold syn; rw [if_neg (by omega), show (2 * m + 1) / 2 = m by omega]
    rw [e0, e1]; unfold lo hi; ring

/-- The five-level wavelet coefficients side by side. -/
def wav (s : ℝ) (x : ℕ → ℝ) : ℕ → ℝ := fun j =>
  if j < 128 then lo s (lo s (lo s (lo s (lo s x)))) j
  else if j < 256 then hi s (lo s (lo s (lo s (lo s x)))) (j - 128)
  else if j < 512 then hi s (lo s (lo s (lo s x))) (j - 256)
  else if j < 1024 then hi s (lo s (lo s x)) (j - 512)
  else if j < 2048 then hi s (lo s x) (j - 1024)
  else hi s x (j - 2048)

/-- Their transpose, level by level. -/
def wsyn (s : ℝ) (r : ℕ → ℝ) : ℕ → ℝ :=
  syn s (syn s (syn s (syn s (syn s r fun i => r (128 + i)) fun i => r (256 + i)) fun i => r (512 + i)) fun i => r (1024 + i)) fun i => r (2048 + i)

theorem half (f : ℕ → ℝ) (m : ℕ) : ∑ j ∈ Finset.range (2 * m), f j = ∑ j ∈ Finset.range m, f j + ∑ i ∈ Finset.range m, f (m + i) := by
  rw [two_mul, Finset.sum_range_add]

/-- The coefficients against a vector are the signal against the vector carried back. -/
theorem wav_adj (s : ℝ) (x r : ℕ → ℝ) :
    ∑ j ∈ Finset.range 4096, wav s x j * r j = ∑ t ∈ Finset.range 4096, x t * wsyn s r t := by
  have h (m : ℕ) (hm : m = 128 ∨ m = 256 ∨ m = 512 ∨ m = 1024 ∨ m = 2048) := half (fun j => wav s x j * r j) m
  rw [show (4096 : ℕ) = 2 * 2048 by norm_num, h 2048 (by norm_num), show (2048 : ℕ) = 2 * 1024 by norm_num, h 1024 (by norm_num),
    show (1024 : ℕ) = 2 * 512 by norm_num, h 512 (by norm_num), show (512 : ℕ) = 2 * 256 by norm_num, h 256 (by norm_num),
    show (256 : ℕ) = 2 * 128 by norm_num, h 128 (by norm_num)]
  unfold wsyn
  rw [level, level, level, level, level]
  norm_num only
  refine congrArg₂ (· + ·) (congrArg₂ (· + ·) (congrArg₂ (· + ·) (congrArg₂ (· + ·) (congrArg₂ (· + ·) ?_ ?_) ?_) ?_) ?_) ?_ <;>
  · refine Finset.sum_congr rfl fun i hi => ?_
    have hi' := Finset.mem_range.mp hi
    unfold wav
    first
    | rw [if_pos (by omega)]
    | rw [if_neg (by omega), if_pos (by omega), Nat.add_sub_cancel_left]
    | rw [if_neg (by omega), if_neg (by omega), if_pos (by omega), Nat.add_sub_cancel_left]
    | rw [if_neg (by omega), if_neg (by omega), if_neg (by omega), if_pos (by omega), Nat.add_sub_cancel_left]
    | rw [if_neg (by omega), if_neg (by omega), if_neg (by omega), if_neg (by omega), if_pos (by omega), Nat.add_sub_cancel_left]
    | rw [if_neg (by omega), if_neg (by omega), if_neg (by omega), if_neg (by omega), if_neg (by omega), Nat.add_sub_cancel_left]

theorem mod_angle (a n : ℕ) (hn : 0 < n) : ((a : ℝ)) * (2 * Real.pi / n) = ((a % n : ℕ) : ℝ) * (2 * Real.pi / n) + ((a / n : ℕ) : ℝ) * (2 * Real.pi) := by
  have h : (a : ℝ) = ((a % n : ℕ) : ℝ) + (n : ℝ) * ((a / n : ℕ) : ℝ) := by exact_mod_cast (Nat.mod_add_div a n).symm
  have hn' : (n : ℝ) ≠ 0 := by exact_mod_cast hn.ne'
  generalize ((a % n : ℕ) : ℝ) = u at *
  generalize ((a / n : ℕ) : ℝ) = v at *
  rw [h]; field_simp
theorem cos_mod (a n : ℕ) (hn : 0 < n) : Real.cos (((a % n : ℕ) : ℝ) * (2 * Real.pi / n)) = Real.cos ((a : ℝ) * (2 * Real.pi / n)) := by
  rw [mod_angle a n hn, Real.cos_add_nat_mul_two_pi]
theorem sin_mod (a n : ℕ) (hn : 0 < n) : Real.sin (((a % n : ℕ) : ℝ) * (2 * Real.pi / n)) = Real.sin ((a : ℝ) * (2 * Real.pi / n)) := by
  rw [mod_angle a n hn, Real.sin_add_nat_mul_two_pi]

/-- The cosine of a product of time and frequency from two reduced angles. -/
theorem cos_split (t j1 j2 : ℕ) :
    Real.cos (((j1 * t % 64 : ℕ) : ℝ) * (Real.pi * (32 : ℝ)⁻¹)) * Real.cos (((j2 * t % 4096 : ℕ) : ℝ) * (Real.pi * (2048 : ℝ)⁻¹))
      - Real.sin (((j1 * t % 64 : ℕ) : ℝ) * (Real.pi * (32 : ℝ)⁻¹)) * Real.sin (((j2 * t % 4096 : ℕ) : ℝ) * (Real.pi * (2048 : ℝ)⁻¹))
      = Real.cos (((t * (j1 * 64 + j2) : ℕ) : ℝ) * (Real.pi * (2048 : ℝ)⁻¹)) := by
  have a1 : Real.pi * (32 : ℝ)⁻¹ = 2 * Real.pi / (64 : ℕ) := by push_cast; ring
  have a2 : Real.pi * (2048 : ℝ)⁻¹ = 2 * Real.pi / (4096 : ℕ) := by push_cast; ring
  rw [a1, a2, cos_mod _ 64 (by norm_num), sin_mod _ 64 (by norm_num), cos_mod _ 4096 (by norm_num), sin_mod _ 4096 (by norm_num), ← Real.cos_add]
  congr 1; push_cast; ring

/-- At half the sampling rate the cosine is the sign of the parity. -/
theorem cos_nyq (t : ℕ) : Real.cos (((t * 2048 : ℕ) : ℝ) * (Real.pi * (2048 : ℝ)⁻¹)) = 1 - 2 * ((t % 2 : ℕ) : ℝ) := by
  have e : ((t * 2048 : ℕ) : ℝ) * (Real.pi * (2048 : ℝ)⁻¹) = t * Real.pi := by push_cast; ring
  rw [e, Real.cos_nat_mul_pi]
  rcases Nat.even_or_odd t with h | h
  · rw [h.neg_one_pow, Nat.even_iff.mp h]; norm_num
  · rw [h.neg_one_pow, Nat.odd_iff.mp h]; norm_num

end Cert.Math

end
-- ==== Proof.Math.Consts.lean ====
/-
  The real numbers that the programs' constants denote.
-/
module

public import Idealize.ShloMosaic.PureOps.Ideal.Laws
public import Idealize.ShloMosaic.Lib.Pointwise
public import proofs.«01_k».proof.KernelIdeal

@[expose] public section

noncomputable section

namespace Cert.Math

open Idealize.ShloMosaic

/-- The number that the wavelet's scale denotes, as both programs have it. -/
def sH : ℝ := 11863283 / 16777216
theorem c_sH : Ideal.ofBits .f32 0x3F3504F3#32 = ((sH : ℝ) : EReal) := by
  unfold sH; simp [Ideal.ofBits, Ideal.ieee, -EReal.coe_mul]; norm_num
theorem c_768 : Ideal.ofBits .f32 0x44400000#32 = ((768 : ℝ) : EReal) := by
  simp [Ideal.ofBits, Ideal.ieee, -EReal.coe_mul]; norm_num
theorem c_8 : Ideal.ofBits .f32 0x41000000#32 = ((8 : ℝ) : EReal) := by
  simp [Ideal.ofBits, Ideal.ieee, -EReal.coe_mul]; norm_num
theorem c_4096 : Ideal.ofBits .f32 0x45800000#32 = ((4096 : ℝ) : EReal) := by
  simp [Ideal.ofBits, Ideal.ieee, -EReal.coe_mul]; norm_num
theorem c_neg_inf : Ideal.ofBits .f32 0xFF800000#32 = (⊥ : EReal) := by
  simp [Ideal.ofBits, Ideal.ieee]
theorem c_pos_inf : Ideal.ofBits .f32 0x7F800000#32 = (⊤ : EReal) := by
  simp [Ideal.ofBits, Ideal.ieee]

/-- The reciprocal of the root of the key's length. -/
theorem n_inv : Named.named (F := Ideal) Cert.KernelIdeal.κ "inv_sqrt_d" (φ := .f32) 0x3D13CD3A#32 = (((Real.sqrt 768)⁻¹ : ℝ) : EReal) :=
  IdealRules.named_const.ideal_named_scalar _ _ _ _ rfl
theorem n_64 : Named.named (F := Ideal) Cert.KernelIdeal.κ "two_pi_over_64" (φ := .f32) 0x3DC90FDB#32 = ((Real.pi * 32⁻¹ : ℝ) : EReal) :=
  IdealRules.named_const.ideal_named_scalar _ _ _ _ rfl
theorem n_n : Named.named (F := Ideal) Cert.KernelIdeal.κ "two_pi_over_n" (φ := .f32) 0x3AC90FDB#32 = ((Real.pi * 2048⁻¹ : ℝ) : EReal) :=
  IdealRules.named_const.ideal_named_scalar _ _ _ _ rfl

end Cert.Math

end
-- ==== Proof.Math.Data.lean ====
/-
  Finite arguments as real arrays, and the scores they have.
-/
module

public import proofs.«01_k».proof.Proof.Math.Reals
public import proofs.«01_k».proof.Proof.Math.Consts

@[expose] public section

noncomputable section

namespace Cert.Math

open Idealize.ShloMosaic

/-- The real arrays behind finite arguments. -/
structure Data where
  X : ℕ → ℕ → ℝ
  A : ℕ → ℕ → ℝ
  U : ℕ → ℝ
  Wp : ℕ → ℕ → ℝ
  Wf : ℕ → ℕ → ℝ
  Ww : ℕ → ℕ → ℝ
  K : ℕ → ℕ → ℕ → ℝ

/-- The arguments are the real arrays `D`. -/
structure Finite (D : Data) (a0 : FVec Ideal ⟨3, ![1024, 1, 4096]⟩ .f32) (a2 : FVec Ideal ⟨2, ![256, 4096]⟩ .f32) (a3 : FVec Ideal ⟨1, ![4096]⟩ .f32)
    (a4 : FVec Ideal ⟨2, ![768, 256]⟩ .f32) (a5 : FVec Ideal ⟨2, ![768, 2049]⟩ .f32) (a6 : FVec Ideal ⟨2, ![768, 4096]⟩ .f32)
    (a7 : FVec Ideal ⟨3, ![64, 3, 768]⟩ .f32) : Prop where
  h0 : ∀ (b : Fin 1024) (o : Fin 1) (t : Fin 4096), a0 (ix3 b o t) = ((D.X b t : ℝ) : EReal)
  h2 : ∀ (p : Fin 256) (t : Fin 4096), a2 (ix2 p t) = ((D.A p t : ℝ) : EReal)
  h3 : ∀ t : Fin 4096, a3 (ix1 t) = ((D.U t : ℝ) : EReal)
  h4 : ∀ (e : Fin 768) (p : Fin 256), a4 (ix2 e p) = ((D.Wp e p : ℝ) : EReal)
  h5 : ∀ (e : Fin 768) (j : Fin 2049), a5 (ix2 e j) = ((D.Wf e j : ℝ) : EReal)
  h6 : ∀ (e : Fin 768) (j : Fin 4096), a6 (ix2 e j) = ((D.Ww e j : ℝ) : EReal)
  h7 : ∀ (n : Fin 64) (q : Fin 3) (e : Fin 768), a7 (ix3 n q e) = ((D.K n q e : ℝ) : EReal)

/-- The scores of the principal components. -/
def Data.c0 (D : Data) (b n : ℕ) : ℝ :=
  (∑ e : Fin 768, D.K n 0 e * ∑ p : Fin 256, (∑ t : Fin 4096, (D.X b t - D.U t) * D.A p t) * D.Wp e p) * (Real.sqrt 768)⁻¹
/-- The scores of the cosine transform. -/
def Data.c1 (D : Data) (b n : ℕ) : ℝ :=
  (∑ e : Fin 768, D.K n 1 e * ∑ j : Fin 2049, (∑ t : Fin 4096, D.X b t * Real.cos ((((t : ℕ) * (j : ℕ) : ℕ) : ℝ) * (Real.pi * 2048⁻¹))) * D.Wf e j) * (Real.sqrt 768)⁻¹
/-- The scores of the wavelet transform. -/
def Data.c2 (D : Data) (b n : ℕ) : ℝ :=
  (∑ e : Fin 768, D.K n 2 e * ∑ j : Fin 4096, wav sH (D.X b) j * D.Ww e j) * (Real.sqrt 768)⁻¹
/-- The three scores. -/
def Data.c (D : Data) (b q n : ℕ) : ℝ := if q = 0 then D.c0 b n else if q = 1 then D.c1 b n else D.c2 b n

/-- A word's number read among the extended reals. -/
theorem sitofp_ofNat (k : ℕ) (h : k < 2 ^ 31) : FloatOps.sitofp (F := Ideal) .f32 (BitVec.ofNat 32 k) = (((k : ℕ) : ℝ) : EReal) := by
  show (((BitVec.ofNat 32 k).toInt : ℝ) : EReal) = _
  have : (BitVec.ofNat 32 k).toInt = k := by
    rw [BitVec.toInt_eq_toNat_of_lt (by rw [BitVec.toNat_ofNat, Nat.mod_eq_of_lt (by omega)]; omega), BitVec.toNat_ofNat, Nat.mod_eq_of_lt (by omega)]
  rw [this]; norm_cast

end Cert.Math

end
-- ==== Proof.Math.RefScores.lean ====
/-
  The reference's scores of finite arguments are real numbers, by a formula.
-/
module

public import proofs.«01_k».proof.Proof.ReferenceIdeal.Result
public import proofs.«01_k».proof.Proof.Math.Data

@[expose] public section

set_option maxRecDepth 16384

noncomputable section

namespace Cert.ReferenceIdeal.Scores

open Idealize.ShloMosaic
open Cert.ReferenceIdeal Cert.ReferenceIdeal.Stage Cert.ReferenceIdeal.Result Cert.Math
open Cert.ReferenceIdeal.Gen

/-- The signal as a matrix. -/
theorem v0_at (x : FVec Ideal S1024x1x4096 .f32) (X : ℕ → ℕ → ℝ) (hx : ∀ (b : Fin 1024) (o : Fin 1) (t : Fin 4096), x (ix3 b o t) = ((X b t : ℝ) : EReal))
    (b : Fin 1024) (t : Fin 4096) : (st_v0 (F := Ideal) x : FVec Ideal S1024x4096 .f32) (ix2 b t) = ((X b t : ℝ) : EReal) := by
  pointwise [st_v0]
  exact hx b 0 t

/-- The projected centred signal. -/
theorem v5_at (x : FVec Ideal S1024x1x4096 .f32) (X : ℕ → ℕ → ℝ) (hx : ∀ (b : Fin 1024) (o : Fin 1) (t : Fin 4096), x (ix3 b o t) = ((X b t : ℝ) : EReal))
    (a : FVec Ideal S256x4096 .f32) (A : ℕ → ℕ → ℝ) (ha : ∀ (p : Fin 256) (t : Fin 4096), a (ix2 p t) = ((A p t : ℝ) : EReal))
    (u : FVec Ideal S4096 .f32) (U : ℕ → ℝ) (hu : ∀ t : Fin 4096, u (ix1 t) = ((U t : ℝ) : EReal))
    (b : Fin 1024) (p : Fin 256) :
    (st_v5 (F := Ideal) x a u : FVec Ideal S1024x256 .f32) (ix2 b p) = ((∑ t : Fin 4096, (X b t - U t) * A p t : ℝ) : EReal) := by
  pointwise [st_v5]
  simp only [hx, ha, hu, coe_sum, EReal.coe_mul, EReal.coe_sub]

/-- The step of the angle. -/
theorem step_at : Ideal.div (Ideal.ofBits FTy.f32 1090519040#32 * Ideal.atan 1) (Ideal.ofBits FTy.f32 1166016512#32) = ((Real.pi * 2048⁻¹ : ℝ) : EReal) := by
  rw [c_8, c_4096, show (1 : EReal) = ((1 : ℝ) : EReal) from rfl, Ideal.atan_coe, ← EReal.coe_mul, Ideal.div_coe (by norm_num), ← EReal.coe_mul, Real.arctan_one]
  congr 1; ring

/-- The cosine transform. -/
theorem v16_at (v : FVec Ideal S1024x4096 .f32) (X : ℕ → ℕ → ℝ) (hx : ∀ (b : Fin 1024) (t : Fin 4096), v (ix2 b t) = ((X b t : ℝ) : EReal))
    (b : Fin 1024) (j : Fin 2049) :
    (st_v16 (F := Ideal) v : FVec Ideal S1024x2049 .f32) (ix2 b j) = ((∑ t : Fin 4096, X b t * Real.cos ((((t : ℕ) * (j : ℕ) : ℕ) : ℝ) * (Real.pi * 2048⁻¹)) : ℝ) : EReal) := by
  pointwise [st_v16]
  have hs (t : Fin 4096) : FloatOps.sitofp (F := Ideal) .f32 (IntOp.muli (BitVec.ofNat 32 t) (BitVec.ofNat 32 j)) = ((((t : ℕ) * (j : ℕ) : ℕ) : ℝ) : EReal) := by
    have : IntOp.muli (BitVec.ofNat 32 t) (BitVec.ofNat 32 j) = BitVec.ofNat 32 ((t : ℕ) * (j : ℕ)) := (BitVec.ofNat_mul _ _).symm
    rw [this]
    exact sitofp_ofNat _ (lt_of_le_of_lt (Nat.mul_le_mul t.isLt.le j.isLt.le) (by norm_num))
  rw [step_at]
  simp only [hs, hx, ← EReal.coe_mul, Ideal.cos_coe]
  rw [coe_sum]

/-- One wavelet level's differences. -/
theorem v21_at (v : FVec Ideal S1024x4096 .f32) (b : Fin 1024) (X : ℕ → ℝ) (hx : ∀ t : Fin 4096, v (ix2 b t) = ((X t : ℝ) : EReal)) (i : Fin 2048) :
    (st_v21 (F := Ideal) v : FVec Ideal S1024x2048 .f32) (ix2 b i) = ((hi sH X i : ℝ) : EReal) := by
  pointwise [st_v21]
  simp only [hx, c_sH, hi, EReal.coe_mul, EReal.coe_sub, Nat.add_comm 1]

/-- One wavelet level's averages. -/
theorem v24_at (v : FVec Ideal S1024x4096 .f32) (b : Fin 1024) (X : ℕ → ℝ) (hx : ∀ t : Fin 4096, v (ix2 b t) = ((X t : ℝ) : EReal)) (i : Fin 2048) :
    (st_v24 (F := Ideal) v : FVec Ideal S1024x2048 .f32) (ix2 b i) = ((lo sH X i : ℝ) : EReal) := by
  pointwise [st_v24]
  simp only [hx, c_sH, lo, EReal.coe_mul, EReal.coe_add, Nat.add_comm 1]

/-- One wavelet level's differences. -/
theorem v29_at (v : FVec Ideal S1024x2048 .f32) (b : Fin 1024) (X : ℕ → ℝ) (hx : ∀ t : Fin 2048, v (ix2 b t) = ((X t : ℝ) : EReal)) (i : Fin 1024) :
    (st_v29 (F := Ideal) v : FVec Ideal S1024x1024 .f32) (ix2 b i) = ((hi sH X i : ℝ) : EReal) := by
  pointwise [st_v29]
  simp only [hx, c_sH, hi, EReal.coe_mul, EReal.coe_sub, Nat.add_comm 1]

/-- One wavelet level's averages. -/
theorem v32_at (v : FVec Ideal S1024x2048 .f32) (b : Fin 1024) (X : ℕ → ℝ) (hx : ∀ t : Fin 2048, v (ix2 b t) = ((X t : ℝ) : EReal)) (i : Fin 1024) :
    (st_v32 (F := Ideal) v : FVec Ideal S1024x1024 .f32) (ix2 b i) = ((lo sH X i : ℝ) : EReal) := by
  pointwise [st_v32]
  simp only [hx, c_sH, lo, EReal.coe_mul, EReal.coe_add, Nat.add_comm 1]

/-- One wavelet level's differences. -/
theorem v37_at (v : FVec Ideal S1024x1024 .f32) (b : Fin 1024) (X : ℕ → ℝ) (hx : ∀ t : Fin 1024, v (ix2 b t) = ((X t : ℝ) : EReal)) (i : Fin 512) :
    (st_v37 (F := Ideal) v : FVec Ideal S1024x512 .f32) (ix2 b i) = ((hi sH X i : ℝ) : EReal) := by
  pointwise [st_v37]
  simp only [hx, c_sH, hi, EReal.coe_mul, EReal.coe_sub, Nat.add_comm 1]

/-- One wavelet level's averages. -/
theorem v40_at (v : FVec Ideal S1024x1024 .f32) (b : Fin 1024) (X : ℕ → ℝ) (hx : ∀ t : Fin 1024, v (ix2 b t) = ((X t : ℝ) : EReal)) (i : Fin 512) :
    (st_v40 (F := Ideal) v : FVec Ideal S1024x512 .f32) (ix2 b i) = ((lo sH X i : ℝ) : EReal) := by
  pointwise [st_v40]
  simp only [hx, c_sH, lo, EReal.coe_mul, EReal.coe_add, Nat.add_comm 1]

/-- One wavelet level's differences. -/
theorem v45_at (v : FVec Ideal S1024x512 .f32) (b : Fin 1024) (X : ℕ → ℝ) (hx : ∀ t : Fin 512, v (ix2 b t) = ((X t : ℝ) : EReal)) (i : Fin 256) :
    (st_v45 (F := Ideal) v : FVec Ideal S1024x256 .f32) (ix2 b i) = ((hi sH X i : ℝ) : EReal) := by
  pointwise [st_v45]
  simp only [hx, c_sH, hi, EReal.coe_mul, EReal.coe_sub, Nat.add_comm 1]

/-- One wavelet level's averages. -/
theorem v48_at (v : FVec Ideal S1024x512 .f32) (b : Fin 1024) (X : ℕ → ℝ) (hx : ∀ t : Fin 512, v (ix2 b t) = ((X t : ℝ) : EReal)) (i : Fin 256) :
    (st_v48 (F := Ideal) v : FVec Ideal S1024x256 .f32) (ix2 b i) = ((lo sH X i : ℝ) : EReal) := by
  pointwise [st_v48]
  simp only [hx, c_sH, lo, EReal.coe_mul, EReal.coe_add, Nat.add_comm 1]

/-- One wavelet level's differences. -/
theorem v53_at (v : FVec Ideal S1024x256 .f32) (b : Fin 1024) (X : ℕ → ℝ) (hx : ∀ t : Fin 256, v (ix2 b t) = ((X t : ℝ) : EReal)) (i : Fin 128) :
    (st_v53 (F := Ideal) v : FVec Ideal S1024x128 .f32) (ix2 b i) = ((hi sH X i : ℝ) : EReal) := by
  pointwise [st_v53]
  simp only [hx, c_sH, hi, EReal.coe_mul, EReal.coe_sub, Nat.add_comm 1]

/-- One wavelet level's averages. -/
theorem v56_at (v : FVec Ideal S1024x256 .f32) (b : Fin 1024) (X : ℕ → ℝ) (hx : ∀ t : Fin 256, v (ix2 b t) = ((X t : ℝ) : EReal)) (i : Fin 128) :
    (st_v56 (F := Ideal) v : FVec Ideal S1024x128 .f32) (ix2 b i) = ((lo sH X i : ℝ) : EReal) := by
  pointwise [st_v56]
  simp only [hx, c_sH, lo, EReal.coe_mul, EReal.coe_add, Nat.add_comm 1]

/-- The coefficients read piece by piece. -/
theorem pieces (X : ℕ → ℝ) (j : Fin 4096) (y56 y53 : Fin 128 → EReal) (y45 : Fin 256 → EReal) (y37 : Fin 512 → EReal) (y29 : Fin 1024 → EReal) (y21 : Fin 2048 → EReal)
    (h56 : ∀ t : Fin 128, y56 t = ((lo sH (lo sH (lo sH (lo sH (lo sH X)))) t : ℝ) : EReal)) (h53 : ∀ t : Fin 128, y53 t = ((hi sH (lo sH (lo sH (lo sH (lo sH X)))) t : ℝ) : EReal))
    (h45 : ∀ t : Fin 256, y45 t = ((hi sH (lo sH (lo sH (lo sH X))) t : ℝ) : EReal)) (h37 : ∀ t : Fin 512, y37 t = ((hi sH (lo sH (lo sH X)) t : ℝ) : EReal))
    (h29 : ∀ t : Fin 1024, y29 t = ((hi sH (lo sH X) t : ℝ) : EReal)) (h21 : ∀ t : Fin 2048, y21 t = ((hi sH X t : ℝ) : EReal)) :
    (if h : (j : ℕ) < 128 then y56 ⟨j, h⟩ else if h : (j : ℕ) - 128 < 128 then y53 ⟨(j : ℕ) - 128, h⟩
      else if h : (j : ℕ) - 128 - 128 < 256 then y45 ⟨(j : ℕ) - 128 - 128, h⟩ else if h : (j : ℕ) - 128 - 128 - 256 < 512 then y37 ⟨(j : ℕ) - 128 - 128 - 256, h⟩
      else if h : (j : ℕ) - 128 - 128 - 256 - 512 < 1024 then y29 ⟨(j : ℕ) - 128 - 128 - 256 - 512, h⟩
      else y21 ⟨(j : ℕ) - 128 - 128 - 256 - 512 - 1024, by omega⟩) = ((wav sH X j : ℝ) : EReal) := by
  unfold wav
  by_cases c0 : (j : ℕ) < 128
  · rw [dif_pos c0, if_pos c0]; exact h56 _
  rw [dif_neg c0, if_neg c0]
  by_cases c1 : (j : ℕ) - 128 < 128
  · rw [dif_pos c1, if_pos (by omega)]; exact h53 _
  rw [dif_neg c1, if_neg (by omega)]
  by_cases c2 : (j : ℕ) - 128 - 128 < 256
  · rw [dif_pos c2, if_pos (by omega)]
    exact (h45 _).trans (congrArg (fun i : ℕ => ((hi sH _ i : ℝ) : EReal)) (show (j : ℕ) - 128 - 128 = j - 256 by omega))
  rw [dif_neg c2, if_neg (by omega)]
  by_cases c3 : (j : ℕ) - 128 - 128 - 256 < 512
  · rw [dif_pos c3, if_pos (by omega)]
    exact (h37 _).trans (congrArg (fun i : ℕ => ((hi sH _ i : ℝ) : EReal)) (show (j : ℕ) - 128 - 128 - 256 = j - 512 by omega))
  rw [dif_neg c3, if_neg (by omega)]
  by_cases c4 : (j : ℕ) - 128 - 128 - 256 - 512 < 1024
  · rw [dif_pos c4, if_pos (by omega)]
    exact (h29 _).trans (congrArg (fun i : ℕ => ((hi sH _ i : ℝ) : EReal)) (show (j : ℕ) - 128 - 128 - 256 - 512 = j - 1024 by omega))
  rw [dif_neg c4, if_neg (by omega)]
  exact (h21 _).trans (congrArg (fun i : ℕ => ((hi sH _ i : ℝ) : EReal)) (show (j : ℕ) - 128 - 128 - 256 - 512 - 1024 = j - 2048 by omega))

/-- The wavelet coefficients. -/
theorem v57_at (x : FVec Ideal S1024x1x4096 .f32) (X : ℕ → ℕ → ℝ) (hx : ∀ (b : Fin 1024) (o : Fin 1) (t : Fin 4096), x (ix3 b o t) = ((X b t : ℝ) : EReal))
    (b : Fin 1024) (j : Fin 4096) : (r_v57 (F := Ideal) x : FVec Ideal S1024x4096 .f32) (ix2 b j) = ((wav sH (X b) j : ℝ) : EReal) := by
  have h0 := fun t => v0_at x X hx b t
  have h21 := fun t => v21_at _ b _ h0 t
  have h24 := fun t => v24_at _ b _ h0 t
  have h29 := fun t => v29_at _ b _ h24 t
  have h32 := fun t => v32_at _ b _ h24 t
  have h37 := fun t => v37_at _ b _ h32 t
  have h40 := fun t => v40_at _ b _ h32 t
  have h45 := fun t => v45_at _ b _ h40 t
  have h48 := fun t => v48_at _ b _ h40 t
  have h53 := fun t => v53_at _ b _ h48 t
  have h56 := fun t => v56_at _ b _ h48 t
  unfold r_v57 r_v21 r_v29 r_v37 r_v45 r_v53 r_v56 r_v48 r_v40 r_v32 r_v24 r_v0
  generalize (st_v21 (F := Ideal) _) = y21 at *
  generalize (st_v29 (F := Ideal) _) = y29 at *
  generalize (st_v37 (F := Ideal) _) = y37 at *
  generalize (st_v45 (F := Ideal) _) = y45 at *
  generalize (st_v53 (F := Ideal) _) = y53 at *
  generalize (st_v56 (F := Ideal) _) = y56 at *
  pointwise [st_v57]
  exact pieces (X b) j (fun t => y56 (ix2 b t)) (fun t => y53 (ix2 b t)) (fun t => y45 (ix2 b t)) (fun t => y37 (ix2 b t)) (fun t => y29 (ix2 b t)) (fun t => y21 (ix2 b t)) h56 h53 h45 h37 h29 h21

/-- The principal query. -/
theorem v64_at (v : FVec Ideal S1024x256 .f32) (Y : ℕ → ℕ → ℝ) (hv : ∀ (b : Fin 1024) (p : Fin 256), v (ix2 b p) = ((Y b p : ℝ) : EReal))
    (w : FVec Ideal S768x256 .f32) (W : ℕ → ℕ → ℝ) (hw : ∀ (e : Fin 768) (p : Fin 256), w (ix2 e p) = ((W e p : ℝ) : EReal))
    (b : Fin 1024) (o : Fin 1) (e : Fin 768) : (st_v64 (F := Ideal) v w : FVec Ideal S1024x1x768 .f32) (ix3 b o e) = ((∑ p : Fin 256, Y b p * W e p : ℝ) : EReal) := by
  pointwise [st_v64]
  simp only [hv, hw, coe_sum, EReal.coe_mul]
/-- The cosine query. -/
theorem v65_at (v : FVec Ideal S1024x2049 .f32) (Y : ℕ → ℕ → ℝ) (hv : ∀ (b : Fin 1024) (p : Fin 2049), v (ix2 b p) = ((Y b p : ℝ) : EReal))
    (w : FVec Ideal S768x2049 .f32) (W : ℕ → ℕ → ℝ) (hw : ∀ (e : Fin 768) (p : Fin 2049), w (ix2 e p) = ((W e p : ℝ) : EReal))
    (b : Fin 1024) (o : Fin 1) (e : Fin 768) : (st_v65 (F := Ideal) v w : FVec Ideal S1024x1x768 .f32) (ix3 b o e) = ((∑ p : Fin 2049, Y b p * W e p : ℝ) : EReal) := by
  pointwise [st_v65]
  simp only [hv, hw, coe_sum, EReal.coe_mul]
/-- The wavelet query. -/
theorem v66_at (v : FVec Ideal S1024x4096 .f32) (Y : ℕ → ℕ → ℝ) (hv : ∀ (b : Fin 1024) (p : Fin 4096), v (ix2 b p) = ((Y b p : ℝ) : EReal))
    (w : FVec Ideal S768x4096 .f32) (W : ℕ → ℕ → ℝ) (hw : ∀ (e : Fin 768) (p : Fin 4096), w (ix2 e p) = ((W e p : ℝ) : EReal))
    (b : Fin 1024) (o : Fin 1) (e : Fin 768) : (st_v66 (F := Ideal) v w : FVec Ideal S1024x1x768 .f32) (ix3 b o e) = ((∑ p : Fin 4096, Y b p * W e p : ℝ) : EReal) := by
  pointwise [st_v66]
  simp only [hv, hw, coe_sum, EReal.coe_mul]

/-- The scores from the three queries. -/
theorem v72_at (q0 q1 q2 : FVec Ideal S1024x1x768 .f32) (Q0 Q1 Q2 : ℕ → ℕ → ℝ)
    (h0 : ∀ (b : Fin 1024) (o : Fin 1) (e : Fin 768), q0 (ix3 b o e) = ((Q0 b e : ℝ) : EReal))
    (h1 : ∀ (b : Fin 1024) (o : Fin 1) (e : Fin 768), q1 (ix3 b o e) = ((Q1 b e : ℝ) : EReal))
    (h2 : ∀ (b : Fin 1024) (o : Fin 1) (e : Fin 768), q2 (ix3 b o e) = ((Q2 b e : ℝ) : EReal))
    (k : FVec Ideal S64x3x768 .f32) (K : ℕ → ℕ → ℕ → ℝ) (hk : ∀ (n : Fin 64) (q : Fin 3) (e : Fin 768), k (ix3 n q e) = ((K n q e : ℝ) : EReal))
    (b : Fin 1024) (q : Fin 3) (n : Fin 64) : (st_v72 (F := Ideal) q0 q1 q2 k : FVec Ideal S1024x3x64 .f32) (ix3 b q n)
      = (((∑ e : Fin 768, K n q e * (if (q : ℕ) = 0 then Q0 b e else if (q : ℕ) = 1 then Q1 b e else Q2 b e)) * (Real.sqrt 768)⁻¹ : ℝ) : EReal) := by
  pointwise [st_v72]
  have hq (x : Fin 768) : (if h : (q : ℕ) < 1 then q0 (ix3 b ⟨q, h⟩ x) else if h : (q : ℕ) - 1 < 1 then q1 (ix3 b ⟨(q : ℕ) - 1, h⟩ x) else q2 (ix3 b ⟨(q : ℕ) - 1 - 1, by omega⟩ x))
      = ((if (q : ℕ) = 0 then Q0 b x else if (q : ℕ) = 1 then Q1 b x else Q2 b x : ℝ) : EReal) := by
    by_cases c0 : (q : ℕ) < 1
    · rw [dif_pos c0, if_pos (by omega)]; exact h0 _ _ _
    rw [dif_neg c0, if_neg (by omega)]
    by_cases c1 : (q : ℕ) - 1 < 1
    · rw [dif_pos c1, if_pos (by omega)]; exact h1 _ _ _
    rw [dif_neg c1, if_neg (by omega)]; exact h2 _ _ _
  rw [c_768, Ideal.sqrt_coe, if_neg (by norm_num), Ideal.div_coe (Real.sqrt_ne_zero'.mpr (by norm_num)), one_div, EReal.coe_mul, coe_sum]
  refine congrArg (· * _) (Finset.sum_congr rfl fun x _ => ?_)
  rw [EReal.coe_mul]
  exact congrArg₂ (· * ·) (hk n q x) (hq x)

/-- The scores of finite arguments. -/
theorem scores {D : Data} {a0 : FVec Ideal S1024x1x4096 .f32} {a2 : FVec Ideal S256x4096 .f32} {a3 : FVec Ideal S4096 .f32} {a4 : FVec Ideal S768x256 .f32}
    {a5 : FVec Ideal S768x2049 .f32} {a6 : FVec Ideal S768x4096 .f32} {a7 : FVec Ideal S64x3x768 .f32} (h : Finite D a0 a2 a3 a4 a5 a6 a7)
    (b : Fin 1024) (q : Fin 3) (n : Fin 64) : (r_v72 (F := Ideal) a0 a2 a3 a4 a5 a6 a7 : FVec Ideal S1024x3x64 .f32) (ix3 b q n) = ((D.c b q n : ℝ) : EReal) := by
  unfold r_v72 r_v64 r_v65 r_v66 r_v5 r_v16 r_v0
  have h64 := v64_at _ (fun b p => ∑ t : Fin 4096, (D.X b t - D.U t) * D.A p t) (v5_at a0 _ h.h0 _ _ h.h2 _ _ h.h3) _ _ h.h4
  have h65 := v65_at _ (fun b j => ∑ t : Fin 4096, D.X b t * Real.cos ((((t : ℕ) * j : ℕ) : ℝ) * (Real.pi * 2048⁻¹))) (v16_at _ _ (v0_at a0 _ h.h0)) _ _ h.h5
  have h66 := v66_at _ (fun b => wav sH (D.X b)) (v57_at a0 _ h.h0) _ _ h.h6
  refine (v72_at _ _ _ (fun b e => ∑ p : Fin 256, (∑ t : Fin 4096, (D.X b t - D.U t) * D.A p t) * D.Wp e p)
    (fun b e => ∑ j : Fin 2049, (∑ t : Fin 4096, D.X b t * Real.cos ((((t : ℕ) * (j : ℕ) : ℕ) : ℝ) * (Real.pi * 2048⁻¹))) * D.Wf e j)
    (fun b e => ∑ p : Fin 4096, wav sH (D.X b) p * D.Ww e p) h64 h65 h66 _ _ h.h7 b q n).trans ?_
  congr 1
  fin_cases q
  · rfl
  · rfl
  · rfl

end Cert.ReferenceIdeal.Scores

end
-- ==== Proof.Math.Best.lean ====
module

public import Idealize.ShloMosaic.Lib.Pointwise
public import proofs.«01_k».proof.Proof.Math.Consts
public import proofs.«01_k».proof.Proof.Math.Reals

/-! Maxima and softmax quotients of finite families of reals, read in the extended reals. -/

@[expose] public section
noncomputable section
open Idealize.ShloMosaic

namespace Cert.Math

/-- A maximum folded from `⊥` is the entry that bounds all the others. -/
theorem fold_best {k : ℕ} (f : Fin k → EReal) (i : Fin k) (h : ∀ j, f j ≤ f i) :
    Finset.fold max ⊥ f Finset.univ = f i := by
  apply le_antisymm
  · rw [Finset.fold_max_le]; exact ⟨bot_le, fun x _ => h x⟩
  · rw [Finset.le_fold_max]; exact Or.inr ⟨i, Finset.mem_univ _, le_rfl⟩

/-- Dividing by one changes nothing. -/
theorem div_one' (x : EReal) : Ideal.div x 1 = x := by
  have h := Ideal.div_coe (y := (1:ℝ)) one_ne_zero x
  simpa using h

/-- The softmax of real scores, computed with the maximum subtracted, is real: `exp (z n - z i) / ∑ exp (z x - z i)`. -/
theorem softmax_real {k : ℕ} (f : Fin k → EReal) (z : Fin k → ℝ) (hf : ∀ x, f x = ((z x : ℝ) : EReal)) (i : Fin k)
    (h : ∀ j, z j ≤ z i) (n : Fin k) :
    Ideal.div (Ideal.exp (f n - max ⊥ (Finset.fold max ⊥ (fun x => f x) Finset.univ)))
      (∑ x, Ideal.exp (f x - max ⊥ (Finset.fold max ⊥ (fun x => f x) Finset.univ)))
      = ((Real.exp (z n - z i) / ∑ x, Real.exp (z x - z i) : ℝ) : EReal) := by
  have hm : Finset.fold max ⊥ (fun x => f x) Finset.univ = ((z i : ℝ) : EReal) := by
    rw [fold_best f i (fun j => by rw [hf, hf]; exact EReal.coe_le_coe_iff.mpr (h j)), hf]
  have hb : max (⊥ : EReal) ((z i : ℝ) : EReal) = ((z i : ℝ) : EReal) := max_eq_right bot_le
  have he : ∀ x, Ideal.exp (f x - ((z i : ℝ) : EReal)) = ((Real.exp (z x - z i) : ℝ) : EReal) := by
    intro x; rw [hf, ← EReal.coe_sub, Ideal.exp_coe]
  have hs : (0:ℝ) < ∑ x, Real.exp (z x - z i) :=
    Finset.sum_pos (fun x _ => Real.exp_pos _) ⟨i, Finset.mem_univ _⟩
  rw [hm, hb]
  simp only [he]
  rw [← coe_sum, Ideal.div_coe hs.ne', ← EReal.coe_mul]
  congr 1
  field_simp

/-- The softmax quotients of real scores sum to one and are not negative. -/
theorem softmax_sum {k : ℕ} (z : Fin k → ℝ) (i : Fin k) :
    ∑ n, Real.exp (z n - z i) / ∑ x, Real.exp (z x - z i) = 1 := by
  have hs : (0:ℝ) < ∑ x, Real.exp (z x - z i) :=
    Finset.sum_pos (fun x _ => Real.exp_pos _) ⟨i, Finset.mem_univ _⟩
  rw [← Finset.sum_div, div_self hs.ne']

/-- Over three entries the folded maximum is the nested one. -/
theorem fold_three (f : Fin 3 → EReal) :
    max ⊥ (Finset.fold max ⊥ (fun x => f x) Finset.univ) = max (max (f 0) (f 1)) (f 2) := by
  rw [max_eq_right bot_le]
  apply le_antisymm
  · rw [Finset.fold_max_le]
    refine ⟨bot_le, fun x _ => ?_⟩
    fin_cases x
    · exact le_trans (le_max_left _ _) (le_max_left _ _)
    · exact le_trans (le_max_right _ _) (le_max_left _ _)
    · exact le_max_right _ _
  · have hh : ∀ q : Fin 3, f q ≤ Finset.fold max ⊥ (fun x => f x) Finset.univ := fun q => by
      rw [Finset.le_fold_max]; exact Or.inr ⟨q, Finset.mem_univ _, le_rfl⟩
    exact max_le (max_le (hh 0) (hh 1)) (hh 2)

/-- Nonnegative real weights that sum to one leave any extended real as it is. -/
theorem convex_three (w : Fin 3 → ℝ) (h0 : ∀ q, 0 ≤ w q) (h1 : ∑ q, w q = 1) (x : EReal) :
    ∑ q, ((w q : ℝ) : EReal) * x = x := by
  rw [Fin.sum_univ_three] at h1 ⊢
  have e : ∀ q, (0 : EReal) ≤ ((w q : ℝ) : EReal) := fun q => by exact_mod_cast h0 q
  rw [← EReal.right_distrib_of_nonneg (e 0) (e 1), ← EReal.right_distrib_of_nonneg (add_nonneg (e 0) (e 1)) (e 2),
    ← EReal.coe_add, ← EReal.coe_add, h1]
  simp

/-- The weight of the `q`-th of three scores in their softmax. -/
def wgt (f : Fin 3 → EReal) (q : Fin 3) : EReal :=
  Ideal.div (Ideal.exp (f q - max (max (f 0) (f 1)) (f 2)))
    (Ideal.exp (f 0 - max (max (f 0) (f 1)) (f 2)) + Ideal.exp (f 1 - max (max (f 0) (f 1)) (f 2)) + Ideal.exp (f 2 - max (max (f 0) (f 1)) (f 2)))
/-- The weights times their logarithms, summed. -/
def row (f : Fin 3 → EReal) : EReal := ∑ q, wgt f q * Ideal.log (wgt f q + Ideal.ofBits FTy.f32 786163455#32)

/-- Adding step by step is summing. -/
theorem acc_sum (acc f : ℕ → EReal) (N : ℕ) (h0 : acc 0 = 0) (hs : ∀ m, m < N → acc (m + 1) = acc m + f m) :
    acc N = ∑ m : Fin N, f m := by
  have : ∀ n, n ≤ N → acc n = ∑ m ∈ Finset.range n, f m := by
    intro n
    induction n with
    | zero => intro _; simpa using h0
    | succ n ih => intro hn; rw [hs n (by omega), ih (by omega), Finset.sum_range_succ]
  rw [this N le_rfl, Finset.sum_range]

end Cert.Math
end
-- ==== Proof.Math.PreFacts.lean ====
module

public import proofs.«01_k».proof.Pre_scores_finite_untied
public import proofs.«01_k».proof.Proof.Gen.Pre_scores_finite_untied
public import proofs.«01_k».proof.Proof.ReferenceIdeal.Result
public import proofs.«01_k».proof.Proof.Math.RefScores
public import proofs.«01_k».proof.Proof.Math.Best
public import Idealize.ShloMosaic.Lib.ReduceAll

/-! What the precondition says: the arguments of the scores are real, and every row of noisy scores has one greatest entry. -/

@[expose] public section
set_option maxRecDepth 16384
noncomputable section
open Idealize.ShloMosaic

namespace Cert.Pre
open Cert.Pre_scores_finite_untied Cert.Pre_scores_finite_untied.Gen Cert.Math

/-- The test that all entries of an array lie strictly between the infinities. -/
def allFinite {s : Shape} {axes : List (Fin s.rank)} (hb : S_.BroadcastsInDim s ![]) (hr : s.ReducesTo axes S_) (x : FVec Ideal s .f32) : IVec S_ 1 :=
  Host.reduce IntOp.andi (cmpf .olt (Host.absf x) (broadcastInDim s ![] hb (constant (F := Ideal) S_ .f32 0x7F800000#32))) (constantI S_ 1 1#1) hr h_S_

/-- The test that no row of an array has two entries equal to its maximum. -/
def untied (Z : FVec Ideal S1024x3x64 .f32) : IVec S_ 1 :=
  let v106 : FVec Ideal S1024x3 .f32 := Host.reduce FloatOps.maximumf Z (constant S_ .f32 0xFF800000#32) reducesTo_S1024x3x64_S1024x3_d2 h_S_
  let v107 : FVec Ideal S1024x3x1 .f32 := broadcastInDim S1024x3x1 ![0, 1] bcast_S1024x3_S1024x3x1_0_1 v106
  let v108 : FVec Ideal S1024x3x64 .f32 := broadcastInDim S1024x3x64 ![0, 1, 2] bcast_S1024x3x1_S1024x3x64_0_1_2 v107
  let v109 : IVec S1024x3x64 1 := cmpf .olt Z v108
  let v112 : IVec S1024x3x64x1 1 := broadcastInDim S1024x3x64x1 ![0, 1, 2] bcast_S1024x3x64_S1024x3x64x1_0_1_2 v109
  let v113 : IVec S1024x3x1x64 1 := broadcastInDim S1024x3x1x64 ![0, 1, 3] bcast_S1024x3x64_S1024x3x1x64_0_1_3 v109
  let v114 : IVec S1024x3x64x64 1 := broadcastInDim S1024x3x64x64 ![0, 1, 2, 3] bcast_S1024x3x64x1_S1024x3x64x64_0_1_2_3 v112
  let v115 : IVec S1024x3x64x64 1 := broadcastInDim S1024x3x64x64 ![0, 1, 2, 3] bcast_S1024x3x1x64_S1024x3x64x64_0_1_2_3 v113
  let v117 : IVec S64x64 1 := cmpi .eq (iotaInDim S64x64 32 0) (iotaInDim S64x64 32 1)
  let v118 : IVec S1x1x64x64 1 := broadcastInDim S1x1x64x64 ![2, 3] bcast_S64x64_S1x1x64x64_2_3 v117
  let v119 : IVec S1024x3x64x64 1 := broadcastInDim S1024x3x64x64 ![0, 1, 2, 3] bcast_S1x1x64x64_S1024x3x64x64_0_1_2_3 v118
  Host.reduce IntOp.andi (ori (ori v114 v115) v119) (constantI S_ 1 1#1) reducesTo_S1024x3x64x64_S_d0_1_2_3 h_S_

/-- An entry whose absolute value is below the infinity is real. -/
theorem real_of {s : Shape} {axes : List (Fin s.rank)} (hb : S_.BroadcastsInDim s ![]) (hr : s.ReducesTo axes S_) (x : FVec Ideal s .f32) (j : S_.Idx)
    (h : allFinite hb hr x j = 1#1) (i : s.Idx) : x i = (((x i).toReal : ℝ) : EReal) := by
  haveI : Subsingleton S_.Idx := ⟨fun a b => funext fun k => k.elim0⟩
  have e := Host.reduce_andi_all _ _ hr h_S_ j h i
  have e2 : Ideal.cmp .olt (max (x i) (-(x i))) (Ideal.ofBits .f32 0x7F800000#32) = 1#1 := e
  rw [c_pos_inf] at e2
  have e3 : max (x i) (-(x i)) < ⊤ := by
    by_contra hn
    have : Ideal.cmp .olt (max (x i) (-(x i))) ⊤ = 0#1 := by simp only [Ideal.cmp, hn, decide_false]; rfl
    rw [this] at e2; exact absurd e2 (by decide)
  rw [max_lt_iff] at e3
  refine (EReal.coe_toReal e3.1.ne ?_).symm
  intro hbot
  rw [hbot] at e3
  exact absurd e3.2 (by simp)

/-- The precondition is the conjunction of its tests. -/
theorem fn_eq (a0 : FVec Ideal S1024x1x4096 .f32) (a1 : IVec S1024 32) (a2 : FVec Ideal S256x4096 .f32) (a3 : FVec Ideal S4096 .f32) (a4 : FVec Ideal S768x256 .f32)
    (a5 : FVec Ideal S768x2049 .f32) (a6 : FVec Ideal S768x4096 .f32) (a7 : FVec Ideal S64x3x768 .f32) (a8 : FVec Ideal S64x1x4096 .f32) (a9 : FVec Ideal S1024x3x64 .f32) :
    fn (F := Ideal) a0 a1 a2 a3 a4 a5 a6 a7 a8 a9
      = andi (andi (andi (andi (andi (andi (andi (andi (allFinite bcast_S_S1024x1x4096 reducesTo_S1024x1x4096_S_d0_1_2 a0) (allFinite bcast_S_S256x4096 reducesTo_S256x4096_S_d0_1 a2))
          (allFinite bcast_S_S4096 reducesTo_S4096_S_d0 a3)) (allFinite bcast_S_S768x256 reducesTo_S768x256_S_d0_1 a4)) (allFinite bcast_S_S768x2049 reducesTo_S768x2049_S_d0_1 a5))
          (allFinite bcast_S_S768x4096 reducesTo_S768x4096_S_d0_1 a6)) (allFinite bcast_S_S64x3x768 reducesTo_S64x3x768_S_d0_1_2 a7))
          (allFinite bcast_S_S1024x3x64 reducesTo_S1024x3x64_S_d0_1_2 a9))
        (untied (addf (F := Ideal) (Cert.ReferenceIdeal.Result.r_v72 (F := Ideal) a0 a2 a3 a4 a5 a6 a7 : FVec Ideal S1024x3x64 .f32) a9)) := rfl

/-- A row of real entries that passes the test has one greatest entry. -/
theorem one_best (Z : FVec Ideal S1024x3x64 .f32) (j : S_.Idx) (h : untied Z j = 1#1) (z : Fin 64 → ℝ) (b : Fin 1024) (q : Fin 3)
    (hz : ∀ n, Z (ix3 b q n) = ((z n : ℝ) : EReal)) : ∃ i : Fin 64, ∀ n, n ≠ i → z n < z i := by
  haveI : Subsingleton S_.Idx := ⟨fun a b => funext fun k => k.elim0⟩
  obtain ⟨i, hi⟩ := Finite.exists_max z
  refine ⟨i, fun n hn => ?_⟩
  have e := Host.reduce_andi_all _ _ _ h_S_ j h (ix4 b q i n)
  revert e
  pointwise
  rw [c_neg_inf, fold_best (fun x => Z (ix3 b q x)) i (fun k => by rw [hz, hz]; exact EReal.coe_le_coe_iff.mpr (hi k)), hz, hz]
  intro e
  have hne : ∀ i n : Fin 64, n ≠ i → IntOp.cmpi CmpIPredicate.eq (BitVec.ofNat 32 i) (BitVec.ofNat 32 n) = 0#1 := by decide +kernel
  rw [hne i n hn] at e
  by_contra hc
  have h1 : decide (((z i : ℝ) : EReal) < ((z i : ℝ) : EReal)) = false := decide_eq_false (lt_irrefl _)
  have h2 : decide (((z n : ℝ) : EReal) < ((z i : ℝ) : EReal)) = false := decide_eq_false (by rw [EReal.coe_lt_coe_iff]; exact hc)
  rw [h1, h2] at e
  exact absurd e (by decide)

/-- What the tests give: real arguments `D`, real noise `G`, and the place `s` of each row's greatest noisy score. -/
theorem facts_of (a0 : FVec Ideal S1024x1x4096 .f32) (a1 : IVec S1024 32) (a2 : FVec Ideal S256x4096 .f32) (a3 : FVec Ideal S4096 .f32) (a4 : FVec Ideal S768x256 .f32)
    (a5 : FVec Ideal S768x2049 .f32) (a6 : FVec Ideal S768x4096 .f32) (a7 : FVec Ideal S64x3x768 .f32) (a8 : FVec Ideal S64x1x4096 .f32) (a9 : FVec Ideal S1024x3x64 .f32)
    (h : fn (F := Ideal) a0 a1 a2 a3 a4 a5 a6 a7 a8 a9 = fun _ => 1#1) :
    ∃ (D : Data) (G : ℕ → ℕ → ℕ → ℝ) (s : ℕ → ℕ → Fin 64), Finite D a0 a2 a3 a4 a5 a6 a7
      ∧ (∀ (b : Fin 1024) (q : Fin 3) (n : Fin 64), a9 (ix3 b q n) = ((G b q n : ℝ) : EReal))
      ∧ ∀ (b : Fin 1024) (q : Fin 3) (n : Fin 64), n ≠ s b q → D.c b q n + G b q n < D.c b q (s b q) + G b q (s b q) := by
  have ha : ∀ x y : BitVec 1, IntOp.andi x y = 1#1 → x = 1#1 ∧ y = 1#1 := by decide
  have j : S_.Idx := fun k => k.elim0
  have e := congrFun h j
  rw [fn_eq] at e
  obtain ⟨e, hu⟩ := ha _ _ e
  obtain ⟨e, h9⟩ := ha _ _ e
  obtain ⟨e, h7⟩ := ha _ _ e
  obtain ⟨e, h6⟩ := ha _ _ e
  obtain ⟨e, h5⟩ := ha _ _ e
  obtain ⟨e, h4⟩ := ha _ _ e
  obtain ⟨e, h3⟩ := ha _ _ e
  obtain ⟨h0, h2⟩ := ha _ _ e
  have fo : ∀ {k : ℕ} [NeZero k] (x : Fin k), Fin.ofNat k (x : ℕ) = x := fun x => Fin.ext (Nat.mod_eq_of_lt x.isLt)
  let D : Data :=
    { X := fun b t => (a0 (ix3 (Fin.ofNat 1024 b) 0 (Fin.ofNat 4096 t))).toReal
      A := fun p t => (a2 (ix2 (Fin.ofNat 256 p) (Fin.ofNat 4096 t))).toReal
      U := fun t => (a3 (ix1 (Fin.ofNat 4096 t))).toReal
      Wp := fun e p => (a4 (ix2 (Fin.ofNat 768 e) (Fin.ofNat 256 p))).toReal
      Wf := fun e p => (a5 (ix2 (Fin.ofNat 768 e) (Fin.ofNat 2049 p))).toReal
      Ww := fun e p => (a6 (ix2 (Fin.ofNat 768 e) (Fin.ofNat 4096 p))).toReal
      K := fun n q e => (a7 (ix3 (Fin.ofNat 64 n) (Fin.ofNat 3 q) (Fin.ofNat 768 e))).toReal }
  let G : ℕ → ℕ → ℕ → ℝ := fun b q n => (a9 (ix3 (Fin.ofNat 1024 b) (Fin.ofNat 3 q) (Fin.ofNat 64 n))).toReal
  have hD : Finite D a0 a2 a3 a4 a5 a6 a7 := by
    constructor
    · intro b o t
      obtain rfl : o = 0 := Subsingleton.elim _ _
      show _ = (((a0 (ix3 (Fin.ofNat 1024 b) 0 (Fin.ofNat 4096 t))).toReal : ℝ) : EReal)
      rw [fo, fo]; exact real_of _ _ a0 j h0 _
    · intro p t
      show _ = (((a2 (ix2 (Fin.ofNat 256 p) (Fin.ofNat 4096 t))).toReal : ℝ) : EReal)
      rw [fo, fo]; exact real_of _ _ a2 j h2 _
    · intro t
      show _ = (((a3 (ix1 (Fin.ofNat 4096 t))).toReal : ℝ) : EReal)
      rw [fo]; exact real_of _ _ a3 j h3 _
    · intro p t
      show _ = (((a4 (ix2 (Fin.ofNat 768 p) (Fin.ofNat 256 t))).toReal : ℝ) : EReal)
      rw [fo, fo]; exact real_of _ _ a4 j h4 _
    · intro p t
      show _ = (((a5 (ix2 (Fin.ofNat 768 p) (Fin.ofNat 2049 t))).toReal : ℝ) : EReal)
      rw [fo, fo]; exact real_of _ _ a5 j h5 _
    · intro p t
      show _ = (((a6 (ix2 (Fin.ofNat 768 p) (Fin.ofNat 4096 t))).toReal : ℝ) : EReal)
      rw [fo, fo]; exact real_of _ _ a6 j h6 _
    · intro n q e
      show _ = (((a7 (ix3 (Fin.ofNat 64 n) (Fin.ofNat 3 q) (Fin.ofNat 768 e))).toReal : ℝ) : EReal)
      rw [fo, fo, fo]; exact real_of _ _ a7 j h7 _
  have hG : ∀ (b : Fin 1024) (q : Fin 3) (n : Fin 64), a9 (ix3 b q n) = ((G b q n : ℝ) : EReal) := by
    intro b q n
    show _ = (((a9 (ix3 (Fin.ofNat 1024 b) (Fin.ofNat 3 q) (Fin.ofNat 64 n))).toReal : ℝ) : EReal)
    rw [fo, fo, fo]; exact real_of _ _ a9 j h9 _
  have hb : ∀ (b : Fin 1024) (q : Fin 3), ∃ i : Fin 64, ∀ n, n ≠ i → D.c b q n + G b q n < D.c b q i + G b q i := by
    intro b q
    refine one_best _ j hu (fun n => D.c b q n + G b q n) b q fun n => ?_
    show _ + a9 (ix3 b q n) = _
    rw [hG, EReal.coe_add]
    exact congrArg (· + _) (Cert.ReferenceIdeal.Scores.scores hD b q n)
  choose s hs using hb
  refine ⟨D, G, fun b q => s (Fin.ofNat 1024 b) (Fin.ofNat 3 q), hD, hG, fun b q n hn => ?_⟩
  have eb := fo b
  have eq := fo q
  simp only [eb, eq] at hn ⊢
  exact hs b q n hn

end Cert.Pre
end
-- ==== Proof.Math.RefBest.lean ====
module

public import proofs.«01_k».proof.Proof.ReferenceIdeal.Result
public import proofs.«01_k».proof.Proof.Math.Best

/-! The reference's arg-max over the softmax and the score it gathers there. -/

@[expose] public section
set_option maxRecDepth 16384
noncomputable section
open Idealize.ShloMosaic

namespace Cert.ReferenceIdeal.Scores
open Cert.ReferenceIdeal Cert.ReferenceIdeal.Gen Cert.ReferenceIdeal.Stage Cert.Math

/-- The reducer of the arg-max keeps one of its two pairs, and its value bounds both. -/
theorem reducer_keeps (a b : EReal × BitVec 32) :
    (reducer_argmax_f32_i32 (F := Ideal) a b = a ∨ reducer_argmax_f32_i32 (F := Ideal) a b = b)
      ∧ a.1 ≤ (reducer_argmax_f32_i32 (F := Ideal) a b).1 ∧ b.1 ≤ (reducer_argmax_f32_i32 (F := Ideal) a b).1 := by
  obtain ⟨a1, a2⟩ := a
  obtain ⟨b1, b2⟩ := b
  have hr : reducer_argmax_f32_i32 (F := Ideal) (a1, a2) (b1, b2)
      = (Scalar.select (IntOp.ori (Ideal.cmp .ogt a1 b1) (Ideal.cmp .une a1 a1)) a1 b1,
        Scalar.select (IntOp.ori (IntOp.ori (Ideal.cmp .ogt a1 b1) (Ideal.cmp .une a1 a1))
          (IntOp.andi (Ideal.cmp .oeq a1 b1) (IntOp.cmpi .slt a2 b2))) a2 b2) := rfl
  have hu : Ideal.cmp .une a1 a1 = 0#1 := by simp [Ideal.cmp]
  have s1 : ∀ {α : Type} (x y : α), Scalar.select 1#1 x y = x := fun _ _ => rfl
  have s0 : ∀ {α : Type} (x y : α), Scalar.select 0#1 x y = y := fun _ _ => rfl
  have o0 : ∀ w : BitVec 1, IntOp.ori w 0#1 = w := by decide
  have o1 : ∀ w : BitVec 1, IntOp.ori 1#1 w = 1#1 := by decide
  have o2 : ∀ w : BitVec 1, IntOp.ori 0#1 w = w := by decide
  have n0 : ∀ w : BitVec 1, IntOp.andi 0#1 w = 0#1 := by decide
  have n1 : ∀ w : BitVec 1, IntOp.andi 1#1 w = w := by decide
  rw [hr, hu]
  generalize IntOp.cmpi .slt a2 b2 = w
  rcases lt_trichotomy b1 a1 with h | h | h
  · have e : Ideal.cmp .ogt a1 b1 = 1#1 := by simp [Ideal.cmp, h]
    simp only [e, o0, o1, s1]
    exact ⟨Or.inl trivial, le_rfl, h.le⟩
  · subst h
    have e : Ideal.cmp .ogt b1 b1 = 0#1 := by simp [Ideal.cmp]
    have e' : Ideal.cmp .oeq b1 b1 = 1#1 := by simp [Ideal.cmp]
    simp only [e, e', o0, o2, n1, s0]
    refine ⟨?_, le_rfl, le_rfl⟩
    have hw : w = 0#1 ∨ w = 1#1 := by revert w; decide
    rcases hw with rfl | rfl
    · exact Or.inr rfl
    · exact Or.inl rfl
  · have e : Ideal.cmp .ogt a1 b1 = 0#1 := by simp [Ideal.cmp, not_lt.mpr h.le]
    have e' : Ideal.cmp .oeq a1 b1 = 0#1 := by simp [Ideal.cmp, h.ne]
    simp only [e, e', o0, n0, s0]
    exact ⟨Or.inr trivial, h.le, le_rfl⟩

/-- Folding that reducer over a list gives the start or an entry of the list, whose value bounds them all. -/
theorem foldl_keeps (l : List (EReal × BitVec 32)) : ∀ a : EReal × BitVec 32,
    (l.foldl (reducer_argmax_f32_i32 (F := Ideal)) a = a ∨ l.foldl (reducer_argmax_f32_i32 (F := Ideal)) a ∈ l)
      ∧ a.1 ≤ (l.foldl (reducer_argmax_f32_i32 (F := Ideal)) a).1
      ∧ ∀ p ∈ l, p.1 ≤ (l.foldl (reducer_argmax_f32_i32 (F := Ideal)) a).1 := by
  induction l with
  | nil => intro a; simp
  | cons x l ih =>
    intro a
    obtain ⟨k, ka, kx⟩ := reducer_keeps a x
    obtain ⟨h1, h2, h3⟩ := ih (reducer_argmax_f32_i32 (F := Ideal) a x)
    rw [List.foldl_cons]
    refine ⟨?_, ka.trans h2, ?_⟩
    · rcases h1 with e | e
      · rcases k with k | k
        · left; rw [e, k]
        · right; rw [e, k]; exact List.mem_cons_self
      · right; exact List.mem_cons_of_mem _ e
    · intro p hp
      rcases List.mem_cons.mp hp with e | e
      · rw [e]; exact kx.trans h2
      · exact h3 p e

/-- Stage 11: where a row of real values has one greatest entry, the arg-max is its place. -/
theorem argmax_at (x : FVec Ideal S1024x3x64 .f32) (b : Fin 1024) (q : Fin 3) (p : Fin 64 → ℝ) (i : Fin 64)
    (hx : ∀ n, x (ix3 b q n) = ((p n : ℝ) : EReal)) (h : ∀ n, n ≠ i → p n < p i) :
    (st_v87 (F := Ideal) x : IVec S1024x3 32) (ix2 b q) = BitVec.ofNat 32 i := by
  have hd : ∀ n : Fin 64, (reducesTo_S1024x3x64_S1024x3_d2).drop (ix3 b q n) = ix2 b q := by
    intro n
    funext k
    fin_cases k <;> rfl
  have hd' : ∀ j : S1024x3x64.Idx, (reducesTo_S1024x3x64_S1024x3_d2).drop j = ix2 b q → j = ix3 b q (j 2) := by
    intro j e
    have e0 : j 0 = b := Fin.ext (congrArg (fun (y : S1024x3.Idx) => ((y 0 : Fin 1024) : ℕ)) e)
    have e1 : j 1 = q := Fin.ext (congrArg (fun (y : S1024x3.Idx) => ((y 1 : Fin 3) : ℕ)) e)
    funext k
    fin_cases k
    · exact e0
    · exact e1
    · rfl
  show (Host.argReduce (reducer_argmax_f32_i32 (F := Ideal)) x (iotaInDim S1024x3x64 32 2) (constant (F := Ideal) S_ .f32 0xFF800000#32) (constantI S_ 32 0#32)
      reducesTo_S1024x3x64_S1024x3_d2 h_S_ (ix2 b q)).2 = _
  rw [Ideal.argReduce_eq_reduce2, Host.reduce2_eq_foldl_fiber]
  have hmem : ∀ n : Fin 64, (x (ix3 b q n), iotaInDim S1024x3x64 32 2 (ix3 b q n))
      ∈ Host.argReduceFiber x (iotaInDim S1024x3x64 32 2) reducesTo_S1024x3x64_S1024x3_d2 (ix2 b q) := by
    intro n
    unfold Host.argReduceFiber
    rw [List.mem_map]
    refine ⟨S1024x3x64.rowMajor (ix3 b q n), ?_, by rw [Equiv.symm_apply_apply]⟩
    rw [List.mem_filter, Equiv.symm_apply_apply]
    exact ⟨List.mem_finRange _, decide_eq_true (hd n)⟩
  have hmem' : ∀ p, p ∈ Host.argReduceFiber x (iotaInDim S1024x3x64 32 2) reducesTo_S1024x3x64_S1024x3_d2 (ix2 b q)
      → ∃ n : Fin 64, p = (x (ix3 b q n), BitVec.ofNat 32 n) := by
    intro p hp
    unfold Host.argReduceFiber at hp
    rw [List.mem_map] at hp
    obtain ⟨m, hm, e⟩ := hp
    rw [List.mem_filter] at hm
    have he := hd' _ (of_decide_eq_true hm.2)
    generalize S1024x3x64.rowMajor.symm m = j at e he
    refine ⟨j 2, e.symm.trans ?_⟩
    exact Prod.ext (congrArg x he) rfl
  obtain ⟨k1, k2, k3⟩ := foldl_keeps (Host.argReduceFiber x (iotaInDim S1024x3x64 32 2) reducesTo_S1024x3x64_S1024x3_d2 (ix2 b q))
    (constant (F := Ideal) S_ .f32 0xFF800000#32 (Shape.Idx.first h_S_), constantI S_ 32 0#32 (Shape.Idx.first h_S_))
  have hi := k3 _ (hmem i)
  rcases k1 with e | e
  · rw [e] at hi
    have hi2 : x (ix3 b q i) ≤ Ideal.ofBits .f32 0xFF800000#32 := hi
    rw [c_neg_inf, hx, le_bot_iff] at hi2
    exact absurd hi2 (EReal.coe_ne_bot _)
  · obtain ⟨n, hn⟩ := hmem' _ e
    rw [hn] at hi
    have hi2 : x (ix3 b q i) ≤ x (ix3 b q n) := hi
    rw [hx, hx, EReal.coe_le_coe_iff] at hi2
    have hni : n = i := by
      by_contra hne
      exact absurd hi2 (not_le.mpr (h n hne))
    rw [hni] at hn
    exact (congrArg Prod.snd hn)

/-- The gather reads, in row `(b, q)`, the place its start index names (clamped into the row). -/
theorem gather_row (v : FVec Ideal S1024x3x64 .f32) (idx : IVec S1024x3x1x1 32) (b : Fin 1024) (q : Fin 3) :
    Host.gather gather_S1024x3x64_S1024x3x1x1_S1024x3x1_n_2_01_01_2_3_111 v idx (ix3 b q 0)
      = v (ix3 b q ⟨min (idx (ix4 b q 0 0)).toInt.toNat 63, by omega⟩) := by
  unfold Host.gather
  congr 1
  funext a
  refine Fin.ext ?_
  show gather_S1024x3x64_S1024x3x1x1_S1024x3x1_n_2_01_01_2_3_111.start (ix3 b q 0) idx a
    + gather_S1024x3x64_S1024x3x1x1_S1024x3x1_n_2_01_01_2_3_111.batchCoord (ix3 b q 0) a
    + gather_S1024x3x64_S1024x3x1x1_S1024x3x1_n_2_01_01_2_3_111.offCoord (ix3 b q 0) a = _
  rw [GatherDims.offCoord_eq_zero _ _ _ (by revert a; decide), Nat.add_zero]
  have h012 : a = 0 ∨ a = 1 ∨ a = 2 := by revert a; decide
  rcases h012 with rfl | rfl | rfl
  · rw [GatherDims.start_batching _ _ _ _ (by decide), Nat.zero_add]
    unfold GatherDims.batchCoord
    rw [dif_pos (by decide)]
    rfl
  · rw [GatherDims.start_batching _ _ _ _ (by decide), Nat.zero_add]
    unfold GatherDims.batchCoord
    rw [dif_pos (by decide)]
    rfl
  · rw [GatherDims.batchCoord_eq_zero _ _ _ (by decide), Nat.add_zero]
    unfold GatherDims.start
    rw [dif_pos (by decide)]
    have hsi : gather_S1024x3x64_S1024x3x1x1_S1024x3x1_n_2_01_01_2_3_111.siIdx (ix3 b q 0) ⟨0, by decide⟩ = ix4 b q 0 0 := by
      funext k; refine Fin.ext ?_
      match k with
      | ⟨0, _⟩ => rfl
      | ⟨1, _⟩ => rfl
      | ⟨2, _⟩ => rfl
      | ⟨3, _⟩ => rfl
    refine (congrArg (fun z => min (idx z).toInt.toNat 63) hsi)

/-- A place in range passes the range test unchanged. -/
theorem in_range (i : Fin 64) :
    Scalar.select (IntOp.cmpi CmpIPredicate.slt (BitVec.ofNat 32 i) 0#32) (IntOp.addi (BitVec.ofNat 32 i) 64#32) (BitVec.ofNat 32 i)
      = BitVec.ofNat 32 i ∧
    IntOp.andi 1#1 (IntOp.andi (IntOp.cmpi CmpIPredicate.sge (BitVec.ofNat 32 i) 0#32) (IntOp.cmpi CmpIPredicate.sle (BitVec.ofNat 32 i) 63#32)) = 1#1 ∧
    IntOp.andi (IntOp.andi (IntOp.cmpi CmpIPredicate.sge (BitVec.ofNat 32 i) 0#32) (IntOp.cmpi CmpIPredicate.sle (BitVec.ofNat 32 i) 63#32)) 1#1 = 1#1 ∧
    min (BitVec.ofNat 32 i).toInt.toNat 63 = (i : ℕ) := by
  revert i; decide

/-- The score gathered at a place in range. -/
theorem gather_at (v : FVec Ideal S1024x3x64 .f32) (y : IVec S1024x3x1 32) (b : Fin 1024) (q : Fin 3) (i : Fin 64)
    (hy : y (ix3 b q 0) = BitVec.ofNat 32 i) :
    (st_v101 (F := Ideal) v y : FVec Ideal S1024x3 .f32) (ix2 b q) = v (ix3 b q i) := by
  pointwise [st_v101]
  obtain ⟨r1, r2, r3, r4⟩ := in_range i
  rw [hy, gather_row]
  simp only [r1, Finset.univ_unique, Finset.fold_singleton, r3]
  refine (show ∀ a c : EReal, Scalar.select 1#1 a c = a from fun a c => rfl) _ _ |>.trans ?_
  congr 2
  refine Fin.ext ?_
  show min (BitVec.toInt _).toNat 63 = _
  pointwise
  rw [hy, r1, r4]

end Cert.ReferenceIdeal.Scores
end
-- ==== Proof.Math.RefTop.lean ====
module

public import proofs.«01_k».proof.Proof.Math.RefScores
public import proofs.«01_k».proof.Proof.Math.RefBest

/-! The three results of the reference, of finite arguments whose noisy scores have one greatest entry a row. -/

@[expose] public section
set_option maxRecDepth 16384
noncomputable section
open Idealize.ShloMosaic

namespace Cert.ReferenceIdeal.Scores
open Cert.ReferenceIdeal Cert.ReferenceIdeal.Gen Cert.ReferenceIdeal.Stage Cert.ReferenceIdeal.Result Cert.Math

/-- The softmax over the noisy scores of a row, as reals. -/
theorem v86_at (v g : FVec Ideal S1024x3x64 .f32) (b : Fin 1024) (q : Fin 3) (c G : Fin 64 → ℝ) (i : Fin 64)
    (hv : ∀ j, v (ix3 b q j) = ((c j : ℝ) : EReal)) (hg : ∀ j, g (ix3 b q j) = ((G j : ℝ) : EReal))
    (h : ∀ j, c j + G j ≤ c i + G i) (n : Fin 64) :
    (st_v86 (F := Ideal) v g : FVec Ideal S1024x3x64 .f32) (ix3 b q n)
      = ((Real.exp (c n + G n - (c i + G i)) / ∑ x, Real.exp (c x + G x - (c i + G i)) : ℝ) : EReal) := by
  pointwise [st_v86]
  simp only [c_neg_inf, div_one']
  exact softmax_real (fun x => v (ix3 b q x) + g (ix3 b q x)) (fun x => c x + G x) (fun x => by rw [hv, hg, EReal.coe_add]) i h n

/-- The one-hot row less the softmax plus the softmax sums to one, so the prompts come out summed. -/
theorem v98_at (v : FVec Ideal S1024x3x64 .f32) (y : IVec S1024x3 32) (p : FVec Ideal S64x1x4096 .f32) (b : Fin 1024) (q : Fin 3) (t : Fin 4096)
    (z : Fin 64 → ℝ) (hv : ∀ j, v (ix3 b q j) = ((z j : ℝ) : EReal)) (i : Fin 64) (hy : y (ix2 b q) = BitVec.ofNat 32 i) :
    (st_v98 (F := Ideal) v y p : FVec Ideal S1024x3x4096 .f32) (ix3 b q t) = ∑ x, p (ix3 x 0 t) := by
  pointwise [st_v98]
  have e : ∀ x : Fin 64, FloatOps.uitofp (F := Ideal) FTy.f32 (IntOp.cmpi CmpIPredicate.eq (y (ix2 b q)) (BitVec.ofNat 32 x)) - v (ix3 b q x) + v (ix3 b q x)
      = (((if x = i then 1 else 0) : ℝ) : EReal) := by
    intro x
    have hc : ∀ i x : Fin 64, IntOp.cmpi CmpIPredicate.eq (BitVec.ofNat 32 i) (BitVec.ofNat 32 x) = if x = i then 1#1 else 0#1 := by decide +kernel
    rw [hy, hc, hv]
    have hu : FloatOps.uitofp (F := Ideal) FTy.f32 (if x = i then 1#1 else 0#1) = (((if x = i then 1 else 0) : ℝ) : EReal) := by
      split_ifs
      · show (((1#1 : BitVec 1).toNat : ℝ) : EReal) = _
        simp
      · show (((0#1 : BitVec 1).toNat : ℝ) : EReal) = _
        simp
    rw [hu, ← EReal.coe_sub, ← EReal.coe_add]
    congr 1
    ring
  rw [Finset.sum_congr rfl fun x _ => e x, ← coe_sum]
  simp

section
variable {D : Data} {G : ℕ → ℕ → ℕ → ℝ} {s : ℕ → ℕ → Fin 64} {a0 : FVec Ideal S1024x1x4096 .f32} {a2 : FVec Ideal S256x4096 .f32} {a3 : FVec Ideal S4096 .f32} {a4 : FVec Ideal S768x256 .f32}
  {a5 : FVec Ideal S768x2049 .f32} {a6 : FVec Ideal S768x4096 .f32} {a7 : FVec Ideal S64x3x768 .f32} {a8 : FVec Ideal S64x1x4096 .f32} {a9 : FVec Ideal S1024x3x64 .f32}
  (h : Finite D a0 a2 a3 a4 a5 a6 a7) (hG : ∀ (b : Fin 1024) (q : Fin 3) (n : Fin 64), a9 (ix3 b q n) = ((G b q n : ℝ) : EReal))
  (hs : ∀ (b : Fin 1024) (q : Fin 3) (n : Fin 64), n ≠ s b q → D.c b q n + G b q n < D.c b q (s b q) + G b q (s b q))
include h hG hs

/-- The softmax of the reference, as reals. -/
theorem r86_at (b : Fin 1024) (q : Fin 3) (n : Fin 64) : (r_v86 (F := Ideal) a0 a2 a3 a4 a5 a6 a7 a9 : FVec Ideal S1024x3x64 .f32) (ix3 b q n)
    = ((Real.exp (D.c b q n + G b q n - (D.c b q (s b q) + G b q (s b q))) / ∑ x : Fin 64, Real.exp (D.c b q x + G b q x - (D.c b q (s b q) + G b q (s b q))) : ℝ) : EReal) := by
  refine v86_at _ _ b q (fun j => D.c b q j) (fun j => G b q j) (s b q) (fun j => scores h b q j) (fun j => hG b q j) (fun j => ?_) n
  by_cases e : j = s b q
  · rw [e]
  · exact (hs b q j e).le

/-- The arg-max of the reference. -/
theorem r87_at (b : Fin 1024) (q : Fin 3) : (r_v87 (F := Ideal) a0 a2 a3 a4 a5 a6 a7 a9 : IVec S1024x3 32) (ix2 b q) = BitVec.ofNat 32 (s b q) := by
  refine argmax_at _ b q _ (s b q) (r86_at h hG hs b q) fun n hn => ?_
  have hp : (0:ℝ) < ∑ x : Fin 64, Real.exp (D.c b q x + G b q x - (D.c b q (s b q) + G b q (s b q))) :=
    Finset.sum_pos (fun x _ => Real.exp_pos _) ⟨0, Finset.mem_univ _⟩
  have := hs b q n hn
  exact div_lt_div_of_pos_right (Real.exp_lt_exp.mpr (by linarith)) hp

/-- The score at the arg-max. -/
theorem r101_at (b : Fin 1024) (q : Fin 3) : (r_v101 (F := Ideal) a0 a2 a3 a4 a5 a6 a7 a9 : FVec Ideal S1024x3 .f32) (ix2 b q) = ((D.c b q (s b q) : ℝ) : EReal) := by
  refine (gather_at _ _ b q (s b q) ?_).trans (scores h b q (s b q))
  have e := r87_at h hG hs b q
  unfold r_v99
  generalize r_v87 (F := Ideal) a0 a2 a3 a4 a5 a6 a7 a9 = y at e ⊢
  pointwise [st_v99]
  exact e

/-- The branch weights of the reference are the softmax of those scores. -/
theorem r112_at (b : Fin 1024) (q : Fin 3) : (r_v112 (F := Ideal) a0 a2 a3 a4 a5 a6 a7 a9 : FVec Ideal S1024x3 .f32) (ix2 b q) = wgt (fun k => ((D.c b k (s b k) : ℝ) : EReal)) q := by
  have e := r101_at h hG hs b
  unfold r_v112
  generalize r_v101 (F := Ideal) a0 a2 a3 a4 a5 a6 a7 a9 = y at e ⊢
  pointwise [st_v112]
  simp only [c_neg_inf]
  rw [fold_three (fun x => y (ix2 b x)), Fin.sum_univ_three]
  unfold wgt
  rw [e, e, e, e]

/-- The first result. -/
theorem out_at (b : Fin 1024) (o : Fin 1) (t : Fin 4096) : (r_v120 (F := Ideal) a0 a2 a3 a4 a5 a6 a7 a8 a9 : FVec Ideal S1024x1x4096 .f32) (ix3 b o t)
    = a0 (ix3 b o t) + ∑ x, a8 (ix3 x 0 t) := by
  have e := r101_at h hG hs b
  have e8 : ∀ q : Fin 3, (r_v98 (F := Ideal) a0 a2 a3 a4 a5 a6 a7 a8 a9 : FVec Ideal S1024x3x4096 .f32) (ix3 b q t) = ∑ x, a8 (ix3 x 0 t) := fun q =>
    v98_at _ _ a8 b q t _ (r86_at h hG hs b q) (s b q) (r87_at h hG hs b q)
  obtain ⟨i, hi⟩ := Finite.exists_max fun q : Fin 3 => D.c b q (s b q)
  have e12 : ∀ q : Fin 3, (r_v112 (F := Ideal) a0 a2 a3 a4 a5 a6 a7 a9 : FVec Ideal S1024x3 .f32) (ix2 b q)
      = ((Real.exp (D.c b q (s b q) - D.c b i (s b i)) / ∑ x : Fin 3, Real.exp (D.c b x (s b x) - D.c b i (s b i)) : ℝ) : EReal) := by
    intro q
    unfold r_v112
    generalize r_v101 (F := Ideal) a0 a2 a3 a4 a5 a6 a7 a9 = y at e ⊢
    pointwise [st_v112]
    simp only [c_neg_inf]
    exact softmax_real (fun x => y (ix2 b x)) (fun x => D.c b x (s b x)) e i hi q
  unfold r_v120
  generalize r_v98 (F := Ideal) a0 a2 a3 a4 a5 a6 a7 a8 a9 = y at e8 ⊢
  generalize r_v112 (F := Ideal) a0 a2 a3 a4 a5 a6 a7 a9 = w at e12 ⊢
  pointwise [st_v120]
  refine congrArg (a0 (ix3 b o t) + ·) ?_
  rw [Finset.sum_congr rfl fun q _ => congrArg₂ (fun u v : EReal => u * v) (e12 q) (e8 q)]
  exact convex_three _ (fun q => div_nonneg (Real.exp_pos _).le (Finset.sum_nonneg fun x _ => (Real.exp_pos _).le)) (softmax_sum (fun q : Fin 3 => D.c b q (s b q)) i) _

/-- The second result. -/
theorem sim_at (j : S_.Idx) : (r_v124 (F := Ideal) a0 a2 a3 a4 a5 a6 a7 a9 : FVec Ideal S_ .f32) j
    = max (1 - Ideal.div (∑ b : Fin 1024, ∑ q : Fin 3, ((D.c b q (s b q) : ℝ) : EReal)) (Ideal.ofBits FTy.f32 1161822208#32)) 0 := by
  have e := r101_at h hG hs
  unfold r_v124
  generalize r_v101 (F := Ideal) a0 a2 a3 a4 a5 a6 a7 a9 = y at e ⊢
  pointwise [st_v124]
  simp only [e]

/-- The third result. -/
theorem ent_at (j : S_.Idx) : (r_v133 (F := Ideal) a0 a2 a3 a4 a5 a6 a7 a9 : FVec Ideal S_ .f32) j
    = -Ideal.div (∑ b : Fin 1024, -row (fun k => ((D.c b k (s b k) : ℝ) : EReal))) (Ideal.ofBits FTy.f32 1149239296#32) := by
  have e := r112_at h hG hs
  unfold r_v133
  generalize r_v112 (F := Ideal) a0 a2 a3 a4 a5 a6 a7 a9 = y at e ⊢
  pointwise [st_v133]
  simp only [e]
  rfl
end

end Cert.ReferenceIdeal.Scores
end
-- ==== Proof.KernelIdeal.Value0.lean ====
/-
  What the first kernel call leaves in its four output arrays, as functions of its input arrays.
-/
module

public import proofs.«01_k».proof.Proof.KernelIdeal.Region0
public import Idealize.ShloMosaic.Lib.Pipeline.Value
public import Idealize.ShloMosaic.Lib.Pipeline.FrameTail

@[expose] public section

set_option maxRecDepth 16384

noncomputable section

namespace Cert.KernelIdeal.R0

open Cert.KernelIdeal Cert.KernelIdeal.Gen
open Idealize.ShloMosaic Idealize.ShloMosaic.TcCoe
open Idealize.ShloMosaic.Pipeline (Dat Cfg Window)

variable {F : FTy → Type} [FloatOps F] [Named F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Window 0 has one block, the whole of its array. -/
theorem emb0 (t : Fin cfg0.N) (j : S64x3x768.Idx) : ((cfg0.win 0).blk t).view.emb j = j := by
  have h : ∀ t : Fin cfg0.N, win0_0.index t (0 : Fin 3) = 0 ∧ win0_0.index t (1 : Fin 3) = 0 ∧ win0_0.index t (2 : Fin 3) = 0 := (by decide +kernel : ∀ t : Fin grid0.N, _)
  obtain ⟨e0, e1, e2⟩ := h t
  funext a; apply Fin.ext
  match a with
  | ⟨0, _⟩ => show win0_0.index t (0 : Fin 3) * 64 + 1 * (j 0).val = (j 0).val; omega
  | ⟨1, _⟩ => show win0_0.index t (1 : Fin 3) * 3 + 1 * (j 1).val = (j 1).val; omega
  | ⟨2, _⟩ => show win0_0.index t (2 : Fin 3) * 768 + 1 * (j 2).val = (j 2).val; omega

theorem iblk0_eq (c : Dev nD) (t : Fin cfg0.N) : iblk V c 0 t = V c (Pipeline.arrRef spec0 0) := by
  funext j; show V c (Pipeline.arrRef spec0 0) (((cfg0.win 0).blk t).view.emb j) = _; rw [emb0]

/-- Window 1 has one block, the whole of its array. -/
theorem emb1 (t : Fin cfg0.N) (j : S768x256.Idx) : ((cfg0.win 1).blk t).view.emb j = j := by
  have h : ∀ t : Fin cfg0.N, win0_1.index t (0 : Fin 2) = 0 ∧ win0_1.index t (1 : Fin 2) = 0 := (by decide +kernel : ∀ t : Fin grid0.N, _)
  obtain ⟨e0, e1⟩ := h t
  funext a; apply Fin.ext
  match a with
  | ⟨0, _⟩ => show win0_1.index t (0 : Fin 2) * 768 + 1 * (j 0).val = (j 0).val; omega
  | ⟨1, _⟩ => show win0_1.index t (1 : Fin 2) * 256 + 1 * (j 1).val = (j 1).val; omega

theorem iblk1_eq (c : Dev nD) (t : Fin cfg0.N) : iblk V c 1 t = V c (Pipeline.arrRef spec0 1) := by
  funext j; show V c (Pipeline.arrRef spec0 1) (((cfg0.win 1).blk t).view.emb j) = _; rw [emb1]

/-- Window 2 has one block, the whole of its array. -/
theorem emb2 (t : Fin cfg0.N) (j : S256x4096.Idx) : ((cfg0.win 2).blk t).view.emb j = j := by
  have h : ∀ t : Fin cfg0.N, win0_2.index t (0 : Fin 2) = 0 ∧ win0_2.index t (1 : Fin 2) = 0 := (by decide +kernel : ∀ t : Fin grid0.N, _)
  obtain ⟨e0, e1⟩ := h t
  funext a; apply Fin.ext
  match a with
  | ⟨0, _⟩ => show win0_2.index t (0 : Fin 2) * 256 + 1 * (j 0).val = (j 0).val; omega
  | ⟨1, _⟩ => show win0_2.index t (1 : Fin 2) * 4096 + 1 * (j 1).val = (j 1).val; omega

theorem iblk2_eq (c : Dev nD) (t : Fin cfg0.N) : iblk V c 2 t = V c (Pipeline.arrRef spec0 2) := by
  funext j; show V c (Pipeline.arrRef spec0 2) (((cfg0.win 2).blk t).view.emb j) = _; rw [emb2]

/-- Window 3 has one block, the whole of its array. -/
theorem emb3 (t : Fin cfg0.N) (j : S1x4096.Idx) : ((cfg0.win 3).blk t).view.emb j = j := by
  have h : ∀ t : Fin cfg0.N, win0_3.index t (0 : Fin 2) = 0 ∧ win0_3.index t (1 : Fin 2) = 0 := (by decide +kernel : ∀ t : Fin grid0.N, _)
  obtain ⟨e0, e1⟩ := h t
  funext a; apply Fin.ext
  match a with
  | ⟨0, _⟩ => show win0_3.index t (0 : Fin 2) * 1 + 1 * (j 0).val = (j 0).val; omega
  | ⟨1, _⟩ => show win0_3.index t (1 : Fin 2) * 4096 + 1 * (j 1).val = (j 1).val; omega

theorem iblk3_eq (c : Dev nD) (t : Fin cfg0.N) : iblk V c 3 t = V c (Pipeline.arrRef spec0 3) := by
  funext j; show V c (Pipeline.arrRef spec0 3) (((cfg0.win 3).blk t).view.emb j) = _; rw [emb3]

/-- Window 4 has one block, the whole of its array. -/
theorem emb4 (t : Fin cfg0.N) (j : S768x4096.Idx) : ((cfg0.win 4).blk t).view.emb j = j := by
  have h : ∀ t : Fin cfg0.N, win0_4.index t (0 : Fin 2) = 0 ∧ win0_4.index t (1 : Fin 2) = 0 := (by decide +kernel : ∀ t : Fin grid0.N, _)
  obtain ⟨e0, e1⟩ := h t
  funext a; apply Fin.ext
  match a with
  | ⟨0, _⟩ => show win0_4.index t (0 : Fin 2) * 768 + 1 * (j 0).val = (j 0).val; omega
  | ⟨1, _⟩ => show win0_4.index t (1 : Fin 2) * 4096 + 1 * (j 1).val = (j 1).val; omega

theorem iblk4_eq (c : Dev nD) (t : Fin cfg0.N) : iblk V c 4 t = V c (Pipeline.arrRef spec0 4) := by
  funext j; show V c (Pipeline.arrRef spec0 4) (((cfg0.win 4).blk t).view.emb j) = _; rw [emb4]

/-- Window 5 has one block, the whole of its array. -/
theorem emb5 (t : Fin cfg0.N) (j : S64x1x4096.Idx) : ((cfg0.win 5).blk t).view.emb j = j := by
  have h : ∀ t : Fin cfg0.N, win0_5.index t (0 : Fin 3) = 0 ∧ win0_5.index t (1 : Fin 3) = 0 ∧ win0_5.index t (2 : Fin 3) = 0 := (by decide +kernel : ∀ t : Fin grid0.N, _)
  obtain ⟨e0, e1, e2⟩ := h t
  funext a; apply Fin.ext
  match a with
  | ⟨0, _⟩ => show win0_5.index t (0 : Fin 3) * 64 + 1 * (j 0).val = (j 0).val; omega
  | ⟨1, _⟩ => show win0_5.index t (1 : Fin 3) * 1 + 1 * (j 1).val = (j 1).val; omega
  | ⟨2, _⟩ => show win0_5.index t (2 : Fin 3) * 4096 + 1 * (j 2).val = (j 2).val; omega

theorem iblk5_eq (c : Dev nD) (t : Fin cfg0.N) : iblk V c 5 t = V c (Pipeline.arrRef spec0 5) := by
  funext j; show V c (Pipeline.arrRef spec0 5) (((cfg0.win 5).blk t).view.emb j) = _; rw [emb5]

/-- Window 6 has one block, the whole of its array. -/
theorem emb6 (t : Fin cfg0.N) (j : S4096x64.Idx) : ((cfg0.win 6).blk t).view.emb j = j := by
  have h : ∀ t : Fin cfg0.N, win0_6.index t (0 : Fin 2) = 0 ∧ win0_6.index t (1 : Fin 2) = 0 := (by decide +kernel : ∀ t : Fin grid0.N, _)
  obtain ⟨e0, e1⟩ := h t
  funext a; apply Fin.ext
  match a with
  | ⟨0, _⟩ => show win0_6.index t (0 : Fin 2) * 4096 + 1 * (j 0).val = (j 0).val; omega
  | ⟨1, _⟩ => show win0_6.index t (1 : Fin 2) * 64 + 1 * (j 1).val = (j 1).val; omega

/-- Window 7 has one block, the whole of its array. -/
theorem emb7 (t : Fin cfg0.N) (j : S4096x64.Idx) : ((cfg0.win 7).blk t).view.emb j = j := by
  have h : ∀ t : Fin cfg0.N, win0_7.index t (0 : Fin 2) = 0 ∧ win0_7.index t (1 : Fin 2) = 0 := (by decide +kernel : ∀ t : Fin grid0.N, _)
  obtain ⟨e0, e1⟩ := h t
  funext a; apply Fin.ext
  match a with
  | ⟨0, _⟩ => show win0_7.index t (0 : Fin 2) * 4096 + 1 * (j 0).val = (j 0).val; omega
  | ⟨1, _⟩ => show win0_7.index t (1 : Fin 2) * 64 + 1 * (j 1).val = (j 1).val; omega

/-- Window 8 has one block, the whole of its array. -/
theorem emb8 (t : Fin cfg0.N) (j : S1x64.Idx) : ((cfg0.win 8).blk t).view.emb j = j := by
  have h : ∀ t : Fin cfg0.N, win0_8.index t (0 : Fin 2) = 0 ∧ win0_8.index t (1 : Fin 2) = 0 := (by decide +kernel : ∀ t : Fin grid0.N, _)
  obtain ⟨e0, e1⟩ := h t
  funext a; apply Fin.ext
  match a with
  | ⟨0, _⟩ => show win0_8.index t (0 : Fin 2) * 1 + 1 * (j 0).val = (j 0).val; omega
  | ⟨1, _⟩ => show win0_8.index t (1 : Fin 2) * 64 + 1 * (j 1).val = (j 1).val; omega

/-- Window 9 has one block, the whole of its array. -/
theorem emb9 (t : Fin cfg0.N) (j : S1x4096.Idx) : ((cfg0.win 9).blk t).view.emb j = j := by
  have h : ∀ t : Fin cfg0.N, win0_9.index t (0 : Fin 2) = 0 ∧ win0_9.index t (1 : Fin 2) = 0 := (by decide +kernel : ∀ t : Fin grid0.N, _)
  obtain ⟨e0, e1⟩ := h t
  funext a; apply Fin.ext
  match a with
  | ⟨0, _⟩ => show win0_9.index t (0 : Fin 2) * 1 + 1 * (j 0).val = (j 0).val; omega
  | ⟨1, _⟩ => show win0_9.index t (1 : Fin 2) * 4096 + 1 * (j 1).val = (j 1).val; omega

/-- The block cut out of a value is the value read through the block. -/
theorem cut6_eq (t : Fin cfg0.N) (X : Vec F S4096x64 .f32) :
    (cfg0.win 6).cut (grid0.coords t) X = ((cfg0.win 6).blk t).view.read (Elt F) X := by
  funext j
  show X j = X (((cfg0.win 6).blk t).view.emb j)
  rw [emb6]

/-- The block cut out of a value is the value read through the block. -/
theorem cut7_eq (t : Fin cfg0.N) (X : Vec F S4096x64 .f32) :
    (cfg0.win 7).cut (grid0.coords t) X = ((cfg0.win 7).blk t).view.read (Elt F) X := by
  funext j
  show X j = X (((cfg0.win 7).blk t).view.emb j)
  rw [emb7]

/-- The block cut out of a value is the value read through the block. -/
theorem cut8_eq (t : Fin cfg0.N) (X : Vec F S1x64 .f32) :
    (cfg0.win 8).cut (grid0.coords t) X = ((cfg0.win 8).blk t).view.read (Elt F) X := by
  funext j
  show X j = X (((cfg0.win 8).blk t).view.emb j)
  rw [emb8]

/-- The block cut out of a value is the value read through the block. -/
theorem cut9_eq (t : Fin cfg0.N) (X : Vec F S1x4096 .f32) :
    (cfg0.win 9).cut (grid0.coords t) X = ((cfg0.win 9).blk t).view.read (Elt F) X := by
  funext j
  show X j = X (((cfg0.win 9).blk t).view.emb j)
  rw [emb9]

/-- What output 6 ends holding. -/
theorem final6 (c : Dev nD) : (dat V c).arrAt 6 cfg0.N = out0_6 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) := by
  refine (dat V c).arrAt_eq_of_cover 6 _ (fun t _ => ?_) (fun i => ⟨(⟨0, by decide⟩ : Fin cfg0.N), flush0_6 _, ?_⟩)
  · show (cfg0.win 6).cut (grid0.coords t) ((dat V c).after 6 t) = _
    rw [after0_6, iblk0_eq, iblk1_eq, iblk2_eq, iblk3_eq, iblk4_eq, iblk5_eq]
    exact cut6_eq t _
  · have h := ((cfg0.win 6).blk (⟨0, by decide⟩ : Fin cfg0.N)).view.emb_mem_set i
    rwa [emb6] at h

/-- What output 7 ends holding. -/
theorem final7 (c : Dev nD) : (dat V c).arrAt 7 cfg0.N = out0_7 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) := by
  refine (dat V c).arrAt_eq_of_cover 7 _ (fun t _ => ?_) (fun i => ⟨(⟨0, by decide⟩ : Fin cfg0.N), flush0_7 _, ?_⟩)
  · show (cfg0.win 7).cut (grid0.coords t) ((dat V c).after 7 t) = _
    rw [after0_7, iblk0_eq, iblk1_eq, iblk2_eq, iblk3_eq, iblk4_eq, iblk5_eq]
    exact cut7_eq t _
  · have h := ((cfg0.win 7).blk (⟨0, by decide⟩ : Fin cfg0.N)).view.emb_mem_set i
    rwa [emb7] at h

/-- What output 8 ends holding. -/
theorem final8 (c : Dev nD) : (dat V c).arrAt 8 cfg0.N = out0_8 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) := by
  refine (dat V c).arrAt_eq_of_cover 8 _ (fun t _ => ?_) (fun i => ⟨(⟨0, by decide⟩ : Fin cfg0.N), flush0_8 _, ?_⟩)
  · show (cfg0.win 8).cut (grid0.coords t) ((dat V c).after 8 t) = _
    rw [after0_8, iblk0_eq, iblk1_eq, iblk2_eq, iblk3_eq, iblk4_eq, iblk5_eq]
    exact cut8_eq t _
  · have h := ((cfg0.win 8).blk (⟨0, by decide⟩ : Fin cfg0.N)).view.emb_mem_set i
    rwa [emb8] at h

/-- What output 9 ends holding. -/
theorem final9 (c : Dev nD) : (dat V c).arrAt 9 cfg0.N = out0_9 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) := by
  refine (dat V c).arrAt_eq_of_cover 9 _ (fun t _ => ?_) (fun i => ⟨(⟨0, by decide⟩ : Fin cfg0.N), flush0_9 _, ?_⟩)
  · show (cfg0.win 9).cut (grid0.coords t) ((dat V c).after 9 t) = _
    rw [after0_9, iblk0_eq, iblk1_eq, iblk2_eq, iblk3_eq, iblk4_eq, iblk5_eq]
    exact cut9_eq t _
  · have h := ((cfg0.win 9).blk (⟨0, by decide⟩ : Fin cfg0.N)).view.emb_mem_set i
    rwa [emb9] at h

/-- Output 6 is its one store's payload. -/
theorem out6_eq (a0 : Vec F S64x3x768 .f32) (a1 : Vec F S768x256 .f32) (a2 : Vec F S256x4096 .f32) (a3 : Vec F S1x4096 .f32) (a4 : Vec F S768x4096 .f32) (a5 : Vec F S64x1x4096 .f32) :
    out0_6 (F := F) a0 a1 a2 a3 a4 a5 = k0_pay1 (View.ld a0 r0_0) a1 a2 := by
  unfold out0_6
  rw [View.canon_unit_zero hz2, View.ld_unit_zero (S := S768x256) hz2 _ a1, View.ld_unit_zero (S := S256x4096) hz2 _ a2]

/-- Output 7 is its one store's payload. -/
theorem out7_eq (a0 : Vec F S64x3x768 .f32) (a1 : Vec F S768x256 .f32) (a2 : Vec F S256x4096 .f32) (a3 : Vec F S1x4096 .f32) (a4 : Vec F S768x4096 .f32) (a5 : Vec F S64x1x4096 .f32) :
    out0_7 (F := F) a0 a1 a2 a3 a4 a5 = k0_pay8 (k0_pay3 (View.ld a0 r0_1) a4) (k0_pay4 (View.ld a0 r0_1) a4) (k0_pay5 (View.ld a0 r0_1) a4) (k0_pay6 (View.ld a0 r0_1) a4) (k0_pay7 (F := F)) := by
  unfold out0_7
  rw [View.canon_unit_zero hz2, View.ld_unit_zero (S := S768x4096) hz2 _ a4]

/-- Output 8 is its one store's payload. -/
theorem out8_eq (a0 : Vec F S64x3x768 .f32) (a1 : Vec F S768x256 .f32) (a2 : Vec F S256x4096 .f32) (a3 : Vec F S1x4096 .f32) (a4 : Vec F S768x4096 .f32) (a5 : Vec F S64x1x4096 .f32) :
    out0_8 (F := F) a0 a1 a2 a3 a4 a5 = k0_pay2 (View.ld a0 r0_0) a1 a2 a3 := by
  unfold out0_8
  rw [View.canon_unit_zero hz2, View.ld_unit_zero (S := S768x256) hz2 _ a1, View.ld_unit_zero (S := S256x4096) hz2 _ a2, View.ld_unit_zero (S := S1x4096) hz2 _ a3]

/-- Output 9 is its one store's payload. -/
theorem out9_eq (a0 : Vec F S64x3x768 .f32) (a1 : Vec F S768x256 .f32) (a2 : Vec F S256x4096 .f32) (a3 : Vec F S1x4096 .f32) (a4 : Vec F S768x4096 .f32) (a5 : Vec F S64x1x4096 .f32) :
    out0_9 (F := F) a0 a1 a2 a3 a4 a5 = k0_pay9 a5 := by
  unfold out0_9
  rw [View.canon_unit_zero hz2, View.ld_unit_zero (S := S64x1x4096) hz3 _ a5]

end Cert.KernelIdeal.R0

end
-- ==== Proof.KernelIdeal.Value1.lean ====
/-
  What the second kernel call leaves in its output array, as a function of its input arrays.
-/
module

public import proofs.«01_k».proof.Proof.KernelIdeal.Region1
public import Idealize.ShloMosaic.Lib.Pipeline.Value
public import Idealize.ShloMosaic.Lib.Pipeline.FrameTail
public import Idealize.ShloMosaic.Lib.ValueIdx

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F] [Named F]

theorem hz2 : (![0, 0] : Fin 2 → Nat) = fun _ => 0 := funext fun a => by fin_cases a <;> rfl

/-- The middle keys projected to the frequencies: what the scratch holds from the first point on. -/
def freq (x0 : Vec F S64x3x768 .f32) (x1 : Vec F S768x2049 .f32) : Vec F S64x2049 .f32 :=
  k1_pay2 (View.ld x0 (Rect.unit ![0, 1, 0] ![64, 1, 768] inb_S64x3x768_S64x1x768_0_1_0)) x1

/-- The block a point stores, from the scratch. -/
def blk (i : grid1.Coords) (s : Vec F S64x2049 .f32) : Vec F S512x64 .f32 :=
  k1_pay1 (View.ld s (Rect.unit ![0, 2048] ![64, 1] inb_S64x2049_S64x1_0_2048))
    (k1_pay3 i (View.ld s (Rect.unit ![0, 0] ![64, 2048] inb_S64x2049_S64x2048_0_0))) (k1_pay4 i)

section
variable (c : Dev nD) (i : grid1.Coords) (arg1 : Memref sig .tc .vmem S64x3x768 .f32) (harg1 : arg1.IsWhole) (arg2 : Memref sig .tc .vmem S768x2049 .f32) (harg2 : arg2.IsWhole) (arg3 : Memref sig .tc .vmem S512x64 .f32) (harg3 : arg3.IsWhole) (arg4 : Memref sig .tc .vmem S64x2049 .f32) (harg4 : arg4.IsWhole)
  (x0 : Vec F S64x3x768 .f32) (x1 : Vec F S768x2049 .f32)

/-- The first point fills the scratch with the projected keys. -/
theorem soutA_eq (hc0 : cond0_0 i) :
    sout0_A_0 c i arg1 harg1 arg2 harg2 arg3 harg3 arg4 harg4 hc0 x0 x1 = freq x0 x1 := by
  unfold sout0_A_0
  rw [View.read_writes_junk_eq_canon]
  delta kernelRun0_A
  dsimp only
  delta kernelRun0_A.sl.HS0_1
  dsimp only
  rw [View.canon_unit_zero hz2]
  simp only [View.readAt_eq_ld, harg1.read_unread, harg2.read_unread]
  rw [View.ld_unit_zero (S := S768x2049) hz2 _ x1]
  rfl

/-- The first point stores its block of the projected keys. -/
theorem outA_eq (hc0 : cond0_0 i) :
    out0_A_2 c i arg1 harg1 arg2 harg2 arg3 harg3 arg4 harg4 hc0 x0 x1 = blk i (freq x0 x1) := by
  unfold out0_A_2
  rw [View.read_writes_junk_eq_canon]
  delta kernelRun0_A
  dsimp only
  rw [View.canon_unit_zero hz2]
  have e : View.canon [(⟨Rect.unit ![0, 0] ![64, 2049] inb_S64x2049_S64x2049_0_0, freq x0 x1⟩ : View.Piece (Elt F) S64x2049 .f32)] = freq x0 x1 :=
    View.canon_unit_zero hz2 _ _
  delta kernelRun0_A.sl.v41 kernelRun0_A.sl.r kernelRun0_A.sl.v40 kernelRun0_A.sl.HS0_1
  dsimp only
  simp only [View.readAt_eq_ld, harg1.read_unread, harg2.read_unread]
  rw [View.ld_unit_zero (S := S768x2049) hz2 _ x1]
  rw [View.readCov_eq_canon_ld, View.readCov_eq_canon_ld]
  · unfold blk
    let X : Vec F S64x2049 .f32 := View.canon [(⟨Rect.unit ![0, 0] ![64, 2049] inb_S64x2049_S64x2049_0_0, freq x0 x1⟩ : View.Piece (Elt F) S64x2049 .f32)]
    change k1_pay1 (View.ld X (Rect.unit ![0, 2048] ![64, 1] inb_S64x2049_S64x1_0_2048)) (k1_pay3 i (View.ld X (Rect.unit ![0, 0] ![64, 2048] inb_S64x2049_S64x2048_0_0))) (k1_pay4 i) = _
    rw [show X = freq x0 x1 from e]
  · exact fun y => View.cover_of_tiledL _ S64x2049.size (by sl_kernel_rfl) y
  · exact fun y => View.cover_of_tiledL _ S64x2049.size (by sl_kernel_rfl) y

/-- A later point stores its block of what the scratch holds. -/
theorem outB_eq (hc0 : ¬ cond0_0 i) (xs : Vec F S64x2049 .f32) :
    out0_B_2 c i arg1 harg1 arg2 harg2 arg3 harg3 arg4 harg4 hc0 x0 x1 xs = blk i xs := by
  unfold out0_B_2
  rw [View.read_writes_junk_eq_canon]
  delta kernelRun0_B
  dsimp only
  rw [View.canon_unit_zero hz2]
  delta kernelRun0_B.sl.r kernelRun0_B.sl.r_1
  dsimp only
  simp only [View.readAt_eq_ld, harg4.read_unread]
  rfl
end

variable (V : (c : Dev nD) → (b : Ref sig .tc) → Buf (Elt F) ((c : Thread nD τ).loc b))

/-- Input window 0 has one block, the whole of its array. -/
theorem emb0 (t : Fin cfg1.N) (j : S64x3x768.Idx) : ((cfg1.win 0).blk t).view.emb j = j := by
  have h : ∀ t : Fin cfg1.N, win1_0.index t (0 : Fin 3) = 0 ∧ win1_0.index t (1 : Fin 3) = 0 ∧ win1_0.index t (2 : Fin 3) = 0 := (by decide +kernel : ∀ t : Fin grid1.N, _)
  obtain ⟨e0, e1, e2⟩ := h t
  funext a; apply Fin.ext
  match a with
  | ⟨0, _⟩ => show win1_0.index t (0 : Fin 3) * 64 + 1 * (j 0).val = (j 0).val; omega
  | ⟨1, _⟩ => show win1_0.index t (1 : Fin 3) * 3 + 1 * (j 1).val = (j 1).val; omega
  | ⟨2, _⟩ => show win1_0.index t (2 : Fin 3) * 768 + 1 * (j 2).val = (j 2).val; omega

/-- So has input window 1. -/
theorem emb1 (t : Fin cfg1.N) (j : S768x2049.Idx) : ((cfg1.win 1).blk t).view.emb j = j := by
  have h : ∀ t : Fin cfg1.N, win1_1.index t (0 : Fin 2) = 0 ∧ win1_1.index t (1 : Fin 2) = 0 := (by decide +kernel : ∀ t : Fin grid1.N, _)
  obtain ⟨e0, e1⟩ := h t
  funext a; apply Fin.ext
  match a with
  | ⟨0, _⟩ => show win1_1.index t (0 : Fin 2) * 768 + 1 * (j 0).val = (j 0).val; omega
  | ⟨1, _⟩ => show win1_1.index t (1 : Fin 2) * 2049 + 1 * (j 1).val = (j 1).val; omega

theorem iblk0_eq (c : Dev nD) (t : Fin cfg1.N) : iblk V c 0 t = V c (Pipeline.arrRef spec1 0) := by
  funext j; show V c (Pipeline.arrRef spec1 0) (((cfg1.win 0).blk t).view.emb j) = _; rw [emb0]
theorem iblk1_eq (c : Dev nD) (t : Fin cfg1.N) : iblk V c 1 t = V c (Pipeline.arrRef spec1 1) := by
  funext j; show V c (Pipeline.arrRef spec1 1) (((cfg1.win 1).blk t).view.emb j) = _; rw [emb1]

/-- The projected keys of the arrays the call finds. -/
def fq (c : Dev nD) : Vec F S64x2049 .f32 := freq (V c (Pipeline.arrRef spec1 0)) (V c (Pipeline.arrRef spec1 1))

/-- After every point the scratch holds the projected keys, and the output block that point's part. -/
theorem outsAt_eq (c : Dev nD) : ∀ (n : ℕ) (hn : n < cfg1.N), outsAt0 V c n hn = (blk (grid1.coords ⟨n, hn⟩) (fq V c), fq V c) := by
  intro n
  induction n with
  | zero => intro hn; rw [outsAt0_A V c ⟨0, hn⟩ rfl, outA_eq, soutA_eq, iblk0_eq, iblk1_eq]; rfl
  | succ n ih =>
    intro hn
    by_cases h : (n + 1) % 8 = 0
    · rw [outsAt0_A V c ⟨n + 1, hn⟩ h, outA_eq, soutA_eq, iblk0_eq, iblk1_eq]; rfl
    · rw [outsAt0_B V c ⟨n + 1, hn⟩ h, outB_eq]
      show (blk _ (outsAt0 V c n _).2, (outsAt0 V c n _).2) = _
      rw [ih]

/-- Output block `t` starts at row `512 t`. -/
theorem emb2 (t : Fin cfg1.N) (j : S512x64.Idx) :
    (((cfg1.win 2).blk t).view.emb j 0).val = t.val * 512 + (j 0).val ∧ (((cfg1.win 2).blk t).view.emb j 1).val = (j 1).val := by
  have h : ∀ t : Fin cfg1.N, win1_2.index t (0 : Fin 2) = t.val ∧ win1_2.index t (1 : Fin 2) = 0 := (by decide +kernel : ∀ t : Fin grid1.N, _)
  obtain ⟨e0, e1⟩ := h t
  refine ⟨?_, ?_⟩
  · show win1_2.index t (0 : Fin 2) * 512 + 1 * (j 0).val = _; omega
  · show win1_2.index t (1 : Fin 2) * 64 + 1 * (j 1).val = _; omega

/-- The output array, row `512 b + r` from block `b`. -/
def kft (s : Vec F S64x2049 .f32) : Vec F S4096x64 .f32 := fun y =>
  have h0 : (y 0).val < 4096 := (y 0).isLt
  blk (grid1.coords ⟨(y 0).val / 512, by show (y 0).val / 512 < 8; omega⟩) s
    (ValueIdx.ix2 ⟨(y 0).val % 512, Nat.mod_lt _ (by norm_num)⟩ (y 1))

/-- What the output ends holding. -/
theorem final2 (c : Dev nD) : (dat V c).arrAt 2 cfg1.N = kft (fq V c) := by
  refine (dat V c).arrAt_eq_of_cover 2 _ (fun t _ => ?_) (fun i => ?_)
  · show (cfg1.win 2).cut (grid1.coords t) ((dat V c).after 2 t) = _
    rw [after0_2, outsAt_eq]
    funext j
    show blk (grid1.coords t) (fq V c) j = kft (fq V c) (((cfg1.win 2).blk t).view.emb j)
    obtain ⟨e0, e1⟩ := emb2 t j
    have hj : (j 0).val < 512 := (j 0).isLt
    have ht : t.val < 8 := t.isLt
    unfold kft
    have hd : (⟨(((cfg1.win 2).blk t).view.emb j 0).val / 512, by rw [e0]; show _ < 8; omega⟩ : Fin cfg1.N) = t :=
      Fin.ext (by show (((cfg1.win 2).blk t).view.emb j 0).val / 512 = t.val; rw [e0]; omega)
    have hx : j = ValueIdx.ix2 ⟨(((cfg1.win 2).blk t).view.emb j 0).val % 512, Nat.mod_lt _ (by norm_num)⟩ (((cfg1.win 2).blk t).view.emb j 1) := by
      funext a; apply Fin.ext
      match a with
      | ⟨0, _⟩ => show (j 0).val = (((cfg1.win 2).blk t).view.emb j 0).val % 512; rw [e0]; omega
      | ⟨1, _⟩ => exact e1.symm
    exact (congrArg (blk (grid1.coords t) (fq V c)) hx).trans (congrArg (fun t' => blk (grid1.coords t') (fq V c) _) hd.symm)
  · have h0 : (i 0).val < 4096 := (i 0).isLt
    have h1 : (i 1).val < 64 := (i 1).isLt
    let t : Fin cfg1.N := ⟨(i 0).val / 512, by show (i 0).val / 512 < 8; omega⟩
    let j : S512x64.Idx := ValueIdx.ix2 ⟨(i 0).val % 512, Nat.mod_lt _ (by norm_num)⟩ ⟨(i 1).val, h1⟩
    obtain ⟨e0, e1⟩ := emb2 t j
    have e : ((cfg1.win 2).blk t).view.emb j = i := by
      funext a; apply Fin.ext
      match a with
      | ⟨0, _⟩ => exact e0.trans (by show (i 0).val / 512 * 512 + (i 0).val % 512 = (i 0).val; omega)
      | ⟨1, _⟩ => exact e1
    exact ⟨t, flush1_2 _, by have h := ((cfg1.win 2).blk t).view.emb_mem_set j; rwa [e] at h⟩

end Cert.KernelIdeal.R1

end
-- ==== Proof.KernelIdeal.Value2a.lean ====
/-
  What the third kernel call leaves in its three output arrays, as functions of its input arrays.
-/
module

public import proofs.«01_k».proof.Proof.KernelIdeal.Region2
public import Idealize.ShloMosaic.Lib.Pipeline.Value
public import Idealize.ShloMosaic.Lib.Pipeline.FrameTail
public import Idealize.ShloMosaic.Lib.CellWrites
public import Idealize.ShloMosaic.Lib.ValueIdx

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- One query's slice of the noise. -/
abbrev g0 (x6 : Vec F S64x3x64 .f32) : Vec F S64x1x64 .f32 := View.ld x6 (Rect.unit ![0, 0, 0] S64x1x64.size inb_S64x3x64_S64x1x64_0_0_0)
/-- The second query's. -/
abbrev g1 (x6 : Vec F S64x3x64 .f32) : Vec F S64x1x64 .f32 := View.ld x6 (Rect.unit ![0, 1, 0] S64x1x64.size inb_S64x3x64_S64x1x64_0_1_0)
/-- The third query's. -/
abbrev g2 (x6 : Vec F S64x3x64 .f32) : Vec F S64x1x64 .f32 := View.ld x6 (Rect.unit ![0, 2, 0] S64x1x64.size inb_S64x3x64_S64x1x64_0_2_0)

/-- The running sum of matched scores after a point, from what it was before. -/
def simStep (x0 : Vec F S64x1x4096 .f32) (x1 x2 x3 : Vec F S4096x64 .f32) (x4 : Vec F S1x64 .f32) (x6 : Vec F S64x3x64 .f32) (a : F .f32) : F .f32 :=
  k2_pay1 (k2_pay9 x0 x1 x4 (g0 x6)) (k2_pay10 (k2_pay7 x0 x2) (g1 x6)) (k2_pay11 (k2_pay8 x0 x3) (g2 x6)) a
/-- The running sum of entropies after a point, from what it was before. -/
def entStep (x0 : Vec F S64x1x4096 .f32) (x1 x2 x3 : Vec F S4096x64 .f32) (x4 : Vec F S1x64 .f32) (x6 : Vec F S64x3x64 .f32) (a : F .f32) : F .f32 :=
  k2_pay2 (k2_pay12 (k2_pay7 x0 x2) (k2_pay8 x0 x3) (k2_pay9 x0 x1 x4 (g0 x6)) (g1 x6) (g2 x6)) a

/-- Two words as a vector. -/
def two (a b : F .f32) : Vec F S2 .f32 := fun y => if (y 0).val = 1 then b else a

/-- The zero both sums start from. -/
abbrev z0 : F .f32 := FloatOps.ofBits FTy.f32 0#32

section
variable (c : Dev nD) (i : grid2.Coords) (arg1 : Memref sig .tc .vmem S64x1x4096 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S1x64 .f32) (harg5 : arg5.IsWhole) (arg6 : Memref sig .tc .vmem S1x4096 .f32) (harg6 : arg6.IsWhole) (arg7 : Memref sig .tc .vmem S64x3x64 .f32) (harg7 : arg7.IsWhole) (arg8 : Memref sig .tc .vmem S64x1x4096 .f32) (harg8 : arg8.IsWhole) (arg9 : Memref sig .tc .smem S1x1 .f32) (harg9 : arg9.IsWhole) (arg10 : Memref sig .tc .smem S1x1 .f32) (harg10 : arg10.IsWhole) (arg11 : Memref sig .tc .smem S2 .f32) (harg11 : arg11.IsWhole)
  (x0 : Vec F S64x1x4096 .f32) (x1 : Vec F S4096x64 .f32) (x2 : Vec F S4096x64 .f32) (x3 : Vec F S4096x64 .f32) (x4 : Vec F S1x64 .f32) (x5 : Vec F S1x4096 .f32) (x6 : Vec F S64x3x64 .f32)

/-- The block a point stores to the first output. -/
theorem out7A_eq (hc0 : cond0_0 i) (hc1 : ¬ cond0_1 i) :
    out0_A_7 c i arg1 harg1 arg2 harg2 arg3 harg3 arg4 harg4 arg5 harg5 arg6 harg6 arg7 harg7 arg8 harg8 arg9 harg9 arg10 harg10 arg11 harg11 hc0 hc1 x0 x1 x2 x3 x4 x5 x6 = k2_pay3 (k2_pay6 x0) x5 := by
  unfold out0_A_7
  rw [View.read_writes_junk_eq_canon]
  delta kernelRun0_A
  dsimp only
  rw [View.canon_unit_zero hz3]
  sl_unfold_run_names
  simp only [View.readAt_eq_ld, harg1.read_unread, harg2.read_unread, harg3.read_unread, harg4.read_unread, harg5.read_unread, harg6.read_unread, harg7.read_unread, harg11.read_unread]
  rw [View.ld_unit_zero (S := S64x1x4096) hz3 _ x0, View.ld_unit_zero (S := S1x4096) hz2 _ x5]

/-- The two running sums after a point. -/
theorem soutA_eq (hc0 : cond0_0 i) (hc1 : ¬ cond0_1 i) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 = two (simStep x0 x1 x2 x3 x4 x6 z0) (entStep x0 x1 x2 x3 x4 x6 z0) := by
  unfold sout0_A_0
  delta kernelRun0_A
  dsimp only
  sl_unfold_run_names
  simp only [View.readAt_eq_ld, harg1.read_unread, harg2.read_unread, harg3.read_unread, harg4.read_unread, harg5.read_unread, harg6.read_unread, harg7.read_unread, harg11.read_unread]
  rw [View.ld_unit_zero (S := S64x1x4096) hz3 _ x0, View.ld_unit_zero (S := S4096x64) hz2 _ x1, View.ld_unit_zero (S := S4096x64) hz2 _ x2, View.ld_unit_zero (S := S4096x64) hz2 _ x3, View.ld_unit_zero (S := S1x64) hz2 _ x4]
  funext y
  have hy : (y 0).val < 2 := (y 0).isLt
  refine (View.read_writes_cons_cell _ _ _ _ _ y).trans ?_
  rw [View.read_writes_cons_cell _ _ _ _ _ y]
  unfold two
  by_cases h : (y 0).val = 1
  · rw [if_pos h]; refine (if_pos h).trans ?_; rfl
  · rw [if_neg h]; refine (if_neg h).trans ((if_pos (show (y 0).val = 0 by omega)).trans ?_); rfl

/-- The block a point stores to the first output. -/
theorem out7B_eq (hc0 : ¬ cond0_0 i) (hc1 : ¬ cond0_1 i) (xs : Vec F S2 .f32) :
    out0_B_7 c i arg1 harg1 arg2 harg2 arg3 harg3 arg4 harg4 arg5 harg5 arg6 harg6 arg7 harg7 arg8 harg8 arg9 harg9 arg10 harg10 arg11 harg11 hc0 hc1 x0 x1 x2 x3 x4 x5 x6 xs = k2_pay3 (k2_pay6 x0) x5 := by
  unfold out0_B_7
  rw [View.read_writes_junk_eq_canon]
  delta kernelRun0_B
  dsimp only
  rw [View.canon_unit_zero hz3]
  sl_unfold_run_names
  simp only [View.readAt_eq_ld, harg1.read_unread, harg2.read_unread, harg3.read_unread, harg4.read_unread, harg5.read_unread, harg6.read_unread, harg7.read_unread, harg11.read_unread]
  rw [View.ld_unit_zero (S := S64x1x4096) hz3 _ x0, View.ld_unit_zero (S := S1x4096) hz2 _ x5]

/-- The two running sums after a point. -/
theorem soutB_eq (hc0 : ¬ cond0_0 i) (hc1 : ¬ cond0_1 i) (xs : Vec F S2 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 xs = two (simStep x0 x1 x2 x3 x4 x6 (xs (ValueIdx.ix1 0))) (entStep x0 x1 x2 x3 x4 x6 (xs (ValueIdx.ix1 1))) := by
  unfold sout0_B_0
  delta kernelRun0_B
  dsimp only
  sl_unfold_run_names
  simp only [View.readAt_eq_ld, harg1.read_unread, harg2.read_unread, harg3.read_unread, harg4.read_unread, harg5.read_unread, harg6.read_unread, harg7.read_unread, harg11.read_unread]
  rw [View.ld_unit_zero (S := S64x1x4096) hz3 _ x0, View.ld_unit_zero (S := S4096x64) hz2 _ x1, View.ld_unit_zero (S := S4096x64) hz2 _ x2, View.ld_unit_zero (S := S4096x64) hz2 _ x3, View.ld_unit_zero (S := S1x64) hz2 _ x4]
  funext y
  have hy : (y 0).val < 2 := (y 0).isLt
  refine (View.read_writes_cons_cell _ _ _ _ _ y).trans ?_
  rw [View.read_writes_cons_cell _ _ _ _ _ y]
  unfold two
  by_cases h : (y 0).val = 1
  · rw [if_pos h]; refine (if_pos h).trans ?_; exact congrArg (fun u => entStep x0 x1 x2 x3 x4 x6 (xs u)) (funext fun a => by fin_cases a; rfl)
  · rw [if_neg h]; refine (if_neg h).trans ((if_pos (show (y 0).val = 0 by omega)).trans ?_); exact congrArg (fun u => simStep x0 x1 x2 x3 x4 x6 (xs u)) (funext fun a => by fin_cases a; rfl)

/-- The block a point stores to the first output. -/
theorem out7C_eq (hc0 : ¬ cond0_0 i) (hc1 : cond0_1 i) (xs : Vec F S2 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 x6 xs = k2_pay3 (k2_pay6 x0) x5 := by
  unfold out0_C_7
  rw [View.read_writes_junk_eq_canon]
  delta kernelRun0_C
  dsimp only
  rw [View.canon_unit_zero hz3]
  sl_unfold_run_names
  simp only [View.readAt_eq_ld, harg1.read_unread, harg2.read_unread, harg3.read_unread, harg4.read_unread, harg5.read_unread, harg6.read_unread, harg7.read_unread, harg11.read_unread]
  rw [View.ld_unit_zero (S := S64x1x4096) hz3 _ x0, View.ld_unit_zero (S := S1x4096) hz2 _ x5]

/-- The two running sums after a point. -/
theorem soutC_eq (hc0 : ¬ cond0_0 i) (hc1 : cond0_1 i) (xs : Vec F S2 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 xs = two (simStep x0 x1 x2 x3 x4 x6 (xs (ValueIdx.ix1 0))) (entStep x0 x1 x2 x3 x4 x6 (xs (ValueIdx.ix1 1))) := by
  unfold sout0_C_0
  delta kernelRun0_C
  dsimp only
  sl_unfold_run_names
  simp only [View.readAt_eq_ld, harg1.read_unread, harg2.read_unread, harg3.read_unread, harg4.read_unread, harg5.read_unread, harg6.read_unread, harg7.read_unread, harg11.read_unread]
  rw [View.ld_unit_zero (S := S64x1x4096) hz3 _ x0, View.ld_unit_zero (S := S4096x64) hz2 _ x1, View.ld_unit_zero (S := S4096x64) hz2 _ x2, View.ld_unit_zero (S := S4096x64) hz2 _ x3, View.ld_unit_zero (S := S1x64) hz2 _ x4]
  funext y
  have hy : (y 0).val < 2 := (y 0).isLt
  refine (View.read_writes_cons_cell _ _ _ _ _ y).trans ?_
  rw [View.read_writes_cons_cell _ _ _ _ _ y]
  unfold two
  by_cases h : (y 0).val = 1
  · rw [if_pos h]; refine (if_pos h).trans ?_; exact congrArg (fun u => entStep x0 x1 x2 x3 x4 x6 (xs u)) (funext fun a => by fin_cases a; rfl)
  · rw [if_neg h]; refine (if_neg h).trans ((if_pos (show (y 0).val = 0 by omega)).trans ?_); exact congrArg (fun u => simStep x0 x1 x2 x3 x4 x6 (xs u)) (funext fun a => by fin_cases a; rfl)

/-- What the last point stores to output 8. -/
theorem out8C_eq (hc0 : ¬ cond0_0 i) (hc1 : cond0_1 i) (xs : Vec F S2 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 xs = fun _ => k2_pay4 (simStep x0 x1 x2 x3 x4 x6 (xs (ValueIdx.ix1 0))) := by
  unfold out0_C_8
  rw [View.read_writes_junk_eq_canon]
  delta kernelRun0_C
  dsimp only
  rw [View.canon_unit_zero hz2]
  sl_unfold_run_names
  simp only [View.readAt_eq_ld, harg1.read_unread, harg2.read_unread, harg3.read_unread, harg4.read_unread, harg5.read_unread, harg6.read_unread, harg7.read_unread, harg11.read_unread]
  rw [View.ld_unit_zero (S := S64x1x4096) hz3 _ x0, View.ld_unit_zero (S := S4096x64) hz2 _ x1, View.ld_unit_zero (S := S4096x64) hz2 _ x2, View.ld_unit_zero (S := S4096x64) hz2 _ x3, View.ld_unit_zero (S := S1x64) hz2 _ x4]
  funext y
  exact congrArg (fun u => k2_pay4 (simStep x0 x1 x2 x3 x4 x6 (xs u))) (funext fun a => by fin_cases a; rfl)

/-- What the last point stores to output 9. -/
theorem out9C_eq (hc0 : ¬ cond0_0 i) (hc1 : cond0_1 i) (xs : Vec F S2 .f32) :
    out0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 xs = fun _ => k2_pay5 (entStep x0 x1 x2 x3 x4 x6 (xs (ValueIdx.ix1 1))) := by
  unfold out0_C_9
  rw [View.read_writes_junk_eq_canon]
  delta kernelRun0_C
  dsimp only
  rw [View.canon_unit_zero hz2]
  sl_unfold_run_names
  simp only [View.readAt_eq_ld, harg1.read_unread, harg2.read_unread, harg3.read_unread, harg4.read_unread, harg5.read_unread, harg6.read_unread, harg7.read_unread, harg11.read_unread]
  rw [View.ld_unit_zero (S := S64x1x4096) hz3 _ x0, View.ld_unit_zero (S := S4096x64) hz2 _ x1, View.ld_unit_zero (S := S4096x64) hz2 _ x2, View.ld_unit_zero (S := S4096x64) hz2 _ x3, View.ld_unit_zero (S := S1x64) hz2 _ x4]
  funext y
  exact congrArg (fun u => k2_pay5 (entStep x0 x1 x2 x3 x4 x6 (xs u))) (funext fun a => by fin_cases a; rfl)

end

end Cert.KernelIdeal.R2

end
-- ==== Proof.KernelIdeal.Value2b.lean ====
/-
  The three output arrays of the third kernel call, as functions of its input arrays: the sixteen
  points one after another.
-/
module

public import proofs.«01_k».proof.Proof.KernelIdeal.Value2a

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F] [Named F]

/-- Rows `64 n` to `64 n + 63` of the signals. -/
def pblk (n : ℕ) (P : Vec F S1024x1x4096 .f32) : Vec F S64x1x4096 .f32 :=
  fun j => P (ValueIdx.ix3 ⟨(n * 64 + (j 0).val) % 1024, Nat.mod_lt _ (by norm_num)⟩ (j 1) (j 2))
/-- Rows `64 n` to `64 n + 63` of the noise. -/
def gblk (n : ℕ) (G : Vec F S1024x3x64 .f32) : Vec F S64x3x64 .f32 :=
  fun j => G (ValueIdx.ix3 ⟨(n * 64 + (j 0).val) % 1024, Nat.mod_lt _ (by norm_num)⟩ (j 1) (j 2))

/-- The sum of matched scores over the first `n` points. -/
def simAcc (P : Vec F S1024x1x4096 .f32) (k1 k2 k3 : Vec F S4096x64 .f32) (b : Vec F S1x64 .f32) (G : Vec F S1024x3x64 .f32) : ℕ → F .f32
  | 0 => z0
  | n + 1 => simStep (pblk n P) k1 k2 k3 b (gblk n G) (simAcc P k1 k2 k3 b G n)
/-- The sum of entropies over the first `n` points. -/
def entAcc (P : Vec F S1024x1x4096 .f32) (k1 k2 k3 : Vec F S4096x64 .f32) (b : Vec F S1x64 .f32) (G : Vec F S1024x3x64 .f32) : ℕ → F .f32
  | 0 => z0
  | n + 1 => entStep (pblk n P) k1 k2 k3 b (gblk n G) (entAcc P k1 k2 k3 b G n)

variable (V : (c : Dev nD) → (b : Ref sig .tc) → Buf (Elt F) ((c : Thread nD τ).loc b))

/-- Input window 1 has one block, the whole of its array. -/
theorem iblk1_eq (c : Dev nD) (t : Fin cfg2.N) : iblk V c 1 t = V c (Pipeline.arrRef spec2 1) := by
  have h : ∀ t : Fin cfg2.N, win2_1.index t (0 : Fin 2) = 0 ∧ win2_1.index t (1 : Fin 2) = 0 := (by decide +kernel : ∀ t : Fin grid2.N, _)
  obtain ⟨e0, e1⟩ := h t
  funext j; show V c (Pipeline.arrRef spec2 1) (((cfg2.win 1).blk t).view.emb j) = _
  refine congrArg (V c (Pipeline.arrRef spec2 1)) ?_
  funext a; apply Fin.ext
  match a with
  | ⟨0, _⟩ => show win2_1.index t (0 : Fin 2) * 4096 + 1 * (j 0).val = (j 0).val; omega
  | ⟨1, _⟩ => show win2_1.index t (1 : Fin 2) * 64 + 1 * (j 1).val = (j 1).val; omega

/-- Input window 2 has one block, the whole of its array. -/
theorem iblk2_eq (c : Dev nD) (t : Fin cfg2.N) : iblk V c 2 t = V c (Pipeline.arrRef spec2 2) := by
  have h : ∀ t : Fin cfg2.N, win2_2.index t (0 : Fin 2) = 0 ∧ win2_2.index t (1 : Fin 2) = 0 := (by decide +kernel : ∀ t : Fin grid2.N, _)
  obtain ⟨e0, e1⟩ := h t
  funext j; show V c (Pipeline.arrRef spec2 2) (((cfg2.win 2).blk t).view.emb j) = _
  refine congrArg (V c (Pipeline.arrRef spec2 2)) ?_
  funext a; apply Fin.ext
  match a with
  | ⟨0, _⟩ => show win2_2.index t (0 : Fin 2) * 4096 + 1 * (j 0).val = (j 0).val; omega
  | ⟨1, _⟩ => show win2_2.index t (1 : Fin 2) * 64 + 1 * (j 1).val = (j 1).val; omega

/-- Input window 3 has one block, the whole of its array. -/
theorem iblk3_eq (c : Dev nD) (t : Fin cfg2.N) : iblk V c 3 t = V c (Pipeline.arrRef spec2 3) := by
  have h : ∀ t : Fin cfg2.N, win2_3.index t (0 : Fin 2) = 0 ∧ win2_3.index t (1 : Fin 2) = 0 := (by decide +kernel : ∀ t : Fin grid2.N, _)
  obtain ⟨e0, e1⟩ := h t
  funext j; show V c (Pipeline.arrRef spec2 3) (((cfg2.win 3).blk t).view.emb j) = _
  refine congrArg (V c (Pipeline.arrRef spec2 3)) ?_
  funext a; apply Fin.ext
  match a with
  | ⟨0, _⟩ => show win2_3.index t (0 : Fin 2) * 4096 + 1 * (j 0).val = (j 0).val; omega
  | ⟨1, _⟩ => show win2_3.index t (1 : Fin 2) * 64 + 1 * (j 1).val = (j 1).val; omega

/-- Input window 4 has one block, the whole of its array. -/
theorem iblk4_eq (c : Dev nD) (t : Fin cfg2.N) : iblk V c 4 t = V c (Pipeline.arrRef spec2 4) := by
  have h : ∀ t : Fin cfg2.N, win2_4.index t (0 : Fin 2) = 0 ∧ win2_4.index t (1 : Fin 2) = 0 := (by decide +kernel : ∀ t : Fin grid2.N, _)
  obtain ⟨e0, e1⟩ := h t
  funext j; show V c (Pipeline.arrRef spec2 4) (((cfg2.win 4).blk t).view.emb j) = _
  refine congrArg (V c (Pipeline.arrRef spec2 4)) ?_
  funext a; apply Fin.ext
  match a with
  | ⟨0, _⟩ => show win2_4.index t (0 : Fin 2) * 1 + 1 * (j 0).val = (j 0).val; omega
  | ⟨1, _⟩ => show win2_4.index t (1 : Fin 2) * 64 + 1 * (j 1).val = (j 1).val; omega

/-- Input window 5 has one block, the whole of its array. -/
theorem iblk5_eq (c : Dev nD) (t : Fin cfg2.N) : iblk V c 5 t = V c (Pipeline.arrRef spec2 5) := by
  have h : ∀ t : Fin cfg2.N, win2_5.index t (0 : Fin 2) = 0 ∧ win2_5.index t (1 : Fin 2) = 0 := (by decide +kernel : ∀ t : Fin grid2.N, _)
  obtain ⟨e0, e1⟩ := h t
  funext j; show V c (Pipeline.arrRef spec2 5) (((cfg2.win 5).blk t).view.emb j) = _
  refine congrArg (V c (Pipeline.arrRef spec2 5)) ?_
  funext a; apply Fin.ext
  match a with
  | ⟨0, _⟩ => show win2_5.index t (0 : Fin 2) * 1 + 1 * (j 0).val = (j 0).val; omega
  | ⟨1, _⟩ => show win2_5.index t (1 : Fin 2) * 4096 + 1 * (j 1).val = (j 1).val; omega

/-- Input window 0 is cut by rows, 64 a point. -/
theorem iblk0_eq (c : Dev nD) (t : Fin cfg2.N) : iblk V c 0 t = pblk t.val (V c (Pipeline.arrRef spec2 0)) := by
  have h : ∀ t : Fin cfg2.N, win2_0.index t (0 : Fin 3) = t.val ∧ win2_0.index t (1 : Fin 3) = 0 ∧ win2_0.index t (2 : Fin 3) = 0 := (by decide +kernel : ∀ t : Fin grid2.N, _)
  obtain ⟨e0, e1, e2⟩ := h t
  have ht : t.val < 16 := t.isLt
  funext j; show V c (Pipeline.arrRef spec2 0) (((cfg2.win 0).blk t).view.emb j) = _
  have hj : (j 0).val < 64 := (j 0).isLt
  refine congrArg (V c (Pipeline.arrRef spec2 0)) ?_
  funext a; apply Fin.ext
  match a with
  | ⟨0, _⟩ => show win2_0.index t (0 : Fin 3) * 64 + 1 * (j 0).val = (t.val * 64 + (j 0).val) % 1024; omega
  | ⟨1, _⟩ => show win2_0.index t (1 : Fin 3) * 1 + 1 * (j 1).val = (j 1).val; omega
  | ⟨2, _⟩ => show win2_0.index t (2 : Fin 3) * 4096 + 1 * (j 2).val = (j 2).val; omega

/-- Input window 6 is cut by rows, 64 a point. -/
theorem iblk6_eq (c : Dev nD) (t : Fin cfg2.N) : iblk V c 6 t = gblk t.val (V c (Pipeline.arrRef spec2 6)) := by
  have h : ∀ t : Fin cfg2.N, win2_6.index t (0 : Fin 3) = t.val ∧ win2_6.index t (1 : Fin 3) = 0 ∧ win2_6.index t (2 : Fin 3) = 0 := (by decide +kernel : ∀ t : Fin grid2.N, _)
  obtain ⟨e0, e1, e2⟩ := h t
  have ht : t.val < 16 := t.isLt
  funext j; show V c (Pipeline.arrRef spec2 6) (((cfg2.win 6).blk t).view.emb j) = _
  have hj : (j 0).val < 64 := (j 0).isLt
  refine congrArg (V c (Pipeline.arrRef spec2 6)) ?_
  funext a; apply Fin.ext
  match a with
  | ⟨0, _⟩ => show win2_6.index t (0 : Fin 3) * 64 + 1 * (j 0).val = (t.val * 64 + (j 0).val) % 1024; omega
  | ⟨1, _⟩ => show win2_6.index t (1 : Fin 3) * 3 + 1 * (j 1).val = (j 1).val; omega
  | ⟨2, _⟩ => show win2_6.index t (2 : Fin 3) * 64 + 1 * (j 2).val = (j 2).val; omega

/-- The sums found by the call `n` points in. -/
abbrev simA (c : Dev nD) (n : ℕ) : F .f32 := simAcc (V c (Pipeline.arrRef spec2 0)) (V c (Pipeline.arrRef spec2 1)) (V c (Pipeline.arrRef spec2 2)) (V c (Pipeline.arrRef spec2 3)) (V c (Pipeline.arrRef spec2 4)) (V c (Pipeline.arrRef spec2 6)) n
abbrev entA (c : Dev nD) (n : ℕ) : F .f32 := entAcc (V c (Pipeline.arrRef spec2 0)) (V c (Pipeline.arrRef spec2 1)) (V c (Pipeline.arrRef spec2 2)) (V c (Pipeline.arrRef spec2 3)) (V c (Pipeline.arrRef spec2 4)) (V c (Pipeline.arrRef spec2 6)) n

/-- After every point the scratch holds the two sums over the points so far. -/
theorem outsAt_acc (c : Dev nD) : ∀ (n : ℕ) (hn : n < cfg2.N), (outsAt0 V c n hn).2.2.2 = two (simA V c (n + 1)) (entA V c (n + 1)) := by
  intro n
  induction n with
  | zero =>
    intro hn; rw [outsAt0_A V c ⟨0, hn⟩ rfl (by show ¬ 0 % 16 = 15; decide)]; dsimp only; rw [soutA_eq, iblk0_eq, iblk1_eq, iblk2_eq, iblk3_eq, iblk4_eq, iblk6_eq]; rfl
  | succ n ih =>
    intro hn
    have hn' : n + 1 < 16 := hn
    have h0 : ¬ (n + 1) % 16 = 0 := by omega
    have e0 : (two (simA V c (n + 1)) (entA V c (n + 1))) (ValueIdx.ix1 0) = simA V c (n + 1) := rfl
    have e1 : (two (simA V c (n + 1)) (entA V c (n + 1))) (ValueIdx.ix1 1) = entA V c (n + 1) := rfl
    by_cases h1 : (n + 1) % 16 = 15
    · rw [outsAt0_C V c ⟨n + 1, hn⟩ h0 h1]; dsimp only; rw [soutC_eq, iblk0_eq, iblk1_eq, iblk2_eq, iblk3_eq, iblk4_eq, iblk6_eq]
      have hs : (outsAt0 V c n (Nat.lt_of_succ_lt hn)).2.2.2 = _ := ih _
      simp only [Nat.add_sub_cancel]
      rw [hs, e0, e1]; rfl
    · rw [outsAt0_B V c ⟨n + 1, hn⟩ h0 h1]; dsimp only; rw [soutB_eq, iblk0_eq, iblk1_eq, iblk2_eq, iblk3_eq, iblk4_eq, iblk6_eq]
      have hs : (outsAt0 V c n (Nat.lt_of_succ_lt hn)).2.2.2 = _ := ih _
      simp only [Nat.add_sub_cancel]
      rw [hs, e0, e1]; rfl

/-- The first output's block at a point. -/
theorem outsAt_out (c : Dev nD) (t : Fin cfg2.N) :
    (outsAt0 V c t.val t.isLt).1 = k2_pay3 (k2_pay6 (pblk t.val (V c (Pipeline.arrRef spec2 0)))) (V c (Pipeline.arrRef spec2 5)) := by
  by_cases h0 : t.val % 16 = 0
  · rw [outsAt0_A V c t h0 (by omega)]; dsimp only; rw [out7A_eq, iblk0_eq, iblk5_eq]
  · by_cases h1 : t.val % 16 = 15
    · rw [outsAt0_C V c t h0 h1]; dsimp only; rw [out7C_eq, iblk0_eq, iblk5_eq]
    · rw [outsAt0_B V c t h0 h1]; dsimp only; rw [out7B_eq, iblk0_eq, iblk5_eq]

/-- What the last point leaves in output 8. -/
theorem outsAt_sim (c : Dev nD) (t : Fin cfg2.N) (h1 : t.val % 16 = 15) :
    (outsAt0 V c t.val t.isLt).2.1 = fun _ => k2_pay4 (simA V c 16) := by
  obtain ⟨n, hn⟩ := t
  have hn' : n < 16 := hn
  have hn15 : n = 14 + 1 := by have : n % 16 = 15 := h1; omega
  subst hn15
  rw [outsAt0_C V c ⟨14 + 1, hn⟩ (by show ¬ 15 % 16 = 0; decide) h1]; dsimp only; rw [out8C_eq, iblk0_eq, iblk1_eq, iblk2_eq, iblk3_eq, iblk4_eq, iblk6_eq]
  have hs : (outsAt0 V c 14 (Nat.lt_of_succ_lt hn)).2.2.2 = _ := outsAt_acc V c 14 _
  simp only [Nat.add_sub_cancel]
  rw [hs]; rfl

/-- Output 8 ends holding it. -/
theorem final8 (c : Dev nD) : (dat V c).arrAt 8 cfg2.N = (fun _ => k2_pay4 (simA V c 16) : Vec F S1x1 .f32) := by
  refine (dat V c).arrAt_eq_of_cover 8 _ (fun t ht => ?_) (fun i => ?_)
  · show (cfg2.win 8).cut (grid2.coords t) ((dat V c).after 8 t) = _
    rw [after0_8, outsAt_sim V c t ((flush2_8 t).mp ht)]
    rfl
  · let t : Fin cfg2.N := ⟨15, by decide⟩
    let j : S1x1.Idx := ValueIdx.ix2 0 0
    have e : ((cfg2.win 8).blk t).view.emb j = i := by
      funext a; apply Fin.ext
      match a with
      | ⟨0, _⟩ => have h : (i 0).val < 1 := (i 0).isLt
                  have h' : (((cfg2.win 8).blk t).view.emb j 0).val < 1 := (((cfg2.win 8).blk t).view.emb j 0).isLt
                  show (((cfg2.win 8).blk t).view.emb j 0).val = (i 0).val; omega
      | ⟨1, _⟩ => have h : (i 1).val < 1 := (i 1).isLt
                  have h' : (((cfg2.win 8).blk t).view.emb j 1).val < 1 := (((cfg2.win 8).blk t).view.emb j 1).isLt
                  show (((cfg2.win 8).blk t).view.emb j 1).val = (i 1).val; omega
    exact ⟨t, (flush2_8 t).mpr rfl, by have h := ((cfg2.win 8).blk t).view.emb_mem_set j; rwa [e] at h⟩

/-- What the last point leaves in output 9. -/
theorem outsAt_ent (c : Dev nD) (t : Fin cfg2.N) (h1 : t.val % 16 = 15) :
    (outsAt0 V c t.val t.isLt).2.2.1 = fun _ => k2_pay5 (entA V c 16) := by
  obtain ⟨n, hn⟩ := t
  have hn' : n < 16 := hn
  have hn15 : n = 14 + 1 := by have : n % 16 = 15 := h1; omega
  subst hn15
  rw [outsAt0_C V c ⟨14 + 1, hn⟩ (by show ¬ 15 % 16 = 0; decide) h1]; dsimp only; rw [out9C_eq, iblk0_eq, iblk1_eq, iblk2_eq, iblk3_eq, iblk4_eq, iblk6_eq]
  have hs : (outsAt0 V c 14 (Nat.lt_of_succ_lt hn)).2.2.2 = _ := outsAt_acc V c 14 _
  simp only [Nat.add_sub_cancel]
  rw [hs]; rfl

/-- Output 9 ends holding it. -/
theorem final9 (c : Dev nD) : (dat V c).arrAt 9 cfg2.N = (fun _ => k2_pay5 (entA V c 16) : Vec F S1x1 .f32) := by
  refine (dat V c).arrAt_eq_of_cover 9 _ (fun t ht => ?_) (fun i => ?_)
  · show (cfg2.win 9).cut (grid2.coords t) ((dat V c).after 9 t) = _
    rw [after0_9, outsAt_ent V c t ((flush2_9 t).mp ht)]
    rfl
  · let t : Fin cfg2.N := ⟨15, by decide⟩
    let j : S1x1.Idx := ValueIdx.ix2 0 0
    have e : ((cfg2.win 9).blk t).view.emb j = i := by
      funext a; apply Fin.ext
      match a with
      | ⟨0, _⟩ => have h : (i 0).val < 1 := (i 0).isLt
                  have h' : (((cfg2.win 9).blk t).view.emb j 0).val < 1 := (((cfg2.win 9).blk t).view.emb j 0).isLt
                  show (((cfg2.win 9).blk t).view.emb j 0).val = (i 0).val; omega
      | ⟨1, _⟩ => have h : (i 1).val < 1 := (i 1).isLt
                  have h' : (((cfg2.win 9).blk t).view.emb j 1).val < 1 := (((cfg2.win 9).blk t).view.emb j 1).isLt
                  show (((cfg2.win 9).blk t).view.emb j 1).val = (i 1).val; omega
    exact ⟨t, (flush2_9 t).mpr rfl, by have h := ((cfg2.win 9).blk t).view.emb_mem_set j; rwa [e] at h⟩

/-- Output block `t` starts at row `64 t`. -/
theorem emb7 (t : Fin cfg2.N) (j : S64x1x4096.Idx) :
    (((cfg2.win 7).blk t).view.emb j 0).val = t.val * 64 + (j 0).val ∧ (((cfg2.win 7).blk t).view.emb j 1).val = (j 1).val ∧ (((cfg2.win 7).blk t).view.emb j 2).val = (j 2).val := by
  have h : ∀ t : Fin cfg2.N, win2_7.index t (0 : Fin 3) = t.val ∧ win2_7.index t (1 : Fin 3) = 0 ∧ win2_7.index t (2 : Fin 3) = 0 := (by decide +kernel : ∀ t : Fin grid2.N, _)
  obtain ⟨e0, e1, e2⟩ := h t
  refine ⟨?_, ?_, ?_⟩
  · show win2_7.index t (0 : Fin 3) * 64 + 1 * (j 0).val = _; omega
  · show win2_7.index t (1 : Fin 3) * 1 + 1 * (j 1).val = _; omega
  · show win2_7.index t (2 : Fin 3) * 4096 + 1 * (j 2).val = _; omega

/-- The first output, row `64 b + r` from block `b`. -/
def outArr (P : Vec F S1024x1x4096 .f32) (s : Vec F S1x4096 .f32) : Vec F S1024x1x4096 .f32 := fun y =>
  k2_pay3 (k2_pay6 (pblk ((y 0).val / 64) P)) s (ValueIdx.ix3 ⟨(y 0).val % 64, Nat.mod_lt _ (by norm_num)⟩ (y 1) (y 2))

/-- What the first output ends holding. -/
theorem final7 (c : Dev nD) : (dat V c).arrAt 7 cfg2.N = outArr (V c (Pipeline.arrRef spec2 0)) (V c (Pipeline.arrRef spec2 5)) := by
  refine (dat V c).arrAt_eq_of_cover 7 _ (fun t _ => ?_) (fun i => ?_)
  · show (cfg2.win 7).cut (grid2.coords t) ((dat V c).after 7 t) = _
    rw [after0_7, outsAt_out]
    funext j
    show k2_pay3 (k2_pay6 (pblk t.val (V c (Pipeline.arrRef spec2 0)))) (V c (Pipeline.arrRef spec2 5)) j = outArr (V c (Pipeline.arrRef spec2 0)) (V c (Pipeline.arrRef spec2 5)) (((cfg2.win 7).blk t).view.emb j)
    obtain ⟨e0, e1, e2⟩ := emb7 t j
    have hj : (j 0).val < 64 := (j 0).isLt
    have ht : t.val < 16 := t.isLt
    unfold outArr
    have hd : (((cfg2.win 7).blk t).view.emb j 0).val / 64 = t.val := by rw [e0]; omega
    have hx : j = ValueIdx.ix3 ⟨(((cfg2.win 7).blk t).view.emb j 0).val % 64, Nat.mod_lt _ (by norm_num)⟩ (((cfg2.win 7).blk t).view.emb j 1) (((cfg2.win 7).blk t).view.emb j 2) := by
      funext a; apply Fin.ext
      match a with
      | ⟨0, _⟩ => show (j 0).val = (((cfg2.win 7).blk t).view.emb j 0).val % 64; rw [e0]; omega
      | ⟨1, _⟩ => exact e1.symm
      | ⟨2, _⟩ => exact e2.symm
    exact (congrArg (k2_pay3 (k2_pay6 (pblk t.val (V c (Pipeline.arrRef spec2 0)))) (V c (Pipeline.arrRef spec2 5))) hx).trans (congrArg (fun n => k2_pay3 (k2_pay6 (pblk n (V c (Pipeline.arrRef spec2 0)))) (V c (Pipeline.arrRef spec2 5)) _) hd.symm)
  · have h0 : (i 0).val < 1024 := (i 0).isLt
    have h1 : (i 1).val < 1 := (i 1).isLt
    have h2 : (i 2).val < 4096 := (i 2).isLt
    let t : Fin cfg2.N := ⟨(i 0).val / 64, by show (i 0).val / 64 < 16; omega⟩
    let j : S64x1x4096.Idx := ValueIdx.ix3 ⟨(i 0).val % 64, Nat.mod_lt _ (by norm_num)⟩ ⟨(i 1).val, h1⟩ ⟨(i 2).val, h2⟩
    obtain ⟨e0, e1, e2⟩ := emb7 t j
    have e : ((cfg2.win 7).blk t).view.emb j = i := by
      funext a; apply Fin.ext
      match a with
      | ⟨0, _⟩ => exact e0.trans (by show (i 0).val / 64 * 64 + (i 0).val % 64 = (i 0).val; omega)
      | ⟨1, _⟩ => exact e1
      | ⟨2, _⟩ => exact e2
    exact ⟨t, flush2_7 _, by have h := ((cfg2.win 7).blk t).view.emb_mem_set j; rwa [e] at h⟩

end Cert.KernelIdeal.R2

end
-- ==== Proof.KernelIdeal.Values.lean ====
/-
  The kernel's three results as functions of its arguments.
-/
module

public import proofs.«01_k».proof.Proof.KernelIdeal.Value0
public import proofs.«01_k».proof.Proof.KernelIdeal.Value1
public import proofs.«01_k».proof.Proof.KernelIdeal.Value2b
public import proofs.«01_k».proof.Proof.KernelIdeal.Run

@[expose] public section

set_option maxRecDepth 16384

noncomputable section

namespace Cert.KernelIdeal.Values

open Cert.KernelIdeal Cert.KernelIdeal.Gen Cert.KernelIdeal.Run
open Idealize.ShloMosaic Idealize.ShloMosaic.TcCoe Idealize.ShloMosaic.Tactic

variable {F : FTy → Type} [FloatOps F] [Named F]

/-- The prompts summed. -/
def kPS (a8 : Vec F S64x1x4096 .f32) : Vec F S1x4096 .f32 := k0_pay9 a8
/-- The keys carried back through the first projection. -/
def kKP (a2 : Vec F S256x4096 .f32) (a4 : Vec F S768x256 .f32) (a7 : Vec F S64x3x768 .f32) : Vec F S4096x64 .f32 := k0_pay1 (View.ld a7 R0.r0_0) a4 a2
/-- The part of the first scores that the signals do not enter. -/
def kBias (a2 : Vec F S256x4096 .f32) (a3 : Vec F S4096 .f32) (a4 : Vec F S768x256 .f32) (a7 : Vec F S64x3x768 .f32) : Vec F S1x64 .f32 :=
  k0_pay2 (View.ld a7 R0.r0_0) a4 a2 (shapeCast S1x4096 a3 shapeCasts_S4096_S1x4096)
/-- The keys carried back through the second projection and the transform. -/
def kFT (a5 : Vec F S768x2049 .f32) (a7 : Vec F S64x3x768 .f32) : Vec F S4096x64 .f32 := R1.kft (R1.freq a7 a5)
/-- The keys carried back through the third projection and the wavelet transform. -/
def kWT (a6 : Vec F S768x4096 .f32) (a7 : Vec F S64x3x768 .f32) : Vec F S4096x64 .f32 :=
  k0_pay8 (k0_pay3 (View.ld a7 R0.r0_1) a6) (k0_pay4 (View.ld a7 R0.r0_1) a6) (k0_pay5 (View.ld a7 R0.r0_1) a6) (k0_pay6 (View.ld a7 R0.r0_1) a6) (k0_pay7 (F := F))

variable (a0 : Vec F S1024x1x4096 .f32) (a2 : Vec F S256x4096 .f32) (a3 : Vec F S4096 .f32) (a4 : Vec F S768x256 .f32)
  (a5 : Vec F S768x2049 .f32) (a6 : Vec F S768x4096 .f32) (a7 : Vec F S64x3x768 .f32) (a8 : Vec F S64x1x4096 .f32) (a9 : Vec F S1024x3x64 .f32)

/-- The first result. -/
def kOut : Vec F S1024x1x4096 .f32 := R2.outArr a0 (kPS a8)
/-- The second result. -/
def kSim : Vec F S_ .f32 :=
  fun _ => k2_pay4 (R2.simAcc a0 (kKP a2 a4 a7) (kFT a5 a7) (kWT a6 a7) (kBias a2 a3 a4 a7) a9 16)
/-- The third result. -/
def kEnt : Vec F S_ .f32 :=
  fun _ => k2_pay5 (R2.entAcc a0 (kKP a2 a4 a7) (kFT a5 a7) (kWT a6 a7) (kBias a2 a3 a4 a7) a9 16)

variable (m : (ℓ : Loc nD τ sig) → Buf (Elt F) ℓ) (ρ : Dev nD → PrngReg) (c : Dev nD)

/-- An argument is as launched when the first call starts. -/
theorem w1_keep (r : Ref sig .tc) (h : r ∉ hostOps0_W) : W1 m c r = m ((c.tc : Thread nD τ).loc r) :=
  StableHlo.after_of_writes_sub hostOps0 _ hostOps0_writes h
/-- So it is after the first call. -/
theorem w2_keep (r : Ref sig .tc) (h : r ∉ hostOps0_W) (a0 : ∀ w, Pipeline.arrRef spec0 w = r → (cfg0.win w).isOut = false) :
    W2 m c r = m ((c.tc : Thread nD τ).loc r) :=
  (Pipeline.afterRegion_keeps (d0 m c) (W1 m c) launch0.win.arr_inj (fun w => R0.A_eq (fun c b => W1 m c b) c w) r a0).trans (w1_keep m c r h)
/-- A buffer the second call does not write is after it as before it. -/
theorem w3_w2 (r : Ref sig .tc) (a1 : ∀ w, Pipeline.arrRef spec1 w = r → (cfg1.win w).isOut = false) : W3 m c r = W2 m c r :=
  Pipeline.afterRegion_keeps (d1 m c) (W2 m c) launch1.win.arr_inj (fun w => R1.A_eq (fun c b => W2 m c b) c w) r a1

/-- The means as one row. -/
theorem w1_v0 : W1 m c main_v0 = shapeCast S1x4096 (m ((c.tc : Thread nD τ).loc main_arg3)) shapeCasts_S4096_S1x4096 := by
  unfold W1 W0; dsimp only [hostOps0]; after_results; rfl

/-- What the first call leaves here. -/
theorem w2_kp : W2 m c main_call0_v0_0 = kKP (m ((c.tc : Thread nD τ).loc main_arg2)) (m ((c.tc : Thread nD τ).loc main_arg4)) (m ((c.tc : Thread nD τ).loc main_arg7)) := by
  refine (Pipeline.afterRegion_arr (d0 m c) (W1 m c) launch0.win.arr_inj 6).trans ?_
  refine (R0.final6 (fun c b => W1 m c b) c).trans ?_
  rw [R0.out6_eq]
  have e2 : W1 m c main_arg2 = _ := w1_keep m c main_arg2 (by decide)
  have e4 : W1 m c main_arg4 = _ := w1_keep m c main_arg4 (by decide)
  have e7 : W1 m c main_arg7 = _ := w1_keep m c main_arg7 (by decide)
  show k0_pay1 (View.ld (W1 m c main_arg7) R0.r0_0) (W1 m c main_arg4) (W1 m c main_arg2) = _
  rw [e2, e4, e7]; rfl

/-- What the first call leaves here. -/
theorem w2_wt : W2 m c main_call0_v0_1 = kWT (m ((c.tc : Thread nD τ).loc main_arg6)) (m ((c.tc : Thread nD τ).loc main_arg7)) := by
  refine (Pipeline.afterRegion_arr (d0 m c) (W1 m c) launch0.win.arr_inj 7).trans ?_
  refine (R0.final7 (fun c b => W1 m c b) c).trans ?_
  rw [R0.out7_eq]
  have e6 : W1 m c main_arg6 = _ := w1_keep m c main_arg6 (by decide)
  have e7 : W1 m c main_arg7 = _ := w1_keep m c main_arg7 (by decide)
  show k0_pay8 (k0_pay3 (View.ld (W1 m c main_arg7) R0.r0_1) (W1 m c main_arg6)) (k0_pay4 (View.ld (W1 m c main_arg7) R0.r0_1) (W1 m c main_arg6)) (k0_pay5 (View.ld (W1 m c main_arg7) R0.r0_1) (W1 m c main_arg6)) (k0_pay6 (View.ld (W1 m c main_arg7) R0.r0_1) (W1 m c main_arg6)) (k0_pay7 (F := F)) = _
  rw [e6, e7]; rfl

/-- What the first call leaves here. -/
theorem w2_bias : W2 m c main_call0_v0_2 = kBias (m ((c.tc : Thread nD τ).loc main_arg2)) (m ((c.tc : Thread nD τ).loc main_arg3)) (m ((c.tc : Thread nD τ).loc main_arg4)) (m ((c.tc : Thread nD τ).loc main_arg7)) := by
  refine (Pipeline.afterRegion_arr (d0 m c) (W1 m c) launch0.win.arr_inj 8).trans ?_
  refine (R0.final8 (fun c b => W1 m c b) c).trans ?_
  rw [R0.out8_eq]
  have e2 : W1 m c main_arg2 = _ := w1_keep m c main_arg2 (by decide)
  have e3 : W1 m c main_v0 = _ := w1_v0 m c
  have e4 : W1 m c main_arg4 = _ := w1_keep m c main_arg4 (by decide)
  have e7 : W1 m c main_arg7 = _ := w1_keep m c main_arg7 (by decide)
  show k0_pay2 (View.ld (W1 m c main_arg7) R0.r0_0) (W1 m c main_arg4) (W1 m c main_arg2) (W1 m c main_v0) = _
  rw [e2, e3, e4, e7]; rfl

/-- What the first call leaves here. -/
theorem w2_ps : W2 m c main_call0_v0_3 = kPS (m ((c.tc : Thread nD τ).loc main_arg8)) := by
  refine (Pipeline.afterRegion_arr (d0 m c) (W1 m c) launch0.win.arr_inj 9).trans ?_
  refine (R0.final9 (fun c b => W1 m c b) c).trans ?_
  rw [R0.out9_eq]
  have e8 : W1 m c main_arg8 = _ := w1_keep m c main_arg8 (by decide)
  show k0_pay9 (W1 m c main_arg8) = _
  rw [e8]; rfl

/-- What the second call leaves. -/
theorem w3_ft : W3 m c main_call0_v1 = kFT (m ((c.tc : Thread nD τ).loc main_arg5)) (m ((c.tc : Thread nD τ).loc main_arg7)) := by
  refine (Pipeline.afterRegion_arr (d1 m c) (W2 m c) launch1.win.arr_inj 2).trans ?_
  refine (R1.final2 (fun c b => W2 m c b) c).trans ?_
  have e5 : W2 m c main_arg5 = _ := w2_keep m c main_arg5 (by decide) (by decide)
  have e7 : W2 m c main_arg7 = _ := w2_keep m c main_arg7 (by decide) (by decide)
  show R1.kft (R1.freq (W2 m c main_arg7) (W2 m c main_arg5)) = _
  rw [e5, e7]; rfl

/-- The first result's buffer at the end. -/
theorem w5_out : W5 m c main_v1_0 = kOut (m ((c.tc : Thread nD τ).loc main_arg0)) (m ((c.tc : Thread nD τ).loc main_arg8)) := by
  refine (StableHlo.after_of_writes_sub hostOps3 _ hostOps3_writes (by decide)).trans ?_
  refine (Pipeline.afterRegion_arr (d2 m c) (W3 m c) launch2.win.arr_inj 7).trans ?_
  refine (R2.final7 (fun c b => W3 m c b) c).trans ?_
  have e0 : W3 m c main_arg0 = _ := (w3_w2 m c main_arg0 (by decide)).trans (w2_keep m c main_arg0 (by decide) (by decide))
  have e5 : W3 m c main_call0_v0_3 = _ := (w3_w2 m c main_call0_v0_3 (by decide)).trans (w2_ps m c)
  show R2.outArr (W3 m c main_arg0) (W3 m c main_call0_v0_3) = _
  rw [e0, e5]; rfl

/-- What the third call leaves in its output 8. -/
theorem w4_sim : W4 m c main_v1_1 = (fun y => kSim (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (fun a => a.elim0) : Vec F S1x1 .f32) := by
  refine (Pipeline.afterRegion_arr (d2 m c) (W3 m c) launch2.win.arr_inj 8).trans ?_
  refine (R2.final8 (fun c b => W3 m c b) c).trans ?_
  have e0 : W3 m c main_arg0 = _ := (w3_w2 m c main_arg0 (by decide)).trans (w2_keep m c main_arg0 (by decide) (by decide))
  have e1 : W3 m c main_call0_v0_0 = _ := (w3_w2 m c main_call0_v0_0 (by decide)).trans (w2_kp m c)
  have e2 : W3 m c main_call0_v1 = _ := w3_ft m c
  have e3 : W3 m c main_call0_v0_1 = _ := (w3_w2 m c main_call0_v0_1 (by decide)).trans (w2_wt m c)
  have e4 : W3 m c main_call0_v0_2 = _ := (w3_w2 m c main_call0_v0_2 (by decide)).trans (w2_bias m c)
  have e6 : W3 m c main_arg9 = _ := (w3_w2 m c main_arg9 (by decide)).trans (w2_keep m c main_arg9 (by decide) (by decide))
  show (fun _ => k2_pay4 (R2.simAcc (W3 m c main_arg0) (W3 m c main_call0_v0_0) (W3 m c main_call0_v1) (W3 m c main_call0_v0_1) (W3 m c main_call0_v0_2) (W3 m c main_arg9) 16) : Vec F S1x1 .f32) = _
  rw [e0, e1, e2, e3, e4, e6]; rfl

/-- The result at the end. -/
theorem w5_sim : W5 m c main_v2 = kSim (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) := by
  have h : W5 m c main_v2 = shapeCast S_ (W4 m c main_v1_1) shapeCasts_S1x1_S_ := by
    unfold W5; dsimp only [hostOps3]; after_results; rfl
  rw [h, w4_sim]; rfl

/-- What the third call leaves in its output 9. -/
theorem w4_ent : W4 m c main_v1_2 = (fun y => kEnt (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (fun a => a.elim0) : Vec F S1x1 .f32) := by
  refine (Pipeline.afterRegion_arr (d2 m c) (W3 m c) launch2.win.arr_inj 9).trans ?_
  refine (R2.final9 (fun c b => W3 m c b) c).trans ?_
  have e0 : W3 m c main_arg0 = _ := (w3_w2 m c main_arg0 (by decide)).trans (w2_keep m c main_arg0 (by decide) (by decide))
  have e1 : W3 m c main_call0_v0_0 = _ := (w3_w2 m c main_call0_v0_0 (by decide)).trans (w2_kp m c)
  have e2 : W3 m c main_call0_v1 = _ := w3_ft m c
  have e3 : W3 m c main_call0_v0_1 = _ := (w3_w2 m c main_call0_v0_1 (by decide)).trans (w2_wt m c)
  have e4 : W3 m c main_call0_v0_2 = _ := (w3_w2 m c main_call0_v0_2 (by decide)).trans (w2_bias m c)
  have e6 : W3 m c main_arg9 = _ := (w3_w2 m c main_arg9 (by decide)).trans (w2_keep m c main_arg9 (by decide) (by decide))
  show (fun _ => k2_pay5 (R2.entAcc (W3 m c main_arg0) (W3 m c main_call0_v0_0) (W3 m c main_call0_v1) (W3 m c main_call0_v0_1) (W3 m c main_call0_v0_2) (W3 m c main_arg9) 16) : Vec F S1x1 .f32) = _
  rw [e0, e1, e2, e3, e4, e6]; rfl

/-- The result at the end. -/
theorem w5_ent : W5 m c main_v3 = kEnt (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) := by
  have h : W5 m c main_v3 = shapeCast S_ (W4 m c main_v1_2) shapeCasts_S1x1_S_ := by
    unfold W5; dsimp only [hostOps3]; after_results; rfl
  rw [h, w4_ent]; rfl

/-- The kernel's run with its three results and its arguments unchanged. -/
theorem run_values : θ_run defs (onTc (τ := τ) (main (F := F))) ⟨m, fun _ => 0, ρ⟩ (fun r => (∀ c : Dev nD,
      r.2.mem ((c.tc : Thread nD τ).loc main_v1_0) = kOut (m ((c.tc : Thread nD τ).loc main_arg0)) (m ((c.tc : Thread nD τ).loc main_arg8))
      ∧ r.2.mem ((c.tc : Thread nD τ).loc main_v2) = kSim (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9))
      ∧ r.2.mem ((c.tc : Thread nD τ).loc main_v3) = kEnt (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))) :=
  θ_run_mono (frame_run m ρ) (fun r h c => ⟨(h.2 c main_v1_0 rfl).trans (w5_out m c), (h.2 c main_v2 rfl).trans (w5_sim m c), (h.2 c main_v3 rfl).trans (w5_ent m c), h.1.1 c⟩)

end Cert.KernelIdeal.Values

end
-- ==== Proof.Math.KerScores.lean ====
/-
  The kernel's keys carried back, and its scores, of finite arguments.
-/
module

public import proofs.«01_k».proof.Proof.KernelIdeal.Values
public import proofs.«01_k».proof.Proof.Math.Data

@[expose] public section

set_option maxRecDepth 16384

noncomputable section

namespace Cert.KernelIdeal.Scores

open Idealize.ShloMosaic
open Cert.KernelIdeal Cert.KernelIdeal.Gen Cert.KernelIdeal.Values Cert.Math

variable {D : Data} {a0 : FVec Ideal S1024x1x4096 .f32} {a2 : FVec Ideal S256x4096 .f32} {a3 : FVec Ideal S4096 .f32} {a4 : FVec Ideal S768x256 .f32}
  {a5 : FVec Ideal S768x2049 .f32} {a6 : FVec Ideal S768x4096 .f32} {a7 : FVec Ideal S64x3x768 .f32} (h : Finite D a0 a2 a3 a4 a5 a6 a7)
include h

/-- The keys carried back through the first projection, as reals. -/
theorem kKP_at (t : Fin 4096) (n : Fin 64) : (kKP (F := Ideal) a2 a4 a7 : FVec Ideal S4096x64 .f32) (ix2 t n)
    = ((∑ p : Fin 256, D.A p t * ∑ e : Fin 768, D.K n 0 e * D.Wp e p : ℝ) : EReal) := by
  pointwise [kKP, k0_pay1, R0.r0_0]
  simp only [coe_sum, EReal.coe_mul]
  exact Finset.sum_congr rfl fun p _ => congrArg₂ (· * ·) (h.h2 p t) (Finset.sum_congr rfl fun e _ => congrArg₂ (· * ·) (h.h7 n 0 e) (h.h4 e p))

/-- The part of the first scores that the signals do not enter, as reals. -/
theorem kBias_at (o : Fin 1) (n : Fin 64) : (kBias (F := Ideal) a2 a3 a4 a7 : FVec Ideal S1x64 .f32) (ix2 o n)
    = ((0 - ∑ t : Fin 4096, D.U t * ∑ p : Fin 256, D.A p t * ∑ e : Fin 768, D.K n 0 e * D.Wp e p : ℝ) : EReal) := by
  have hk := kKP_at h
  unfold kKP at hk
  unfold kBias k0_pay2
  generalize k0_pay1 (F := Ideal) _ _ _ = y at *
  pointwise
  rw [EReal.coe_sub, coe_sum]
  exact congrArg (0 - ·) (Finset.sum_congr rfl fun t _ => (congrArg₂ (· * ·) (h.h3 t) (hk t n)).trans (EReal.coe_mul _ _).symm)

/-- The third keys through their projection, as reals. -/
theorem krt_at (j : Fin 4096) (n : Fin 64) : (k0_pay3 (F := Ideal) (View.ld a7 R0.r0_1) a6 : FVec Ideal S4096x64 .f32) (ix2 j n)
    = ((∑ e : Fin 768, D.K n 2 e * D.Ww e j : ℝ) : EReal) := by
  pointwise [k0_pay3, R0.r0_1]
  simp only [coe_sum, EReal.coe_mul]
  exact Finset.sum_congr rfl fun e _ => (congrArg₂ (· * ·) (h.h6 e j) (h.h7 n 2 e)).trans (mul_comm _ _)

/-- The second keys through their projection, as reals. -/
theorem freq_at (n : Fin 64) (j : Fin 2049) : (R1.freq (F := Ideal) a7 a5 : FVec Ideal S64x2049 .f32) (ix2 n j)
    = ((∑ e : Fin 768, D.K n 1 e * D.Wf e j : ℝ) : EReal) := by
  pointwise [R1.freq, k1_pay2]
  simp only [coe_sum, EReal.coe_mul]
  exact Finset.sum_congr rfl fun e _ => congrArg₂ (· * ·) (h.h7 n 1 e) (h.h5 e j)
omit h

/-- One entry of one level of the transposed transform. -/
theorem syn_pick {m : ℕ} (t : ℕ) (ht : t / 2 < m) (a d : Fin m → EReal) (x y : ℕ → ℝ) (ha : ∀ i : Fin m, a i = ((x i : ℝ) : EReal)) (hd : ∀ i : Fin m, d i = ((y i : ℝ) : EReal)) :
    (if h : t % 2 < 1 then (a ⟨t / 2, ht⟩ - d ⟨t / 2, ht⟩) * Ideal.ofBits .f32 0x3F3504F3#32 else (a ⟨t / 2, ht⟩ + d ⟨t / 2, ht⟩) * Ideal.ofBits .f32 0x3F3504F3#32)
      = ((syn sH x y t : ℝ) : EReal) := by
  unfold syn
  by_cases c : t % 2 < 1
  · rw [dif_pos c, if_pos (by omega), ha, hd, c_sH, ← EReal.coe_sub, ← EReal.coe_mul]
  · rw [dif_neg c, if_neg (by omega), ha, hd, c_sH, ← EReal.coe_add, ← EReal.coe_mul]

/-- The position that a point's words stand for. -/
theorem pos_word (i r t : ℕ) (h : t = i * 512 + r) : IntOp.addi (Scalar.muli (BitVec.ofNat 32 i) 512#32) (BitVec.ofNat 32 r) = BitVec.ofNat 32 t := by
  subst h
  show BitVec.ofNat 32 i * BitVec.ofNat 32 512 + BitVec.ofNat 32 r = _
  rw [← BitVec.ofNat_mul, ← BitVec.ofNat_add]
/-- A product of words cut to a power of two. -/
theorem cut_word (a t k : ℕ) (hk : k ≤ 31) : IntOp.andi (IntOp.muli (BitVec.ofNat 32 a) (BitVec.ofNat 32 t)) (BitVec.ofNat 32 (2 ^ k - 1)) = BitVec.ofNat 32 (a * t % 2 ^ k) := by
  show BitVec.ofNat 32 a * BitVec.ofNat 32 t &&& BitVec.ofNat 32 (2 ^ k - 1) = _
  rw [← BitVec.ofNat_mul]
  have h32 : 2 ^ k ∣ 2 ^ 32 := Nat.pow_dvd_pow 2 (by omega)
  have hp : 2 ^ k ≤ 2 ^ 31 := Nat.pow_le_pow_right (by norm_num) hk
  apply BitVec.eq_of_toNat_eq
  rw [BitVec.toNat_and, BitVec.toNat_ofNat, BitVec.toNat_ofNat, BitVec.toNat_ofNat, Nat.mod_eq_of_lt (a := 2 ^ k - 1) (by omega), Nat.and_two_pow_sub_one_eq_mod,
    Nat.mod_mod_of_dvd _ h32, Nat.mod_eq_of_lt (a := a * t % 2 ^ k) (lt_of_lt_of_le (Nat.mod_lt _ (by positivity)) (by omega))]
theorem cut63 (a t : ℕ) : IntOp.andi (IntOp.muli (BitVec.ofNat 32 a) (BitVec.ofNat 32 t)) 63#32 = BitVec.ofNat 32 (a * t % 64) := cut_word a t 6 (by norm_num)
theorem cut4095 (a t : ℕ) : IntOp.andi (IntOp.muli (BitVec.ofNat 32 a) (BitVec.ofNat 32 t)) 4095#32 = BitVec.ofNat 32 (a * t % 4096) := cut_word a t 12 (by norm_num)
/-- The sign of a position at the highest frequency. -/
theorem sign_word (t : ℕ) : FloatOps.sitofp (F := Ideal) .f32 (IntOp.subi (1#32) (IntOp.muli (2#32) (IntOp.andi (BitVec.ofNat 32 t) 1#32))) = ((1 - 2 * ((t % 2 : ℕ) : ℝ) : ℝ) : EReal) := by
  have h : IntOp.andi (BitVec.ofNat 32 t) 1#32 = BitVec.ofNat 32 (t % 2) := by
    have := cut_word 1 t 1 (by norm_num)
    rw [one_mul, pow_one] at this
    rw [← this]
    show _ = 1#32 * BitVec.ofNat 32 t &&& 1#32
    rw [BitVec.one_mul]; rfl
  rw [h]
  rcases Nat.mod_two_eq_zero_or_one t with e | e <;> rw [e]
  · show (((1#32 - 2#32 * BitVec.ofNat 32 0 : BitVec 32).toInt : ℝ) : EReal) = _
    rw [show (1#32 - 2#32 * BitVec.ofNat 32 0 : BitVec 32).toInt = 1 by decide]; norm_num
  · show (((1#32 - 2#32 * BitVec.ofNat 32 1 : BitVec 32).toInt : ℝ) : EReal) = _
    rw [show (1#32 - 2#32 * BitVec.ofNat 32 1 : BitVec 32).toInt = -1 by decide]; norm_num

/-- One level of the transposed transform. -/
def lev128 (a d : FVec Ideal S128x64 .f32) : FVec Ideal S256x64 .f32 :=
  shapeCast S256x64 (concatenate S128x2x64 1 [⟨S128x1x64, shapeCast S128x1x64 (mulf (subf a d) (broadcast S128x64 (Scalar.ofBits (F := Ideal) .f32 0x3F3504F3#32))) shapeCasts_S128x64_S128x1x64⟩,
    ⟨S128x1x64, shapeCast S128x1x64 (mulf (addf a d) (broadcast S128x64 (Scalar.ofBits (F := Ideal) .f32 0x3F3504F3#32))) shapeCasts_S128x64_S128x1x64⟩] concatenates_S128x1x64_S128x1x64_S128x2x64_d1) shapeCasts_S128x2x64_S256x64
theorem lev128_at (a d : FVec Ideal S128x64 .f32) (n : Fin 64) (x y : ℕ → ℝ) (ha : ∀ i : Fin 128, a (ix2 i n) = ((x i : ℝ) : EReal)) (hd : ∀ i : Fin 128, d (ix2 i n) = ((y i : ℝ) : EReal))
    (t : Fin 256) : lev128 a d (ix2 t n) = ((syn sH x y t : ℝ) : EReal) := by
  pointwise [lev128]
  exact syn_pick t (by omega) (fun i => a (ix2 i n)) (fun i => d (ix2 i n)) x y ha hd

/-- One level of the transposed transform. -/
def lev256 (a d : FVec Ideal S256x64 .f32) : FVec Ideal S512x64 .f32 :=
  shapeCast S512x64 (concatenate S256x2x64 1 [⟨S256x1x64, shapeCast S256x1x64 (mulf (subf a d) (broadcast S256x64 (Scalar.ofBits (F := Ideal) .f32 0x3F3504F3#32))) shapeCasts_S256x64_S256x1x64⟩,
    ⟨S256x1x64, shapeCast S256x1x64 (mulf (addf a d) (broadcast S256x64 (Scalar.ofBits (F := Ideal) .f32 0x3F3504F3#32))) shapeCasts_S256x64_S256x1x64⟩] concatenates_S256x1x64_S256x1x64_S256x2x64_d1) shapeCasts_S256x2x64_S512x64
theorem lev256_at (a d : FVec Ideal S256x64 .f32) (n : Fin 64) (x y : ℕ → ℝ) (ha : ∀ i : Fin 256, a (ix2 i n) = ((x i : ℝ) : EReal)) (hd : ∀ i : Fin 256, d (ix2 i n) = ((y i : ℝ) : EReal))
    (t : Fin 512) : lev256 a d (ix2 t n) = ((syn sH x y t : ℝ) : EReal) := by
  pointwise [lev256]
  exact syn_pick t (by omega) (fun i => a (ix2 i n)) (fun i => d (ix2 i n)) x y ha hd

/-- One level of the transposed transform. -/
def lev512 (a d : FVec Ideal S512x64 .f32) : FVec Ideal S1024x64 .f32 :=
  shapeCast S1024x64 (concatenate S512x2x64 1 [⟨S512x1x64, shapeCast S512x1x64 (mulf (subf a d) (broadcast S512x64 (Scalar.ofBits (F := Ideal) .f32 0x3F3504F3#32))) shapeCasts_S512x64_S512x1x64⟩,
    ⟨S512x1x64, shapeCast S512x1x64 (mulf (addf a d) (broadcast S512x64 (Scalar.ofBits (F := Ideal) .f32 0x3F3504F3#32))) shapeCasts_S512x64_S512x1x64⟩] concatenates_S512x1x64_S512x1x64_S512x2x64_d1) shapeCasts_S512x2x64_S1024x64
theorem lev512_at (a d : FVec Ideal S512x64 .f32) (n : Fin 64) (x y : ℕ → ℝ) (ha : ∀ i : Fin 512, a (ix2 i n) = ((x i : ℝ) : EReal)) (hd : ∀ i : Fin 512, d (ix2 i n) = ((y i : ℝ) : EReal))
    (t : Fin 1024) : lev512 a d (ix2 t n) = ((syn sH x y t : ℝ) : EReal) := by
  pointwise [lev512]
  exact syn_pick t (by omega) (fun i => a (ix2 i n)) (fun i => d (ix2 i n)) x y ha hd

/-- One level of the transposed transform. -/
def lev1024 (a d : FVec Ideal S1024x64 .f32) : FVec Ideal S2048x64 .f32 :=
  shapeCast S2048x64 (concatenate S1024x2x64 1 [⟨S1024x1x64, shapeCast S1024x1x64 (mulf (subf a d) (broadcast S1024x64 (Scalar.ofBits (F := Ideal) .f32 0x3F3504F3#32))) shapeCasts_S1024x64_S1024x1x64⟩,
    ⟨S1024x1x64, shapeCast S1024x1x64 (mulf (addf a d) (broadcast S1024x64 (Scalar.ofBits (F := Ideal) .f32 0x3F3504F3#32))) shapeCasts_S1024x64_S1024x1x64⟩] concatenates_S1024x1x64_S1024x1x64_S1024x2x64_d1) shapeCasts_S1024x2x64_S2048x64
theorem lev1024_at (a d : FVec Ideal S1024x64 .f32) (n : Fin 64) (x y : ℕ → ℝ) (ha : ∀ i : Fin 1024, a (ix2 i n) = ((x i : ℝ) : EReal)) (hd : ∀ i : Fin 1024, d (ix2 i n) = ((y i : ℝ) : EReal))
    (t : Fin 2048) : lev1024 a d (ix2 t n) = ((syn sH x y t : ℝ) : EReal) := by
  pointwise [lev1024]
  exact syn_pick t (by omega) (fun i => a (ix2 i n)) (fun i => d (ix2 i n)) x y ha hd

/-- One level of the transposed transform. -/
def lev2048 (a d : FVec Ideal S2048x64 .f32) : FVec Ideal S4096x64 .f32 :=
  shapeCast S4096x64 (concatenate S2048x2x64 1 [⟨S2048x1x64, shapeCast S2048x1x64 (mulf (subf a d) (broadcast S2048x64 (Scalar.ofBits (F := Ideal) .f32 0x3F3504F3#32))) shapeCasts_S2048x64_S2048x1x64⟩,
    ⟨S2048x1x64, shapeCast S2048x1x64 (mulf (addf a d) (broadcast S2048x64 (Scalar.ofBits (F := Ideal) .f32 0x3F3504F3#32))) shapeCasts_S2048x64_S2048x1x64⟩] concatenates_S2048x1x64_S2048x1x64_S2048x2x64_d1) shapeCasts_S2048x2x64_S4096x64
theorem lev2048_at (a d : FVec Ideal S2048x64 .f32) (n : Fin 64) (x y : ℕ → ℝ) (ha : ∀ i : Fin 2048, a (ix2 i n) = ((x i : ℝ) : EReal)) (hd : ∀ i : Fin 2048, d (ix2 i n) = ((y i : ℝ) : EReal))
    (t : Fin 4096) : lev2048 a d (ix2 t n) = ((syn sH x y t : ℝ) : EReal) := by
  pointwise [lev2048]
  exact syn_pick t (by omega) (fun i => a (ix2 i n)) (fun i => d (ix2 i n)) x y ha hd

include h
/-- The third keys carried back, as reals. -/
theorem kWT_at (t : Fin 4096) (n : Fin 64) : (kWT (F := Ideal) a6 a7 : FVec Ideal S4096x64 .f32) (ix2 t n)
    = ((wsyn sH (fun j => ∑ e : Fin 768, D.K n 2 e * D.Ww e j) t : ℝ) : EReal) := by
  have hk := fun j => krt_at h j n
  show (lev2048 (lev1024 (lev512 (lev256 (lev128
      (extractStridedSlice S128x64 ![0, 0] (k0_pay3 (View.ld a7 R0.r0_1) a6) slices_S4096x64_o0_0_S128x64) (extractStridedSlice S128x64 ![128, 0] (k0_pay3 (View.ld a7 R0.r0_1) a6) slices_S4096x64_o128_0_S128x64))
      (extractStridedSlice S256x64 ![256, 0] (k0_pay3 (View.ld a7 R0.r0_1) a6) slices_S4096x64_o256_0_S256x64))
      (extractStridedSlice S512x64 ![512, 0] (k0_pay3 (View.ld a7 R0.r0_1) a6) slices_S4096x64_o512_0_S512x64))
      (extractStridedSlice S1024x64 ![1024, 0] (k0_pay3 (View.ld a7 R0.r0_1) a6) slices_S4096x64_o1024_0_S1024x64))
      (extractStridedSlice S2048x64 ![2048, 0] (k0_pay3 (View.ld a7 R0.r0_1) a6) slices_S4096x64_o2048_0_S2048x64)) (ix2 t n) = _
  generalize k0_pay3 (F := Ideal) (View.ld a7 R0.r0_1) a6 = y at *
  unfold wsyn
  refine lev2048_at _ _ n _ _ (lev1024_at _ _ n _ _ (lev512_at _ _ n _ _ (lev256_at _ _ n _ _ (lev128_at _ _ n _ _ ?_ ?_) ?_) ?_) ?_) ?_ t <;> intro i <;> pointwise <;> exact hk _

/-- The second keys carried back, as reals. -/
theorem kFT_at (t : Fin 4096) (n : Fin 64) : (kFT (F := Ideal) a5 a7 : FVec Ideal S4096x64 .f32) (ix2 t n)
    = ((∑ j : Fin 2049, Real.cos ((((t : ℕ) * (j : ℕ) : ℕ) : ℝ) * (Real.pi * 2048⁻¹)) * ∑ e : Fin 768, D.K n 1 e * D.Wf e j : ℝ) : EReal) := by
  have hf := fun j => freq_at h n j
  unfold kFT
  generalize R1.freq (F := Ideal) a7 a5 = y at *
  unfold R1.kft
  have ht8 : (t : ℕ) / 512 < 8 := by omega
  have hc : (grid1.coords ⟨(t : ℕ) / 512, ht8⟩ 0).val = (t : ℕ) / 512 := (by decide : ∀ k : Fin 8, (grid1.coords k 0).val = k.val) ⟨(t : ℕ) / 512, ht8⟩
  show R1.blk (grid1.coords ⟨(t : ℕ) / 512, ht8⟩) y (ix2 ⟨(t : ℕ) % 512, Nat.mod_lt _ (by norm_num)⟩ n) = _
  generalize grid1.coords ⟨(t : ℕ) / 512, ht8⟩ = i at *
  generalize hr : (⟨(t : ℕ) % 512, Nat.mod_lt _ (by norm_num)⟩ : Fin 512) = r
  have hr0 : (r : ℕ) = (t : ℕ) % 512 := by subst hr; rfl
  have hw := pos_word (i 0).val r t (by omega)
  unfold R1.blk k1_pay1 k1_pay3 k1_pay4
  pointwise
  have hw' : IntOp.addi (BitVec.ofNat 32 (r : ℕ)) (Scalar.muli (BitVec.ofNat 32 (i 0).val) 512#32) = BitVec.ofNat 32 (t : ℕ) := (BitVec.add_comm _ _).trans hw
  rw [Fin.sum_univ_castSucc (n := 2048), EReal.coe_add]
  refine congrArg₂ (· + ·) ?_ ?_
  · rw [coe_sum]
    refine Finset.sum_congr rfl fun j _ => ?_
    rw [EReal.coe_mul]
    refine congrArg₂ (· * ·) ?_ (hf ⟨j, by omega⟩)
    rw [hw, cut63, cut4095, sitofp_ofNat _ (lt_of_lt_of_le (Nat.mod_lt _ (by norm_num)) (by norm_num)),
      sitofp_ofNat _ (lt_of_lt_of_le (Nat.mod_lt _ (by norm_num)) (by norm_num)), n_64, n_n]
    simp only [← EReal.coe_mul, Ideal.cos_coe, Ideal.sin_coe, ← EReal.coe_sub]
    refine congrArg _ ((cos_split t (j / 64) (j % 64)).trans ?_)
    rw [show (j : ℕ) / 64 * 64 + (j : ℕ) % 64 = j by omega]; rfl
  · rw [Fin.sum_univ_one, hw', sign_word, EReal.coe_mul]
    exact congrArg₂ (· * ·) (congrArg _ (cos_nyq t).symm) (hf 2048)

omit h
/-- A row of the signal and a key column, scaled. -/
theorem dot_at (x : FVec Ideal S64x1x4096 .f32) (k : FVec Ideal S4096x64 .f32) (r j : Fin 64) (X Y : ℕ → ℝ) (hx : ∀ t : Fin 4096, x (ix3 r 0 t) = ((X t : ℝ) : EReal))
    (hk : ∀ t : Fin 4096, k (ix2 t j) = ((Y t : ℝ) : EReal)) : (k2_pay7 (F := Ideal) x k : FVec Ideal S64x64 .f32) (ix2 r j) = (((∑ t : Fin 4096, X t * Y t) * (Real.sqrt 768)⁻¹ : ℝ) : EReal) := by
  pointwise [k2_pay7, k2_pay6]
  rw [n_inv, EReal.coe_mul, coe_sum]
  exact congrArg (· * _) (Finset.sum_congr rfl fun t _ => (congrArg₂ (· * ·) (hx t) (hk t)).trans (EReal.coe_mul _ _).symm)

/-- The first scores before the noise. -/
def p9 (x : FVec Ideal S64x1x4096 .f32) (k : FVec Ideal S4096x64 .f32) (b : FVec Ideal S1x64 .f32) : FVec Ideal S64x64 .f32 :=
  mulf (addf (matmul dot_S64x4096_S4096x64_S64x64_1_0_0_1_n_n none (k2_pay6 x) (shapeCast S4096x64 k shapeCasts_S4096x64_S4096x64) (constant S64x64 .f32 0x00000000#32))
    (broadcastTo S64x64 (shapeCast S1x64 b shapeCasts_S1x64_S1x64) broadcasts_S1x64_S64x64)) (broadcast S64x64 (Named.named (F := Ideal) κ "inv_sqrt_d" (φ := .f32) 0x3D13CD3A#32))
theorem pay9_eq (x : FVec Ideal S64x1x4096 .f32) (k : FVec Ideal S4096x64 .f32) (b : FVec Ideal S1x64 .f32) (g : FVec Ideal S64x1x64 .f32) :
    k2_pay9 (F := Ideal) x k b g = k2_pay10 (p9 x k b) g := rfl
theorem pay11_eq (v : FVec Ideal S64x64 .f32) (g : FVec Ideal S64x1x64 .f32) : k2_pay11 (F := Ideal) v g = k2_pay10 v g := rfl
theorem pay8_eq (x : FVec Ideal S64x1x4096 .f32) (k : FVec Ideal S4096x64 .f32) : k2_pay8 (F := Ideal) x k = k2_pay7 x k := rfl

/-- The first scores before the noise, as reals. -/
theorem p9_at (x : FVec Ideal S64x1x4096 .f32) (k : FVec Ideal S4096x64 .f32) (b : FVec Ideal S1x64 .f32) (r j : Fin 64) (X Y : ℕ → ℝ) (z : ℝ) (hx : ∀ t : Fin 4096, x (ix3 r 0 t) = ((X t : ℝ) : EReal))
    (hk : ∀ t : Fin 4096, k (ix2 t j) = ((Y t : ℝ) : EReal)) (hb : b (ix2 0 j) = (z : EReal)) :
    p9 x k b (ix2 r j) = (((∑ t : Fin 4096, X t * Y t + z) * (Real.sqrt 768)⁻¹ : ℝ) : EReal) := by
  pointwise [p9, k2_pay6]
  rw [n_inv, EReal.coe_mul, EReal.coe_add, coe_sum]
  exact congrArg (· * _) (congrArg₂ (· + ·) (Finset.sum_congr rfl fun t _ => (congrArg₂ (· * ·) (hx t) (hk t)).trans (EReal.coe_mul _ _).symm) hb)

theorem pblk_at (h0 : ∀ (b : Fin 1024) (o : Fin 1) (t : Fin 4096), a0 (ix3 b o t) = ((D.X b t : ℝ) : EReal)) (m : ℕ) (hm : m < 16) (r : Fin 64) (o : Fin 1) (t : Fin 4096) :
    R2.pblk (F := Ideal) m a0 (ix3 r o t) = ((D.X (m * 64 + r) t : ℝ) : EReal) := by
  refine (h0 ⟨(m * 64 + r) % 1024, Nat.mod_lt _ (by norm_num)⟩ o t).trans ?_
  show ((D.X ((m * 64 + r) % 1024) t : ℝ) : EReal) = _
  rw [Nat.mod_eq_of_lt (by omega)]

include h
/-- The first scores of a block. -/
theorem score0 (m : ℕ) (hm : m < 16) (r j : Fin 64) :
    p9 (R2.pblk (F := Ideal) m a0) (kKP (F := Ideal) a2 a4 a7) (kBias (F := Ideal) a2 a3 a4 a7) (ix2 r j) = ((D.c (m * 64 + r) 0 j : ℝ) : EReal) := by
  refine (p9_at _ _ _ r j (D.X (m * 64 + r)) (fun t => ∑ p : Fin 256, D.A p t * ∑ e : Fin 768, D.K j 0 e * D.Wp e p) _ (fun t => pblk_at h.h0 m hm r 0 t) (fun t => kKP_at h t j) (kBias_at h 0 j)).trans (congrArg _ ?_)
  show _ = D.c0 _ _
  unfold Data.c0
  refine congrArg (· * _) ?_
  rw [triple (fun e : Fin 768 => D.K j 0 e) (fun (e : Fin 768) (p : Fin 256) => D.Wp e p) (fun (p : Fin 256) (t : Fin 4096) => D.A p t) (fun t => D.X (m * 64 + r) t - D.U t)]
  simp only [sub_mul, Finset.sum_sub_distrib]
  ring

/-- The second scores of a block. -/
theorem score1 (m : ℕ) (hm : m < 16) (r j : Fin 64) :
    k2_pay7 (F := Ideal) (R2.pblk m a0) (kFT a5 a7) (ix2 r j) = ((D.c (m * 64 + r) 1 j : ℝ) : EReal) := by
  refine (dot_at _ _ r j (D.X (m * 64 + r)) (fun t => ∑ p : Fin 2049, Real.cos (((t * (p : ℕ) : ℕ) : ℝ) * (Real.pi * 2048⁻¹)) * ∑ e : Fin 768, D.K j 1 e * D.Wf e p) (fun t => pblk_at h.h0 m hm r 0 t) (fun t => kFT_at h t j)).trans (congrArg _ ?_)
  show _ = D.c1 _ _
  unfold Data.c1
  refine congrArg (· * _) ?_
  rw [triple (fun e : Fin 768 => D.K j 1 e) (fun (e : Fin 768) (p : Fin 2049) => D.Wf e p) (fun (p : Fin 2049) (t : Fin 4096) => Real.cos ((((t : ℕ) * (p : ℕ) : ℕ) : ℝ) * (Real.pi * 2048⁻¹))) (fun t => D.X (m * 64 + r) t)]

/-- The third scores of a block. -/
theorem score2 (m : ℕ) (hm : m < 16) (r j : Fin 64) :
    k2_pay7 (F := Ideal) (R2.pblk m a0) (kWT a6 a7) (ix2 r j) = ((D.c (m * 64 + r) 2 j : ℝ) : EReal) := by
  refine (dot_at _ _ r j (D.X (m * 64 + r)) (wsyn sH (fun p => ∑ e : Fin 768, D.K j 2 e * D.Ww e p)) (fun t => pblk_at h.h0 m hm r 0 t) (fun t => kWT_at h t j)).trans (congrArg _ ?_)
  show _ = D.c2 _ _
  unfold Data.c2
  refine congrArg (· * _) ?_
  rw [double (fun e : Fin 768 => D.K j 2 e) (fun (e : Fin 768) (p : Fin 4096) => D.Ww e p) (fun p => wav sH (D.X (m * 64 + r)) p)]
  have hw := wav_adj sH (D.X (m * 64 + r)) (fun p => ∑ e : Fin 768, D.K j 2 e * D.Ww e p)
  rw [Finset.sum_range, Finset.sum_range] at hw
  exact hw.symm

end Cert.KernelIdeal.Scores

end
-- ==== Proof.Math.KerBest.lean ====
module

public import proofs.«01_k».proof.Proof.KernelIdeal.Values
public import proofs.«01_k».proof.Proof.Math.Best

/-! The kernel's branch score: the score at the place of the greatest noisy score. -/

@[expose] public section
set_option maxRecDepth 16384
noncomputable section
open Idealize.ShloMosaic

namespace Cert.KernelIdeal.Scores
open Cert.KernelIdeal Cert.KernelIdeal.Gen Cert.Math

/-- Where the noisy scores of a row have one greatest entry, the kernel's masked maximum is the plain score there. -/
theorem pay10_best (v : FVec Ideal S64x64 .f32) (g : FVec Ideal S64x1x64 .f32) (r : Fin 64) (o : Fin 1)
    (c G : Fin 64 → ℝ) (i : Fin 64) (hv : ∀ j, v (ix2 r j) = ((c j : ℝ) : EReal))
    (hg : ∀ j, g (ix3 r 0 j) = ((G j : ℝ) : EReal)) (h : ∀ j, j ≠ i → c j + G j < c i + G i) :
    k2_pay10 (F := Ideal) v g (ix2 r o) = ((c i : ℝ) : EReal) := by
  pointwise [k2_pay10]
  simp only [c_neg_inf, hv, hg, ← EReal.coe_add]
  have hle : ∀ j, c j + G j ≤ c i + G i := fun j => by
    by_cases e : j = i
    · rw [e]
    · exact (h j e).le
  rw [fold_best (fun x => ((c x + G x : ℝ) : EReal)) i (fun j => EReal.coe_le_coe_iff.mpr (hle j))]
  refine (fold_best _ i (fun j => ?_)).trans (if_pos le_rfl)
  by_cases e : j = i
  · rw [e]
  · refine (le_of_eq (if_neg ?_)).trans bot_le
    rw [EReal.coe_le_coe_iff]; exact not_le.mpr (h j e)

end Cert.KernelIdeal.Scores
end
-- ==== Proof.Math.KerTop.lean ====
module

public import proofs.«01_k».proof.Proof.Math.KerScores
public import proofs.«01_k».proof.Proof.Math.KerBest
public import Idealize.ShloMosaic.Lib.Pointwise.Sums

/-! The three results of the kernel, of finite arguments whose noisy scores have one greatest entry a row. -/

@[expose] public section
set_option maxRecDepth 16384
noncomputable section
open Idealize.ShloMosaic

namespace Cert.KernelIdeal.Scores
open Cert.KernelIdeal Cert.KernelIdeal.Gen Cert.KernelIdeal.Values Cert.Math

/-- The first result: each signal plus the summed prompts. -/
theorem out_at (a0 : FVec Ideal S1024x1x4096 .f32) (a8 : FVec Ideal S64x1x4096 .f32) (b : Fin 1024) (o : Fin 1) (t : Fin 4096) :
    (kOut (F := Ideal) a0 a8 : FVec Ideal S1024x1x4096 .f32) (ix3 b o t) = a0 (ix3 b o t) + ∑ x, a8 (ix3 x 0 t) := by
  obtain rfl : o = 0 := Subsingleton.elim _ _
  show k2_pay3 (F := Ideal) (k2_pay6 (R2.pblk (b.val / 64) a0)) (kPS a8) (ix3 ⟨b.val % 64, Nat.mod_lt _ (by norm_num)⟩ 0 t) = _
  have hb : (b.val / 64 * 64 + b.val % 64) % 1024 = b.val := by have := b.isLt; omega
  have hp : R2.pblk (F := Ideal) (b.val / 64) a0 (ix3 ⟨b.val % 64, Nat.mod_lt _ (by norm_num)⟩ 0 t) = a0 (ix3 b 0 t) := by
    refine congrArg a0 ?_
    funext k
    fin_cases k
    · exact Fin.ext hb
    · rfl
    · rfl
  generalize R2.pblk (F := Ideal) (b.val / 64) a0 = y at hp ⊢
  pointwise [k2_pay3, k2_pay6, kPS, k0_pay9]
  rw [hp]

/-- Entries of the noise of one branch of one block. -/
theorem gblk_at {G : ℕ → ℕ → ℕ → ℝ} {a9 : FVec Ideal S1024x3x64 .f32} (hG : ∀ (b : Fin 1024) (q : Fin 3) (n : Fin 64), a9 (ix3 b q n) = ((G b q n : ℝ) : EReal))
    (m : ℕ) (hm : m < 16) (r : Fin 64) (q : Fin 3) (j : Fin 64) : R2.gblk (F := Ideal) m a9 (ix3 r q j) = ((G (m * 64 + r) q j : ℝ) : EReal) := by
  show a9 (ix3 ⟨(m * 64 + r.val) % 1024, _⟩ q j) = _
  rw [hG]
  have : (m * 64 + r.val) % 1024 = m * 64 + r.val := by have := r.isLt; omega
  show ((G ((m * 64 + r.val) % 1024) q j : ℝ) : EReal) = _
  rw [this]

section
variable {D : Data} {G : ℕ → ℕ → ℕ → ℝ} {s : ℕ → ℕ → Fin 64} {a0 : FVec Ideal S1024x1x4096 .f32} {a2 : FVec Ideal S256x4096 .f32} {a3 : FVec Ideal S4096 .f32} {a4 : FVec Ideal S768x256 .f32}
  {a5 : FVec Ideal S768x2049 .f32} {a6 : FVec Ideal S768x4096 .f32} {a7 : FVec Ideal S64x3x768 .f32} {a9 : FVec Ideal S1024x3x64 .f32}
  (h : Finite D a0 a2 a3 a4 a5 a6 a7) (hG : ∀ (b : Fin 1024) (q : Fin 3) (n : Fin 64), a9 (ix3 b q n) = ((G b q n : ℝ) : EReal))
  (hs : ∀ (b : Fin 1024) (q : Fin 3) (n : Fin 64), n ≠ s b q → D.c b q n + G b q n < D.c b q (s b q) + G b q (s b q))
include h hG hs

/-- The three branch scores of one row of one block. -/
theorem ms_at (m : ℕ) (hm : m < 16) (r : Fin 64) (o : Fin 1) :
    k2_pay10 (F := Ideal) (p9 (R2.pblk (F := Ideal) m a0) (kKP (F := Ideal) a2 a4 a7) (kBias (F := Ideal) a2 a3 a4 a7)) (R2.g0 (R2.gblk (F := Ideal) m a9)) (ix2 r o) = ((D.c (m * 64 + r) 0 (s (m * 64 + r) 0) : ℝ) : EReal)
    ∧ k2_pay10 (F := Ideal) (k2_pay7 (R2.pblk (F := Ideal) m a0) (kFT (F := Ideal) a5 a7)) (R2.g1 (R2.gblk (F := Ideal) m a9)) (ix2 r o) = ((D.c (m * 64 + r) 1 (s (m * 64 + r) 1) : ℝ) : EReal)
    ∧ k2_pay10 (F := Ideal) (k2_pay7 (R2.pblk (F := Ideal) m a0) (kWT (F := Ideal) a6 a7)) (R2.g2 (R2.gblk (F := Ideal) m a9)) (ix2 r o) = ((D.c (m * 64 + r) 2 (s (m * 64 + r) 2) : ℝ) : EReal) := by
  have hb : m * 64 + r.val < 1024 := by have := r.isLt; omega
  have g := gblk_at hG m hm r
  refine ⟨?_, ?_, ?_⟩
  · refine pay10_best _ _ r o (fun j => D.c (m * 64 + r) 0 j) (fun j => G (m * 64 + r) 0 j) _ (score0 h m hm r) (fun j => ?_) (hs ⟨m * 64 + r.val, hb⟩ 0)
    have := g 0 j
    generalize R2.gblk (F := Ideal) m a9 = y at this ⊢
    pointwise [R2.g0, R2.g1, R2.g2]
    exact this
  · refine pay10_best _ _ r o (fun j => D.c (m * 64 + r) 1 j) (fun j => G (m * 64 + r) 1 j) _ (score1 h m hm r) (fun j => ?_) (hs ⟨m * 64 + r.val, hb⟩ 1)
    have := g 1 j
    generalize R2.gblk (F := Ideal) m a9 = y at this ⊢
    pointwise [R2.g0, R2.g1, R2.g2]
    exact this
  · refine pay10_best _ _ r o (fun j => D.c (m * 64 + r) 2 j) (fun j => G (m * 64 + r) 2 j) _ (score2 h m hm r) (fun j => ?_) (hs ⟨m * 64 + r.val, hb⟩ 2)
    have := g 2 j
    generalize R2.gblk (F := Ideal) m a9 = y at this ⊢
    pointwise [R2.g0, R2.g1, R2.g2]
    exact this

/-- One block's addition to the first running sum. -/
theorem simStep_at (m : ℕ) (hm : m < 16) (a : EReal) :
    (R2.simStep (F := Ideal) (R2.pblk (F := Ideal) m a0) (kKP (F := Ideal) a2 a4 a7) (kFT (F := Ideal) a5 a7) (kWT (F := Ideal) a6 a7) (kBias (F := Ideal) a2 a3 a4 a7) (R2.gblk (F := Ideal) m a9) a : EReal)
      = a + ∑ r : Fin 64, ∑ q : Fin 3, ((D.c (m * 64 + r) q (s (m * 64 + r) q) : ℝ) : EReal) := by
  have e := ms_at h hG hs m hm
  unfold R2.simStep
  rw [pay9_eq, pay11_eq, pay8_eq]
  generalize k2_pay10 (F := Ideal) (p9 _ _ _) _ = y0 at e ⊢
  generalize k2_pay10 (F := Ideal) _ (R2.g1 _) = y1 at e ⊢
  generalize k2_pay10 (F := Ideal) _ (R2.g2 _) = y2 at e ⊢
  pointwise [k2_pay1]
  refine congrArg (a + ·) (Finset.sum_congr rfl fun r _ => ?_)
  rw [Fin.sum_univ_one, Fin.sum_univ_three, (e r 0).1, (e r 0).2.1, (e r 0).2.2]
  rfl

/-- One block's addition to the second running sum. -/
theorem entStep_at (m : ℕ) (hm : m < 16) (a : EReal) :
    (R2.entStep (F := Ideal) (R2.pblk (F := Ideal) m a0) (kKP (F := Ideal) a2 a4 a7) (kFT (F := Ideal) a5 a7) (kWT (F := Ideal) a6 a7) (kBias (F := Ideal) a2 a3 a4 a7) (R2.gblk (F := Ideal) m a9) a : EReal)
      = a + ∑ r : Fin 64, -row (fun q : Fin 3 => ((D.c (m * 64 + r) q (s (m * 64 + r) q) : ℝ) : EReal)) := by
  have e := ms_at h hG hs m hm
  have e12 : ∀ r : Fin 64, k2_pay12 (F := Ideal) (k2_pay7 (R2.pblk (F := Ideal) m a0) (kFT (F := Ideal) a5 a7)) (k2_pay8 (R2.pblk (F := Ideal) m a0) (kWT (F := Ideal) a6 a7)) (k2_pay9 (R2.pblk (F := Ideal) m a0) (kKP (F := Ideal) a2 a4 a7) (kBias (F := Ideal) a2 a3 a4 a7) (R2.g0 (R2.gblk (F := Ideal) m a9)))
      (R2.g1 (R2.gblk (F := Ideal) m a9)) (R2.g2 (R2.gblk (F := Ideal) m a9)) (ix2 r 0) = row (fun q : Fin 3 => ((D.c (m * 64 + r) q (s (m * 64 + r) q) : ℝ) : EReal)) := by
    intro r
    unfold k2_pay12
    rw [pay9_eq, pay11_eq, pay8_eq]
    have e' := e r 0
    generalize k2_pay10 (F := Ideal) (p9 _ _ _) _ = y0 at e' ⊢
    generalize k2_pay10 (F := Ideal) _ (R2.g1 _) = y1 at e' ⊢
    generalize k2_pay10 (F := Ideal) _ (R2.g2 _) = y2 at e' ⊢
    pointwise [R2.g0, R2.g1, R2.g2]
    rw [e'.1, e'.2.1, e'.2.2]
    unfold row
    rw [Fin.sum_univ_three]
    rfl
  unfold R2.entStep
  generalize k2_pay12 (F := Ideal) _ _ _ _ _ = y at e12 ⊢
  pointwise [k2_pay2]
  refine congrArg (a + ·) (Finset.sum_congr rfl fun r _ => ?_)
  rw [Fin.sum_univ_one, e12 r, zero_sub]

/-- The second result. -/
theorem sim_at (j : S_.Idx) : (kSim (F := Ideal) a0 a2 a3 a4 a5 a6 a7 a9 : FVec Ideal S_ .f32) j
    = max (1 - Ideal.div (∑ b : Fin 1024, ∑ q : Fin 3, ((D.c b q (s b q) : ℝ) : EReal)) (Ideal.ofBits FTy.f32 1161822208#32)) 0 := by
  have e : R2.simAcc (F := Ideal) a0 (kKP (F := Ideal) a2 a4 a7) (kFT (F := Ideal) a5 a7) (kWT (F := Ideal) a6 a7) (kBias (F := Ideal) a2 a3 a4 a7) a9 16 = (∑ b : Fin 1024, ∑ q : Fin 3, ((D.c b q (s b q) : ℝ) : EReal) : EReal) := by
    rw [Fin.sum_univ_tiles 16 64 rfl]
    exact acc_sum (R2.simAcc (F := Ideal) a0 (kKP (F := Ideal) a2 a4 a7) (kFT (F := Ideal) a5 a7) (kWT (F := Ideal) a6 a7) (kBias (F := Ideal) a2 a3 a4 a7) a9) (fun m => ∑ r : Fin 64, ∑ q : Fin 3, ((D.c (m * 64 + r) q (s (m * 64 + r) q) : ℝ) : EReal)) 16
      (Ideal.ofBits_zero .f32) (fun m hm => simStep_at h hG hs m hm _)
  show (k2_pay4 (F := Ideal) (R2.simAcc (F := Ideal) a0 (kKP (F := Ideal) a2 a4 a7) (kFT (F := Ideal) a5 a7) (kWT (F := Ideal) a6 a7) (kBias (F := Ideal) a2 a3 a4 a7) a9 16) : EReal) = _
  rw [e]
  generalize (∑ b : Fin 1024, ∑ q : Fin 3, ((D.c b q (s b q) : ℝ) : EReal) : EReal) = x
  pointwise [k2_pay4]

/-- The third result. -/
theorem ent_at (j : S_.Idx) : (kEnt (F := Ideal) a0 a2 a3 a4 a5 a6 a7 a9 : FVec Ideal S_ .f32) j
    = -Ideal.div (∑ b : Fin 1024, -row (fun k : Fin 3 => ((D.c b k (s b k) : ℝ) : EReal))) (Ideal.ofBits FTy.f32 1149239296#32) := by
  have e : R2.entAcc (F := Ideal) a0 (kKP (F := Ideal) a2 a4 a7) (kFT (F := Ideal) a5 a7) (kWT (F := Ideal) a6 a7) (kBias (F := Ideal) a2 a3 a4 a7) a9 16 = (∑ b : Fin 1024, -row (fun k : Fin 3 => ((D.c b k (s b k) : ℝ) : EReal)) : EReal) := by
    rw [Fin.sum_univ_tiles 16 64 rfl]
    exact acc_sum (R2.entAcc (F := Ideal) a0 (kKP (F := Ideal) a2 a4 a7) (kFT (F := Ideal) a5 a7) (kWT (F := Ideal) a6 a7) (kBias (F := Ideal) a2 a3 a4 a7) a9) (fun m => ∑ r : Fin 64, -row (fun q : Fin 3 => ((D.c (m * 64 + r) q (s (m * 64 + r) q) : ℝ) : EReal))) 16
      (Ideal.ofBits_zero .f32) (fun m hm => entStep_at h hG hs m hm _)
  show (k2_pay5 (F := Ideal) (R2.entAcc (F := Ideal) a0 (kKP (F := Ideal) a2 a4 a7) (kFT (F := Ideal) a5 a7) (kWT (F := Ideal) a6 a7) (kBias (F := Ideal) a2 a3 a4 a7) a9 16) : EReal) = _
  rw [e]
  generalize (∑ b : Fin 1024, -row (fun k : Fin 3 => ((D.c b k (s b k) : ℝ) : EReal)) : EReal) = x
  pointwise [k2_pay5]
  rw [zero_sub]
end

end Cert.KernelIdeal.Scores
end
-- ==== Proof.Top.lean ====
/-
  The three results of the kernel are the three results of the reference.
-/
module

public import proofs.«01_k».proof.Defs
public import proofs.«01_k».proof.Proof.Math.PreFacts
public import proofs.«01_k».proof.Proof.Math.RefTop
public import proofs.«01_k».proof.Proof.Math.KerTop
public import Idealize.ShloMosaic.Lib.Claim

@[expose] public section

set_option maxRecDepth 16384

noncomputable section

namespace Cert.Proof.Top

open Idealize.ShloMosaic Idealize.SL.Sem Cert.KernelIdeal.Values Cert.ReferenceIdeal.Result

/-- Of arguments that satisfy the precondition, the kernel's three results are the reference's. -/
theorem same (a0 : FVec Ideal Cert.KernelIdeal.S1024x1x4096 .f32) (a1 : IVec Cert.KernelIdeal.S1024 32) (a2 : FVec Ideal Cert.KernelIdeal.S256x4096 .f32) (a3 : FVec Ideal Cert.KernelIdeal.S4096 .f32)
    (a4 : FVec Ideal Cert.KernelIdeal.S768x256 .f32) (a5 : FVec Ideal Cert.KernelIdeal.S768x2049 .f32) (a6 : FVec Ideal Cert.KernelIdeal.S768x4096 .f32)
    (a7 : FVec Ideal Cert.KernelIdeal.S64x3x768 .f32) (a8 : FVec Ideal Cert.KernelIdeal.S64x1x4096 .f32) (a9 : FVec Ideal Cert.KernelIdeal.S1024x3x64 .f32)
    (h : Cert.Pre_scores_finite_untied.fn (F := Ideal) a0 a1 a2 a3 a4 a5 a6 a7 a8 a9 = fun _ => 1#1) :
    (kOut (F := Ideal) a0 a8 : FVec Ideal Cert.KernelIdeal.S1024x1x4096 .f32) = r_v120 (F := Ideal) a0 a2 a3 a4 a5 a6 a7 a8 a9
    ∧ (kSim (F := Ideal) a0 a2 a3 a4 a5 a6 a7 a9 : FVec Ideal Cert.KernelIdeal.S_ .f32) = r_v124 (F := Ideal) a0 a2 a3 a4 a5 a6 a7 a9
    ∧ (kEnt (F := Ideal) a0 a2 a3 a4 a5 a6 a7 a9 : FVec Ideal Cert.KernelIdeal.S_ .f32) = r_v133 (F := Ideal) a0 a2 a3 a4 a5 a6 a7 a9 := by
  obtain ⟨D, G, s, hD, hG, hs⟩ := Cert.Pre.facts_of a0 a1 a2 a3 a4 a5 a6 a7 a8 a9 h
  refine ⟨?_, ?_, ?_⟩
  · funext j
    rw [eq_ix3 j]
    exact (Cert.KernelIdeal.Scores.out_at a0 a8 _ _ _).trans (Cert.ReferenceIdeal.Scores.out_at (a8 := a8) hD hG hs _ _ _).symm
  · funext j
    exact (Cert.KernelIdeal.Scores.sim_at hD hG hs j).trans (Cert.ReferenceIdeal.Scores.sim_at hD hG hs j).symm
  · funext j
    exact (Cert.KernelIdeal.Scores.ent_at hD hG hs j).trans (Cert.ReferenceIdeal.Scores.ent_at hD hG hs j).symm

/-- The kernel and the reference, read over the extended reals from the same arguments, end with the same three results. -/
theorem algebraic : Cert.algebraic_KernelIdeal_ReferenceIdeal_pre_scores_finite_untied := fun m g m' g' hpre hag =>
  ⟨fun c => kOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg8)),
    fun c => kSim (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)),
    fun c => kEnt (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)),
    θ_run_mono (Cert.KernelIdeal.Values.run_values m g) fun _ h => h,
    θ_run_mono (Cert.ReferenceIdeal.Result.run m' g') fun r h c => by
      obtain ⟨e0, e1, e2, e3, e4, e5, e6, e7, e8, e9⟩ := hag c
      obtain ⟨x, y, z⟩ := same _ _ _ _ _ _ _ _ _ _ (hpre c)
      obtain ⟨u, v, w⟩ := h.2 c
      rw [e0, e2, e3, e4, e5, e6, e7, e8, e9] at u
      rw [e0, e2, e3, e4, e5, e6, e7, e9] at v w
      exact ⟨u.trans x.symm, v.trans y.symm, w.trans z.symm, h.1.1 c⟩⟩

end Cert.Proof.Top

end
-- ==== Proof.lean ====
/-
  The certificate: the frames of the kernel, of its reading over the extended reals and of the reference, the ledger of
  named constants, and the equality of the kernel's three results with the reference's over the extended reals.
-/
module

public import proofs.«01_k».proof.Defs
public import proofs.«01_k».proof.Proof.Frames
public import proofs.«01_k».proof.Proof.Top

@[expose] public section

noncomputable section

namespace Cert.Proof

/-- Everything the certificate claims. -/
theorem claim : Cert.Claim := ⟨Cert.Kernel.Gen.facts, Cert.KernelIdeal.Gen.facts, Cert.ReferenceIdeal.Gen.facts, Cert.Pre_scores_finite_untied.Gen.facts,
  Frames.frame_p, Frames.frame_pi, Frames.frame_pi_pre, Frames.frame_ri, Frames.frame_ri_pre, Frames.preserves, Top.algebraic⟩

end Cert.Proof

end
